-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4x3x224x224 : Shape := ⟨4, ![4, 3, 224, 224]⟩
abbrev S4 : Shape := ⟨1, ![4]⟩
abbrev S768x768 : Shape := ⟨2, ![768, 768]⟩
abbrev S768x1024 : Shape := ⟨2, ![768, 1024]⟩
abbrev S32002x1024 : Shape := ⟨2, ![32002, 1024]⟩
abbrev S1024x3072 : Shape := ⟨2, ![1024, 3072]⟩
abbrev S1024x1024 : Shape := ⟨2, ![1024, 1024]⟩
abbrev S1024x4096 : Shape := ⟨2, ![1024, 4096]⟩
abbrev S4096x1024 : Shape := ⟨2, ![4096, 1024]⟩
abbrev S1024x32000 : Shape := ⟨2, ![1024, 32000]⟩
abbrev S3 : Shape := ⟨1, ![3]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S32002x1024 : S_.BroadcastsInDim S32002x1024 (![] : Fin 0 → Fin S32002x1024.rank)
  reducesTo_S32002x1024_S_d0_1 : S32002x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024x32000 : S_.BroadcastsInDim S1024x32000 (![] : Fin 0 → Fin S1024x32000.rank)
  reducesTo_S1024x32000_S_d0_1 : S1024x32000.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg10 : IVec S3 32) (main_v30 : IVec S_ 1) (main_v33 : IVec S1024x32000 1) : IVec S_ 1 :=
  let main_c_12 : IVec S_ 1 := constantI S_ 1 1#1
  let main_v34 : IVec S_ 1 := (fun x v => Host.reduce IntOp.andi x v reducesTo_S1024x32000_S_d0_1 h_S_) main_v33 main_c_12
  let main_v35 : IVec S_ 1 := andi main_v30 main_v34
  let main_c_13 : IVec S_ 32 := constantI S_ 32 0#32
  let main_v36 : IVec S3 32 := broadcastInDim S3 ![] bcast_S_S3 main_c_13
  let main_v37 : IVec S3 1 := cmpi .sge main_arg10 main_v36
  let main_c_14 : IVec S_ 32 := constantI S_ 32 32000#32
  let main_v38 : IVec S3 32 := broadcastInDim S3 ![] bcast_S_S3 main_c_14
  let main_v39 : IVec S3 1 := cmpi .slt main_arg10 main_v38
  let main_v40 : IVec S3 1 := andi main_v37 main_v39
  let main_c_15 : IVec S_ 1 := constantI S_ 1 1#1
  let main_v41 : IVec S_ 1 := (fun x v => Host.reduce IntOp.andi x v reducesTo_S3_S_d0 h_S_) main_v40 main_c_15
  let main_v42 : IVec S_ 1 := andi main_v35 main_v41
  main_v42

def fn_part1 {F : FTy → Type} [FloatOps F] (main_arg7 : FVec F S1024x4096 .f32) (main_arg8 : FVec F S4096x1024 .f32) (main_arg9 : FVec F S1024x32000 .f32) (main_arg10 : IVec S3 32) (main_v15 : IVec S_ 1) (main_v16 : FVec F S1024x1024 .f32) : IVec S_ 1 :=
  let main_cst_5 : FVec F S_ .f32 := constant S_ .f32 0x7F800000#32
  let main_v17 : FVec F S1024x1024 .f32 := broadcastInDim S1024x1024 ![] bcast_S_S1024x1024 main_cst_5
  let main_v18 : IVec S1024x1024 1 := cmpf .olt main_v16 main_v17
  let main_c_6 : IVec S_ 1 := constantI S_ 1 1#1
  let main_v19 : IVec S_ 1 := (fun x v => Host.reduce IntOp.andi x v reducesTo_S1024x1024_S_d0_1 h_S_) main_v18 main_c_6
  let main_v20 : IVec S_ 1 := andi main_v15 main_v19
  let main_v21 : FVec F S1024x4096 .f32 := Host.absf main_arg7
  let main_cst_7 : FVec F S_ .f32 := constant S_ .f32 0x7F800000#32
  let main_v22 : FVec F S1024x4096 .f32 := broadcastInDim S1024x4096 ![] bcast_S_S1024x4096 main_cst_7
  let main_v23 : IVec S1024x4096 1 := cmpf .olt main_v21 main_v22
  let main_c_8 : IVec S_ 1 := constantI S_ 1 1#1
  let main_v24 : IVec S_ 1 := (fun x v => Host.reduce IntOp.andi x v reducesTo_S1024x4096_S_d0_1 h_S_) main_v23 main_c_8
  let main_v25 : IVec S_ 1 := andi main_v20 main_v24
  let main_v26 : FVec F S4096x1024 .f32 := Host.absf main_arg8
  let main_cst_9 : FVec F S_ .f32 := constant S_ .f32 0x7F800000#32
  let main_v27 : FVec F S4096x1024 .f32 := broadcastInDim S4096x1024 ![] bcast_S_S4096x1024 main_cst_9
  let main_v28 : IVec S4096x1024 1 := cmpf .olt main_v26 main_v27
  let main_c_10 : IVec S_ 1 := constantI S_ 1 1#1
  let main_v29 : IVec S_ 1 := (fun x v => Host.reduce IntOp.andi x v reducesTo_S4096x1024_S_d0_1 h_S_) main_v28 main_c_10
  let main_v30 : IVec S_ 1 := andi main_v25 main_v29
  let main_v31 : FVec F S1024x32000 .f32 := Host.absf main_arg9
  let main_cst_11 : FVec F S_ .f32 := constant S_ .f32 0x7F800000#32
  let main_v32 : FVec F S1024x32000 .f32 := broadcastInDim S1024x32000 ![] bcast_S_S1024x32000 main_cst_11
  let main_v33 : IVec S1024x32000 1 := cmpf .olt main_v31 main_v32
  fn_part2 (F := F) main_arg10 main_v30 main_v33

def fn {F : FTy → Type} [FloatOps F] (main_arg0 : FVec F S4x3x224x224 .f32) (main_arg1 : IVec S4 32) (main_arg2 : FVec F S768x768 .f32) (main_arg3 : FVec F S768x1024 .f32) (main_arg4 : FVec F S32002x1024 .f32) (main_arg5 : FVec F S1024x3072 .f32) (main_arg6 : FVec F S1024x1024 .f32) (main_arg7 : FVec F S1024x4096 .f32) (main_arg8 : FVec F S4096x1024 .f32) (main_arg9 : FVec F S1024x32000 .f32) (main_arg10 : IVec S3 32) : IVec S_ 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 32000#32
  let main_v2 : IVec S4 32 := broadcastInDim S4 ![] bcast_S_S4 main_c_0
  let main_v3 : IVec S4 1 := cmpi .slt main_arg1 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  let main_v6 : FVec F S32002x1024 .f32 := Host.absf main_arg4
  let main_cst : FVec F S_ .f32 := constant S_ .f32 0x7F800000#32
  let main_v7 : FVec F S32002x1024 .f32 := broadcastInDim S32002x1024 ![] bcast_S_S32002x1024 main_cst
  let main_v8 : IVec S32002x1024 1 := cmpf .olt main_v6 main_v7
  let main_c_2 : IVec S_ 1 := constantI S_ 1 1#1
  let main_v9 : IVec S_ 1 := (fun x v => Host.reduce IntOp.andi x v reducesTo_S32002x1024_S_d0_1 h_S_) main_v8 main_c_2
  let main_v10 : IVec S_ 1 := andi main_v5 main_v9
  let main_v11 : FVec F S1024x3072 .f32 := Host.absf main_arg5
  let main_cst_3 : FVec F S_ .f32 := constant S_ .f32 0x7F800000#32
  let main_v12 : FVec F S1024x3072 .f32 := broadcastInDim S1024x3072 ![] bcast_S_S1024x3072 main_cst_3
  let main_v13 : IVec S1024x3072 1 := cmpf .olt main_v11 main_v12
  let main_c_4 : IVec S_ 1 := constantI S_ 1 1#1
  let main_v14 : IVec S_ 1 := (fun x v => Host.reduce IntOp.andi x v reducesTo_S1024x3072_S_d0_1 h_S_) main_v13 main_c_4
  let main_v15 : IVec S_ 1 := andi main_v10 main_v14
  let main_v16 : FVec F S1024x1024 .f32 := Host.absf main_arg6
  fn_part1 (F := F) main_arg7 main_arg8 main_arg9 main_arg10 main_v15 main_v16
-- ==== Kernel.lean ====
abbrev S4x3x224x224 : Shape := ⟨4, ![4, 3, 224, 224]⟩
abbrev S4 : Shape := ⟨1, ![4]⟩
abbrev S768x768 : Shape := ⟨2, ![768, 768]⟩
abbrev S768x1024 : Shape := ⟨2, ![768, 1024]⟩
abbrev S32002x1024 : Shape := ⟨2, ![32002, 1024]⟩
abbrev S1024x3072 : Shape := ⟨2, ![1024, 3072]⟩
abbrev S1024x1024 : Shape := ⟨2, ![1024, 1024]⟩
abbrev S1024x4096 : Shape := ⟨2, ![1024, 4096]⟩
abbrev S4096x1024 : Shape := ⟨2, ![4096, 1024]⟩
abbrev S1024x32000 : Shape := ⟨2, ![1024, 32000]⟩
abbrev S3 : Shape := ⟨1, ![3]⟩
abbrev S2 : Shape := ⟨1, ![2]⟩
abbrev S4x3x14x16x14x16 : Shape := ⟨6, ![4, 3, 14, 16, 14, 16]⟩
abbrev S4x14x14x3x16x16 : Shape := ⟨6, ![4, 14, 14, 3, 16, 16]⟩
abbrev S4x196x768 : Shape := ⟨3, ![4, 196, 768]⟩
abbrev S_ : Shape := ⟨0, ![]⟩
abbrev S8 : Shape := ⟨1, ![8]⟩
abbrev S8x1 : Shape := ⟨2, ![8, 1]⟩
abbrev S1 : Shape := ⟨1, ![1]⟩
abbrev S1x1 : Shape := ⟨2, ![1, 1]⟩
abbrev S8x1024 : Shape := ⟨2, ![8, 1024]⟩
abbrev S832x1024 : Shape := ⟨2, ![832, 1024]⟩
abbrev S1x196x768 : Shape := ⟨3, ![1, 196, 768]⟩
abbrev S208x1024 : Shape := ⟨2, ![208, 1024]⟩
abbrev S196x768 : Shape := ⟨2, ![196, 768]⟩
abbrev S196x256 : Shape := ⟨2, ![196, 256]⟩
abbrev S1x196x256 : Shape := ⟨3, ![1, 196, 256]⟩
abbrev S1x1x1 : Shape := ⟨3, ![1, 1, 1]⟩
abbrev S256x768 : Shape := ⟨2, ![256, 768]⟩
abbrev S196x1024 : Shape := ⟨2, ![196, 1024]⟩
abbrev S1x1024 : Shape := ⟨2, ![1, 1024]⟩
abbrev S3x1024 : Shape := ⟨2, ![3, 1024]⟩
abbrev S7x1024 : Shape := ⟨2, ![7, 1024]⟩
abbrev S208 : Shape := ⟨1, ![208]⟩
abbrev S208x1 : Shape := ⟨2, ![208, 1]⟩
abbrev S208x3072 : Shape := ⟨2, ![208, 3072]⟩
abbrev S208x208 : Shape := ⟨2, ![208, 208]⟩
abbrev S208x64 : Shape := ⟨2, ![208, 64]⟩
abbrev S208x4096 : Shape := ⟨2, ![208, 4096]⟩
abbrev S4x201x32000 : Shape := ⟨3, ![4, 201, 32000]⟩
abbrev S1024x3200 : Shape := ⟨2, ![1024, 3200]⟩
abbrev S4x201x3200 : Shape := ⟨3, ![4, 201, 3200]⟩
abbrev S832x3200 : Shape := ⟨2, ![832, 3200]⟩
abbrev S1x3200 : Shape := ⟨2, ![1, 3200]⟩
abbrev S3200 : Shape := ⟨1, ![3200]⟩
abbrev S201x3200 : Shape := ⟨2, ![201, 3200]⟩
abbrev S1x201x3200 : Shape := ⟨3, ![1, 201, 3200]⟩

abbrev nBuf : Space → Nat
  | .hbm => 46
  | .vmem => 16
  | .smem => 5
  | _ => 0

abbrev bufTy : (tb : Table) → Fin (tcTables nBuf tb) → BufTy
  | .hbm, ⟨0, _⟩ => ⟨S4x3x224x224, .f32⟩
  | .hbm, ⟨1, _⟩ => ⟨S4, .i32⟩
  | .hbm, ⟨2, _⟩ => ⟨S768x768, .f32⟩
  | .hbm, ⟨3, _⟩ => ⟨S768x1024, .f32⟩
  | .hbm, ⟨4, _⟩ => ⟨S32002x1024, .f32⟩
  | .hbm, ⟨5, _⟩ => ⟨S1024x3072, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024x32000, .f32⟩
  | .hbm, ⟨10, _⟩ => ⟨S3, .i32⟩
  | .hbm, ⟨11, _⟩ => ⟨S2, .i32⟩
  | .hbm, ⟨12, _⟩ => ⟨S4x3x14x16x14x16, .f32⟩
  | .hbm, ⟨13, _⟩ => ⟨S4x14x14x3x16x16, .f32⟩
  | .hbm, ⟨14, _⟩ => ⟨S4x196x768, .f32⟩
  | .hbm, ⟨15, _⟩ => ⟨S4x196x768, .bf16⟩
  | .hbm, ⟨16, _⟩ => ⟨S_, .i32⟩
  | .hbm, ⟨17, _⟩ => ⟨S3, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S1, .i32⟩
  | .hbm, ⟨28, _⟩ => ⟨S_, .i32⟩
  | .hbm, ⟨29, _⟩ => ⟨S8x1, .i32⟩
  | .hbm, ⟨30, _⟩ => ⟨S8x1, .i1⟩
  | .hbm, ⟨31, _⟩ => ⟨S1x1, .i32⟩
  | .hbm, ⟨32, _⟩ => ⟨S8x1, .i32⟩
  | .hbm, ⟨33, _⟩ => ⟨S8x1, .i1⟩
  | .hbm, ⟨34, _⟩ => ⟨S8x1, .i1⟩
  | .hbm, ⟨35, _⟩ => ⟨S_, .i1⟩
  | .hbm, ⟨36, _⟩ => ⟨S8, .i1⟩
  | .hbm, ⟨37, _⟩ => ⟨S8x1024, .f32⟩
  | .hbm, ⟨38, _⟩ => ⟨S8x1024, .i1⟩
  | .hbm, ⟨39, _⟩ => ⟨S_, .f32⟩
  | .hbm, ⟨40, _⟩ => ⟨S8x1024, .f32⟩
  | .hbm, ⟨41, _⟩ => ⟨S8x1024, .f32⟩
  | .hbm, ⟨42, _⟩ => ⟨S832x1024, .bf16⟩
  | .hbm, ⟨43, _⟩ => ⟨S4x201x32000, .f32⟩
  | .hbm, ⟨44, _⟩ => ⟨S1x1, .f32⟩
  | .hbm, ⟨45, _⟩ => ⟨S_, .f32⟩
  | .local _ .vmem, ⟨0, _⟩ => ⟨S1x196x768, .bf16⟩
  | .local _ .vmem, ⟨1, _⟩ => ⟨S1x196x768, .bf16⟩
  | .local _ .vmem, ⟨2, _⟩ => ⟨S8x1024, .f32⟩
  | .local _ .vmem, ⟨3, _⟩ => ⟨S768x768, .f32⟩
  | .local _ .vmem, ⟨4, _⟩ => ⟨S768x1024, .f32⟩
  | .local _ .vmem, ⟨5, _⟩ => ⟨S1024x3072, .f32⟩
  | .local _ .vmem, ⟨6, _⟩ => ⟨S1024x1024, .f32⟩
  | .local _ .vmem, ⟨7, _⟩ => ⟨S1024x4096, .f32⟩
  | .local _ .vmem, ⟨8, _⟩ => ⟨S4096x1024, .f32⟩
  | .local _ .vmem, ⟨9, _⟩ => ⟨S208x1024, .bf16⟩
  | .local _ .vmem, ⟨10, _⟩ => ⟨S208x1024, .bf16⟩
  | .local _ .vmem, ⟨11, _⟩ => ⟨S832x1024, .bf16⟩
  | .local _ .vmem, ⟨12, _⟩ => ⟨S1024x3200, .f32⟩
  | .local _ .vmem, ⟨13, _⟩ => ⟨S1024x3200, .f32⟩
  | .local _ .vmem, ⟨14, _⟩ => ⟨S4x201x3200, .f32⟩
  | .local _ .vmem, ⟨15, _⟩ => ⟨S4x201x3200, .f32⟩
  | .local _ .smem, ⟨0, _⟩ => ⟨S4, .i32⟩
  | .local _ .smem, ⟨1, _⟩ => ⟨S1x1, .f32⟩
  | .local _ .smem, ⟨2, _⟩ => ⟨S4, .f32⟩
  | .local _ .smem, ⟨3, _⟩ => ⟨S4, .f32⟩
  | .local _ .smem, ⟨4, _⟩ => ⟨S4, .f32⟩
  | _, _ => ⟨S4x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v6 : Ref sig .tc := ⟨.hbm, 41, rfl⟩
abbrev main_v7 : Ref sig .tc := ⟨.hbm, 42, rfl⟩
abbrev main_v8_0 : Ref sig .tc := ⟨.hbm, 43, rfl⟩
abbrev main_v8_1 : Ref sig .tc := ⟨.hbm, 44, rfl⟩
abbrev main_v9 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg0_0 : Ref sig .tc := ⟨.smem, 0, rfl⟩
abbrev cc1_stg4_0 : Ref sig .tc := ⟨.smem, 1, rfl⟩
abbrev cc1_scratch0 : Ref sig .tc := ⟨.smem, 2, rfl⟩
abbrev cc1_scratch1 : Ref sig .tc := ⟨.smem, 3, rfl⟩
abbrev cc1_scratch2 : Ref sig .tc := ⟨.smem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x196x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S208x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def k1_cond9 (i : grid1.Coords) : BitVec 1 :=
  let arg0 : BitVec 32 := BitVec.ofNat 32 (i 0).val
  let c9_i32 : BitVec 32 := 9#32
  let v131 : BitVec 1 := Scalar.cmpi .eq arg0 c9_i32
  let v132 : BitVec 32 := Scalar.extui v131
  let c0_i32_58 : BitVec 32 := 0#32
  let v133 : BitVec 1 := Scalar.cmpi .ne v132 c0_i32_58
  v133

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S4 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S832x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x201x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== KernelIdeal.lean ====
variable {F : FTy → Type} [FloatOps F] [Named F]
def κ : String → Option EReal := fun
  | "mask" => some ⊥
  | _ => none
-- ==== ReferenceIdeal.lean ====
abbrev S4x3x224x224 : Shape := ⟨4, ![4, 3, 224, 224]⟩
abbrev S4 : Shape := ⟨1, ![4]⟩
abbrev S768x768 : Shape := ⟨2, ![768, 768]⟩
abbrev S768x1024 : Shape := ⟨2, ![768, 1024]⟩
abbrev S32002x1024 : Shape := ⟨2, ![32002, 1024]⟩
abbrev S1024x3072 : Shape := ⟨2, ![1024, 3072]⟩
abbrev S1024x1024 : Shape := ⟨2, ![1024, 1024]⟩
abbrev S1024x4096 : Shape := ⟨2, ![1024, 4096]⟩
abbrev S4096x1024 : Shape := ⟨2, ![4096, 1024]⟩
abbrev S1024x32000 : Shape := ⟨2, ![1024, 32000]⟩
abbrev S3 : Shape := ⟨1, ![3]⟩
abbrev S_ : Shape := ⟨0, ![]⟩
abbrev S4x3 : Shape := ⟨2, ![4, 3]⟩
abbrev S4x3x1x1 : Shape := ⟨4, ![4, 3, 1, 1]⟩
abbrev S4x3x14x16x14x16 : Shape := ⟨6, ![4, 3, 14, 16, 14, 16]⟩
abbrev S4x14x14x3x16x16 : Shape := ⟨6, ![4, 14, 14, 3, 16, 16]⟩
abbrev S4x196x768 : Shape := ⟨3, ![4, 196, 768]⟩
abbrev S4x196x1024 : Shape := ⟨3, ![4, 196, 1024]⟩
abbrev S1x1024 : Shape := ⟨2, ![1, 1024]⟩
abbrev S1024 : Shape := ⟨1, ![1024]⟩
abbrev S1x1x1024 : Shape := ⟨3, ![1, 1, 1024]⟩
abbrev S4x1x1024 : Shape := ⟨3, ![4, 1, 1024]⟩
abbrev S3x1 : Shape := ⟨2, ![3, 1]⟩
abbrev S1 : Shape := ⟨1, ![1]⟩
abbrev S1x1 : Shape := ⟨2, ![1, 1]⟩
abbrev S3x1024 : Shape := ⟨2, ![3, 1024]⟩
abbrev S1x3x1024 : Shape := ⟨3, ![1, 3, 1024]⟩
abbrev S4x3x1024 : Shape := ⟨3, ![4, 3, 1024]⟩
abbrev S4x201x1024 : Shape := ⟨3, ![4, 201, 1024]⟩
abbrev S4x201 : Shape := ⟨2, ![4, 201]⟩
abbrev S4x201x1 : Shape := ⟨3, ![4, 201, 1]⟩
abbrev S4x201x3072 : Shape := ⟨3, ![4, 201, 3072]⟩
abbrev S4x201x16x64 : Shape := ⟨4, ![4, 201, 16, 64]⟩
abbrev S4x16x201x64 : Shape := ⟨4, ![4, 16, 201, 64]⟩
abbrev S4x16x64x201 : Shape := ⟨4, ![4, 16, 64, 201]⟩
abbrev S4x16x201x201 : Shape := ⟨4, ![4, 16, 201, 201]⟩
abbrev S201x201 : Shape := ⟨2, ![201, 201]⟩
abbrev S1x1x201x201 : Shape := ⟨4, ![1, 1, 201, 201]⟩
abbrev S4x16x201 : Shape := ⟨3, ![4, 16, 201]⟩
abbrev S4x16x201x1 : Shape := ⟨4, ![4, 16, 201, 1]⟩
abbrev S4x201x4096 : Shape := ⟨3, ![4, 201, 4096]⟩
abbrev S4x201x32000 : Shape := ⟨3, ![4, 201, 32000]⟩
abbrev S4x1x32000 : Shape := ⟨3, ![4, 1, 32000]⟩
abbrev S4x32000 : Shape := ⟨2, ![4, 32000]⟩
abbrev S4x1 : Shape := ⟨2, ![4, 1]⟩
abbrev S4x1x1 : Shape := ⟨3, ![4, 1, 1]⟩
abbrev S1x1x1 : Shape := ⟨3, ![1, 1, 1]⟩

abbrev nBuf : Space → Nat
  | .hbm => 281
  | .vmem => 0
  | .smem => 0
  | _ => 0

abbrev hbmTy0_0 (i : Nat) : BufTy := match i % 128 with
  | 0 => ⟨S4x3x224x224, .f32⟩
  | 1 => ⟨S4, .i32⟩
  | 2 => ⟨S768x768, .f32⟩
  | 3 => ⟨S768x1024, .f32⟩
  | 4 => ⟨S32002x1024, .f32⟩
  | 5 => ⟨S1024x3072, .f32⟩
  | 6 => ⟨S1024x1024, .f32⟩
  | 7 => ⟨S1024x4096, .f32⟩
  | 8 => ⟨S4096x1024, .f32⟩
  | 9 => ⟨S1024x32000, .f32⟩
  | 10 => ⟨S3, .i32⟩
  | 11 => ⟨S_, .f32⟩
  | 12 => ⟨S4x3, .f32⟩
  | 13 => ⟨S4x3x1x1, .f32⟩
  | 14 => ⟨S_, .f32⟩
  | 15 => ⟨S4x3x1x1, .f32⟩
  | 16 => ⟨S4x3x1x1, .f32⟩
  | 17 => ⟨S4x3x224x224, .f32⟩
  | 18 => ⟨S4x3x224x224, .f32⟩
  | 19 => ⟨S_, .i32⟩
  | 20 => ⟨S_, .f32⟩
  | 21 => ⟨S4x3, .f32⟩
  | 22 => ⟨S4x3x1x1, .f32⟩
  | 23 => ⟨S_, .f32⟩
  | 24 => ⟨S4x3x1x1, .f32⟩
  | 25 => ⟨S4x3x1x1, .f32⟩
  | 26 => ⟨S4x3x224x224, .f32⟩
  | 27 => ⟨S4x3x224x224, .f32⟩
  | 28 => ⟨S4x3x224x224, .f32⟩
  | 29 => ⟨S_, .f32⟩
  | 30 => ⟨S_, .f32⟩
  | 31 => ⟨S_, .f32⟩
  | 32 => ⟨S_, .f32⟩
  | 33 => ⟨S4x3, .f32⟩
  | 34 => ⟨S4x3x1x1, .f32⟩
  | 35 => ⟨S4x3x1x1, .f32⟩
  | 36 => ⟨S4x3x1x1, .f32⟩
  | 37 => ⟨S_, .f32⟩
  | 38 => ⟨S_, .i1⟩
  | 39 => ⟨S_, .f32⟩
  | 40 => ⟨S_, .f32⟩
  | 41 => ⟨S4x3x1x1, .f32⟩
  | 42 => ⟨S4x3x1x1, .f32⟩
  | 43 => ⟨S4x3x1x1, .f32⟩
  | 44 => ⟨S_, .f32⟩
  | 45 => ⟨S4x3x1x1, .f32⟩
  | 46 => ⟨S4x3x1x1, .f32⟩
  | 47 => ⟨S4x3x224x224, .f32⟩
  | 48 => ⟨S4x3x224x224, .f32⟩
  | 49 => ⟨S4x3x14x16x14x16, .f32⟩
  | 50 => ⟨S4x14x14x3x16x16, .f32⟩
  | 51 => ⟨S4x196x768, .f32⟩
  | 52 => ⟨S4x196x768, .f32⟩
  | 53 => ⟨S4x196x1024, .f32⟩
  | 54 => ⟨S1x1024, .f32⟩
  | 55 => ⟨S1024, .f32⟩
  | 56 => ⟨S1x1x1024, .f32⟩
  | 57 => ⟨S4x1x1024, .f32⟩
  | 58 => ⟨S1x1024, .f32⟩
  | 59 => ⟨S1024, .f32⟩
  | 60 => ⟨S1x1x1024, .f32⟩
  | 61 => ⟨S4x1x1024, .f32⟩
  | 62 => ⟨S_, .i32⟩
  | 63 => ⟨S3, .i32⟩
  | 64 => ⟨S3, .i1⟩
  | 65 => ⟨S_, .i32⟩
  | 66 => ⟨S3, .i32⟩
  | 67 => ⟨S3, .i32⟩
  | 68 => ⟨S3, .i32⟩
  | 69 => ⟨S3x1, .i32⟩
  | 70 => ⟨S1, .i32⟩
  | 71 => ⟨S_, .i32⟩
  | 72 => ⟨S3x1, .i32⟩
  | 73 => ⟨S3x1, .i1⟩
  | 74 => ⟨S1x1, .i32⟩
  | 75 => ⟨S3x1, .i32⟩
  | 76 => ⟨S3x1, .i1⟩
  | 77 => ⟨S3x1, .i1⟩
  | 78 => ⟨S_, .i1⟩
  | 79 => ⟨S3, .i1⟩
  | 80 => ⟨S3x1024, .f32⟩
  | 81 => ⟨S3x1024, .i1⟩
  | 82 => ⟨S_, .f32⟩
  | 83 => ⟨S3x1024, .f32⟩
  | 84 => ⟨S3x1024, .f32⟩
  | 85 => ⟨S1x3x1024, .f32⟩
  | 86 => ⟨S4x3x1024, .f32⟩
  | 87 => ⟨S4x201x1024, .f32⟩
  | 88 => ⟨S_, .f32⟩
  | 89 => ⟨S4x201, .f32⟩
  | 90 => ⟨S4x201x1, .f32⟩
  | 91 => ⟨S_, .f32⟩
  | 92 => ⟨S4x201x1, .f32⟩
  | 93 => ⟨S4x201x1, .f32⟩
  | 94 => ⟨S_, .i32⟩
  | 95 => ⟨S_, .f32⟩
  | 96 => ⟨S4x201, .f32⟩
  | 97 => ⟨S4x201x1, .f32⟩
  | 98 => ⟨S_, .f32⟩
  | 99 => ⟨S4x201x1, .f32⟩
  | 100 => ⟨S4x201x1, .f32⟩
  | 101 => ⟨S4x201x1024, .f32⟩
  | 102 => ⟨S4x201x1024, .f32⟩
  | 103 => ⟨S4x201x1024, .f32⟩
  | 104 => ⟨S_, .f32⟩
  | 105 => ⟨S_, .f32⟩
  | 106 => ⟨S_, .f32⟩
  | 107 => ⟨S_, .f32⟩
  | 108 => ⟨S4x201, .f32⟩
  | 109 => ⟨S4x201x1, .f32⟩
  | 110 => ⟨S4x201x1, .f32⟩
  | 111 => ⟨S4x201x1, .f32⟩
  | 112 => ⟨S_, .f32⟩
  | 113 => ⟨S_, .i1⟩
  | 114 => ⟨S_, .f32⟩
  | 115 => ⟨S_, .f32⟩
  | 116 => ⟨S4x201x1, .f32⟩
  | 117 => ⟨S4x201x1, .f32⟩
  | 118 => ⟨S4x201x1024, .f32⟩
  | 119 => ⟨S4x201x1024, .f32⟩
  | 120 => ⟨S_, .f32⟩
  | 121 => ⟨S4x201x1, .f32⟩
  | 122 => ⟨S4x201x1, .f32⟩
  | 123 => ⟨S4x201x1, .f32⟩
  | 124 => ⟨S4x201x1024, .f32⟩
  | 125 => ⟨S4x201x1024, .f32⟩
  | 126 => ⟨S4x201x3072, .f32⟩
  | 127 => ⟨S4x201x1024, .f32⟩
  | _ => ⟨S4x3x224x224, .f32⟩

abbrev hbmTy0_1 (i : Nat) : BufTy := match i % 128 with
  | 0 => ⟨S4x201x1024, .f32⟩
  | 1 => ⟨S4x201x1024, .f32⟩
  | 2 => ⟨S4x201x16x64, .f32⟩
  | 3 => ⟨S4x16x201x64, .f32⟩
  | 4 => ⟨S4x201x16x64, .f32⟩
  | 5 => ⟨S4x16x201x64, .f32⟩
  | 6 => ⟨S4x201x16x64, .f32⟩
  | 7 => ⟨S4x16x201x64, .f32⟩
  | 8 => ⟨S4x16x64x201, .f32⟩
  | 9 => ⟨S4x16x201x201, .f32⟩
  | 10 => ⟨S_, .f32⟩
  | 11 => ⟨S4x16x201x201, .f32⟩
  | 12 => ⟨S4x16x201x201, .f32⟩
  | 13 => ⟨S_, .i1⟩
  | 14 => ⟨S201x201, .i1⟩
  | 15 => ⟨S201x201, .i32⟩
  | 16 => ⟨S_, .i32⟩
  | 17 => ⟨S201x201, .i32⟩
  | 18 => ⟨S201x201, .i32⟩
  | 19 => ⟨S201x201, .i32⟩
  | 20 => ⟨S201x201, .i1⟩
  | 21 => ⟨S_, .i1⟩
  | 22 => ⟨S201x201, .i1⟩
  | 23 => ⟨S201x201, .i1⟩
  | 24 => ⟨S1x1x201x201, .i1⟩
  | 25 => ⟨S_, .f32⟩
  | 26 => ⟨S_, .f32⟩
  | 27 => ⟨S4x16x201x201, .i1⟩
  | 28 => ⟨S4x16x201x201, .f32⟩
  | 29 => ⟨S4x16x201x201, .f32⟩
  | 30 => ⟨S_, .f32⟩
  | 31 => ⟨S4x16x201, .f32⟩
  | 32 => ⟨S_, .f32⟩
  | 33 => ⟨S4x16x201, .f32⟩
  | 34 => ⟨S4x16x201, .f32⟩
  | 35 => ⟨S4x16x201x1, .f32⟩
  | 36 => ⟨S4x16x201x201, .f32⟩
  | 37 => ⟨S4x16x201x201, .f32⟩
  | 38 => ⟨S4x16x201x201, .f32⟩
  | 39 => ⟨S_, .f32⟩
  | 40 => ⟨S4x16x201, .f32⟩
  | 41 => ⟨S4x16x201x1, .f32⟩
  | 42 => ⟨S4x16x201x201, .f32⟩
  | 43 => ⟨S4x16x201x201, .f32⟩
  | 44 => ⟨S4x16x201x64, .f32⟩
  | 45 => ⟨S4x201x16x64, .f32⟩
  | 46 => ⟨S4x201x1024, .f32⟩
  | 47 => ⟨S4x201x1024, .f32⟩
  | 48 => ⟨S4x201x1024, .f32⟩
  | 49 => ⟨S_, .f32⟩
  | 50 => ⟨S4x201, .f32⟩
  | 51 => ⟨S4x201x1, .f32⟩
  | 52 => ⟨S_, .f32⟩
  | 53 => ⟨S4x201x1, .f32⟩
  | 54 => ⟨S4x201x1, .f32⟩
  | 55 => ⟨S_, .i32⟩
  | 56 => ⟨S_, .f32⟩
  | 57 => ⟨S4x201, .f32⟩
  | 58 => ⟨S4x201x1, .f32⟩
  | 59 => ⟨S_, .f32⟩
  | 60 => ⟨S4x201x1, .f32⟩
  | 61 => ⟨S4x201x1, .f32⟩
  | 62 => ⟨S4x201x1024, .f32⟩
  | 63 => ⟨S4x201x1024, .f32⟩
  | 64 => ⟨S4x201x1024, .f32⟩
  | 65 => ⟨S_, .f32⟩
  | 66 => ⟨S_, .f32⟩
  | 67 => ⟨S_, .f32⟩
  | 68 => ⟨S_, .f32⟩
  | 69 => ⟨S4x201, .f32⟩
  | 70 => ⟨S4x201x1, .f32⟩
  | 71 => ⟨S4x201x1, .f32⟩
  | 72 => ⟨S4x201x1, .f32⟩
  | 73 => ⟨S_, .f32⟩
  | 74 => ⟨S_, .i1⟩
  | 75 => ⟨S_, .f32⟩
  | 76 => ⟨S_, .f32⟩
  | 77 => ⟨S4x201x1, .f32⟩
  | 78 => ⟨S4x201x1, .f32⟩
  | 79 => ⟨S4x201x1024, .f32⟩
  | 80 => ⟨S4x201x1024, .f32⟩
  | 81 => ⟨S_, .f32⟩
  | 82 => ⟨S4x201x1, .f32⟩
  | 83 => ⟨S4x201x1, .f32⟩
  | 84 => ⟨S4x201x1, .f32⟩
  | 85 => ⟨S4x201x1024, .f32⟩
  | 86 => ⟨S4x201x1024, .f32⟩
  | 87 => ⟨S4x201x4096, .f32⟩
  | 88 => ⟨S4x201x4096, .f32⟩
  | 89 => ⟨S4x201x4096, .f32⟩
  | 90 => ⟨S_, .f32⟩
  | 91 => ⟨S4x201x4096, .f32⟩
  | 92 => ⟨S4x201x4096, .f32⟩
  | 93 => ⟨S4x201x4096, .f32⟩
  | 94 => ⟨S_, .f32⟩
  | 95 => ⟨S4x201x4096, .f32⟩
  | 96 => ⟨S4x201x4096, .f32⟩
  | 97 => ⟨S4x201x4096, .f32⟩
  | 98 => ⟨S_, .f32⟩
  | 99 => ⟨S4x201x4096, .f32⟩
  | 100 => ⟨S4x201x4096, .f32⟩
  | 101 => ⟨S_, .f32⟩
  | 102 => ⟨S4x201x4096, .f32⟩
  | 103 => ⟨S4x201x4096, .f32⟩
  | 104 => ⟨S4x201x4096, .f32⟩
  | 105 => ⟨S4x201x1024, .f32⟩
  | 106 => ⟨S4x201x1024, .f32⟩
  | 107 => ⟨S4x201x32000, .f32⟩
  | 108 => ⟨S4x1x32000, .f32⟩
  | 109 => ⟨S4x32000, .f32⟩
  | 110 => ⟨S_, .f32⟩
  | 111 => ⟨S4, .f32⟩
  | 112 => ⟨S_, .f32⟩
  | 113 => ⟨S4, .f32⟩
  | 114 => ⟨S4, .f32⟩
  | 115 => ⟨S4x1, .f32⟩
  | 116 => ⟨S4x32000, .f32⟩
  | 117 => ⟨S4x32000, .f32⟩
  | 118 => ⟨S4x32000, .f32⟩
  | 119 => ⟨S_, .f32⟩
  | 120 => ⟨S4, .f32⟩
  | 121 => ⟨S4x1, .f32⟩
  | 122 => ⟨S4x1, .f32⟩
  | 123 => ⟨S4x32000, .f32⟩
  | 124 => ⟨S4x32000, .f32⟩
  | 125 => ⟨S4x1, .i32⟩
  | 126 => ⟨S_, .i32⟩
  | 127 => ⟨S4x1, .i32⟩
  | _ => ⟨S4x3x224x224, .f32⟩

abbrev hbmTy0_2 (i : Nat) : BufTy := match i % 128 with
  | 0 => ⟨S4x1, .i1⟩
  | 1 => ⟨S_, .i32⟩
  | 2 => ⟨S4x1, .i32⟩
  | 3 => ⟨S4x1, .i32⟩
  | 4 => ⟨S4x1, .i32⟩
  | 5 => ⟨S4x1x1, .i32⟩
  | 6 => ⟨S1, .i32⟩
  | 7 => ⟨S_, .i32⟩
  | 8 => ⟨S4x1x1, .i32⟩
  | 9 => ⟨S4x1x1, .i1⟩
  | 10 => ⟨S1x1x1, .i32⟩
  | 11 => ⟨S4x1x1, .i32⟩
  | 12 => ⟨S4x1x1, .i1⟩
  | 13 => ⟨S4x1x1, .i1⟩
  | 14 => ⟨S_, .i1⟩
  | 15 => ⟨S4x1, .i1⟩
  | 16 => ⟨S4x1, .f32⟩
  | 17 => ⟨S_, .f32⟩
  | 18 => ⟨S4x1, .f32⟩
  | 19 => ⟨S4x1, .f32⟩
  | 20 => ⟨S_, .f32⟩
  | 21 => ⟨S_, .f32⟩
  | 22 => ⟨S_, .f32⟩
  | 23 => ⟨S_, .f32⟩
  | 24 => ⟨S_, .f32⟩
  | _ => ⟨S4x3x224x224, .f32⟩

abbrev hbmTy (i : Nat) : BufTy := match i / 128 with
  | 0 => hbmTy0_0 i
  | 1 => hbmTy0_1 i
  | 2 => hbmTy0_2 i
  | _ => ⟨S4x3x224x224, .f32⟩

abbrev bufTy : (tb : Table) → Fin (tcTables nBuf tb) → BufTy
  | .hbm, ⟨i, _⟩ => hbmTy i
  | _, _ => ⟨S4x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_cst_0 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_cst_1 : Ref sig .tc := ⟨.hbm, 30, rfl⟩
abbrev main_call0_call0_v8 : Ref sig .tc := ⟨.hbm, 31, rfl⟩
abbrev main_call0_call0_cst_2 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_call0_v12 : Ref sig .tc := ⟨.hbm, 36, rfl⟩
abbrev main_call0_call0_cst_3 : Ref sig .tc := ⟨.hbm, 37, rfl⟩
abbrev main_call0_call0_v13 : Ref sig .tc := ⟨.hbm, 38, rfl⟩
abbrev main_call0_call0_cst_4 : Ref sig .tc := ⟨.hbm, 39, rfl⟩
abbrev main_call0_call0_call0_v0 : Ref sig .tc := ⟨.hbm, 40, rfl⟩
abbrev main_call0_call0_call0_v1 : Ref sig .tc := ⟨.hbm, 41, rfl⟩
abbrev main_call0_v0 : Ref sig .tc := ⟨.hbm, 42, rfl⟩
abbrev main_v6 : Ref sig .tc := ⟨.hbm, 43, rfl⟩
abbrev main_cst_1 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_cst_2 : Ref sig .tc := ⟨.hbm, 88, rfl⟩
abbrev main_v28 : Ref sig .tc := ⟨.hbm, 89, rfl⟩
abbrev main_v29 : Ref sig .tc := ⟨.hbm, 90, rfl⟩
abbrev main_cst_3 : Ref sig .tc := ⟨.hbm, 91, rfl⟩
abbrev main_v30 : Ref sig .tc := ⟨.hbm, 92, rfl⟩
abbrev main_v31 : Ref sig .tc := ⟨.hbm, 93, rfl⟩
abbrev main_c_4 : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_cst_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_cst_1 : Ref sig .tc := ⟨.hbm, 105, rfl⟩
abbrev main_call2_v8 : Ref sig .tc := ⟨.hbm, 106, rfl⟩
abbrev main_call2_cst_2 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_v12 : Ref sig .tc := ⟨.hbm, 111, rfl⟩
abbrev main_call2_cst_3 : Ref sig .tc := ⟨.hbm, 112, rfl⟩
abbrev main_call2_v13 : Ref sig .tc := ⟨.hbm, 113, rfl⟩
abbrev main_call2_cst_4 : Ref sig .tc := ⟨.hbm, 114, rfl⟩
abbrev main_call2_call0_v0 : Ref sig .tc := ⟨.hbm, 115, rfl⟩
abbrev main_call2_call0_v1 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_cst_5 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_cst_6 : Ref sig .tc := ⟨.hbm, 138, rfl⟩
abbrev main_v52 : Ref sig .tc := ⟨.hbm, 139, rfl⟩
abbrev main_v53 : Ref sig .tc := ⟨.hbm, 140, rfl⟩
abbrev main_c_7 : Ref sig .tc := ⟨.hbm, 141, rfl⟩
abbrev main_v54 : Ref sig .tc := ⟨.hbm, 142, rfl⟩
abbrev main_call3_v0 : Ref sig .tc := ⟨.hbm, 143, rfl⟩
abbrev main_call3_c : Ref sig .tc := ⟨.hbm, 144, rfl⟩
abbrev main_call3_v1 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_c_0 : Ref sig .tc := ⟨.hbm, 149, rfl⟩
abbrev main_call3_v5 : Ref sig .tc := ⟨.hbm, 150, rfl⟩
abbrev main_v55 : Ref sig .tc := ⟨.hbm, 151, rfl⟩
abbrev main_v56 : Ref sig .tc := ⟨.hbm, 152, rfl⟩
abbrev main_cst_8 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_v57 : Ref sig .tc := ⟨.hbm, 157, rfl⟩
abbrev main_cst_9 : Ref sig .tc := ⟨.hbm, 158, rfl⟩
abbrev main_v58 : Ref sig .tc := ⟨.hbm, 159, rfl⟩
abbrev main_cst_10 : Ref sig .tc := ⟨.hbm, 160, rfl⟩
abbrev main_v59 : Ref sig .tc := ⟨.hbm, 161, rfl⟩
abbrev main_v60 : Ref sig .tc := ⟨.hbm, 162, rfl⟩
abbrev main_v61 : Ref sig .tc := ⟨.hbm, 163, rfl⟩
abbrev main_v62 : Ref sig .tc := ⟨.hbm, 164, rfl⟩
abbrev main_v63 : Ref sig .tc := ⟨.hbm, 165, rfl⟩
abbrev main_v64 : Ref sig .tc := ⟨.hbm, 166, rfl⟩
abbrev main_cst_11 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_cst_12 : Ref sig .tc := ⟨.hbm, 177, rfl⟩
abbrev main_v74 : Ref sig .tc := ⟨.hbm, 178, rfl⟩
abbrev main_v75 : Ref sig .tc := ⟨.hbm, 179, rfl⟩
abbrev main_cst_13 : Ref sig .tc := ⟨.hbm, 180, rfl⟩
abbrev main_v76 : Ref sig .tc := ⟨.hbm, 181, rfl⟩
abbrev main_v77 : Ref sig .tc := ⟨.hbm, 182, rfl⟩
abbrev main_c_14 : Ref sig .tc := ⟨.hbm, 183, rfl⟩
abbrev main_call5_cst : Ref sig .tc := ⟨.hbm, 184, rfl⟩
abbrev main_call5_v0 : Ref sig .tc := ⟨.hbm, 185, rfl⟩
abbrev main_call5_v1 : Ref sig .tc := ⟨.hbm, 186, rfl⟩
abbrev main_call5_cst_0 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_call5_v5 : Ref sig .tc := ⟨.hbm, 191, rfl⟩
abbrev main_call5_v6 : Ref sig .tc := ⟨.hbm, 192, rfl⟩
abbrev main_call5_v7 : Ref sig .tc := ⟨.hbm, 193, rfl⟩
abbrev main_call5_cst_1 : Ref sig .tc := ⟨.hbm, 194, rfl⟩
abbrev main_call5_v8 : Ref sig .tc := ⟨.hbm, 195, rfl⟩
abbrev main_call5_cst_2 : Ref sig .tc := ⟨.hbm, 196, rfl⟩
abbrev main_call5_v9 : Ref sig .tc := ⟨.hbm, 197, rfl⟩
abbrev main_call5_v10 : Ref sig .tc := ⟨.hbm, 198, rfl⟩
abbrev main_call5_v11 : Ref sig .tc := ⟨.hbm, 199, rfl⟩
abbrev main_call5_v12 : Ref sig .tc := ⟨.hbm, 200, rfl⟩
abbrev main_call5_cst_3 : Ref sig .tc := ⟨.hbm, 201, rfl⟩
abbrev main_call5_v13 : Ref sig .tc := ⟨.hbm, 202, rfl⟩
abbrev main_call5_cst_4 : Ref sig .tc := ⟨.hbm, 203, rfl⟩
abbrev main_call5_call0_v0 : Ref sig .tc := ⟨.hbm, 204, rfl⟩
abbrev main_call5_call0_v1 : Ref sig .tc := ⟨.hbm, 205, rfl⟩
abbrev main_v78 : Ref sig .tc := ⟨.hbm, 206, rfl⟩
abbrev main_v79 : Ref sig .tc := ⟨.hbm, 207, rfl⟩
abbrev main_v80 : Ref sig .tc := ⟨.hbm, 208, rfl⟩
abbrev main_cst_15 : Ref sig .tc := ⟨.hbm, 209, rfl⟩
abbrev main_v81 : Ref sig .tc := ⟨.hbm, 210, rfl⟩
abbrev main_v82 : Ref sig .tc := ⟨.hbm, 211, rfl⟩
abbrev main_v83 : Ref sig .tc := ⟨.hbm, 212, rfl⟩
abbrev main_v84 : Ref sig .tc := ⟨.hbm, 213, rfl⟩
abbrev main_v85 : Ref sig .tc := ⟨.hbm, 214, rfl⟩
abbrev main_v86 : Ref sig .tc := ⟨.hbm, 215, rfl⟩
abbrev main_v87 : Ref sig .tc := ⟨.hbm, 216, rfl⟩
abbrev main_v88 : Ref sig .tc := ⟨.hbm, 217, rfl⟩
abbrev main_cst_16 : Ref sig .tc := ⟨.hbm, 218, rfl⟩
abbrev main_v89 : Ref sig .tc := ⟨.hbm, 219, rfl⟩
abbrev main_v90 : Ref sig .tc := ⟨.hbm, 220, rfl⟩
abbrev main_v91 : Ref sig .tc := ⟨.hbm, 221, rfl⟩
abbrev main_cst_17 : Ref sig .tc := ⟨.hbm, 222, rfl⟩
abbrev main_v92 : Ref sig .tc := ⟨.hbm, 223, rfl⟩
abbrev main_v93 : Ref sig .tc := ⟨.hbm, 224, rfl⟩
abbrev main_v94 : Ref sig .tc := ⟨.hbm, 225, rfl⟩
abbrev main_cst_18 : Ref sig .tc := ⟨.hbm, 226, rfl⟩
abbrev main_v95 : Ref sig .tc := ⟨.hbm, 227, rfl⟩
abbrev main_v96 : Ref sig .tc := ⟨.hbm, 228, rfl⟩
abbrev main_cst_19 : Ref sig .tc := ⟨.hbm, 229, rfl⟩
abbrev main_v97 : Ref sig .tc := ⟨.hbm, 230, rfl⟩
abbrev main_v98 : Ref sig .tc := ⟨.hbm, 231, rfl⟩
abbrev main_v99 : Ref sig .tc := ⟨.hbm, 232, rfl⟩
abbrev main_v100 : Ref sig .tc := ⟨.hbm, 233, rfl⟩
abbrev main_v101 : Ref sig .tc := ⟨.hbm, 234, rfl⟩
abbrev main_v102 : Ref sig .tc := ⟨.hbm, 235, rfl⟩
abbrev main_v103 : Ref sig .tc := ⟨.hbm, 236, rfl⟩
abbrev main_v104 : Ref sig .tc := ⟨.hbm, 237, rfl⟩
abbrev main_call6_cst : Ref sig .tc := ⟨.hbm, 238, rfl⟩
abbrev main_call6_v0 : Ref sig .tc := ⟨.hbm, 239, rfl⟩
abbrev main_call6_cst_0 : Ref sig .tc := ⟨.hbm, 240, rfl⟩
abbrev main_call6_v1 : Ref sig .tc := ⟨.hbm, 241, rfl⟩
abbrev main_call6_v2 : Ref sig .tc := ⟨.hbm, 242, rfl⟩
abbrev main_call6_v3 : Ref sig .tc := ⟨.hbm, 243, rfl⟩
abbrev main_call6_v4 : Ref sig .tc := ⟨.hbm, 244, rfl⟩
abbrev main_call6_v5 : Ref sig .tc := ⟨.hbm, 245, rfl⟩
abbrev main_call6_v6 : Ref sig .tc := ⟨.hbm, 246, rfl⟩
abbrev main_call6_cst_1 : Ref sig .tc := ⟨.hbm, 247, rfl⟩
abbrev main_call6_v7 : Ref sig .tc := ⟨.hbm, 248, rfl⟩
abbrev main_call6_v8 : Ref sig .tc := ⟨.hbm, 249, rfl⟩
abbrev main_call6_v9 : Ref sig .tc := ⟨.hbm, 250, rfl⟩
abbrev main_call6_v10 : Ref sig .tc := ⟨.hbm, 251, rfl⟩
abbrev main_v105 : Ref sig .tc := ⟨.hbm, 252, rfl⟩
abbrev main_v106 : Ref sig .tc := ⟨.hbm, 253, rfl⟩
abbrev main_call7_c : Ref sig .tc := ⟨.hbm, 254, rfl⟩
abbrev main_call7_v0 : Ref sig .tc := ⟨.hbm, 255, rfl⟩
abbrev main_call7_v1 : Ref sig .tc := ⟨.hbm, 256, rfl⟩
abbrev main_call7_c_0 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_call7_v5 : Ref sig .tc := ⟨.hbm, 261, rfl⟩
abbrev main_call7_c_1 : Ref sig .tc := ⟨.hbm, 262, rfl⟩
abbrev main_call7_c_2 : Ref sig .tc := ⟨.hbm, 263, rfl⟩
abbrev main_call7_v6 : Ref sig .tc := ⟨.hbm, 264, rfl⟩
abbrev main_call7_v7 : Ref sig .tc := ⟨.hbm, 265, rfl⟩
abbrev main_call7_v8 : Ref sig .tc := ⟨.hbm, 266, rfl⟩
abbrev main_call7_v9 : Ref sig .tc := ⟨.hbm, 267, rfl⟩
abbrev main_call7_v10 : Ref sig .tc := ⟨.hbm, 268, rfl⟩
abbrev main_call7_v11 : Ref sig .tc := ⟨.hbm, 269, rfl⟩
abbrev main_call7_c_3 : Ref sig .tc := ⟨.hbm, 270, rfl⟩
abbrev main_call7_v12 : Ref sig .tc := ⟨.hbm, 271, rfl⟩
abbrev main_call7_v13 : Ref sig .tc := ⟨.hbm, 272, rfl⟩
abbrev main_call7_cst : Ref sig .tc := ⟨.hbm, 273, rfl⟩
abbrev main_call7_v14 : Ref sig .tc := ⟨.hbm, 274, rfl⟩
abbrev main_v107 : Ref sig .tc := ⟨.hbm, 275, rfl⟩
abbrev main_cst_20 : Ref sig .tc := ⟨.hbm, 276, rfl⟩
abbrev main_v108 : Ref sig .tc := ⟨.hbm, 277, rfl⟩
abbrev main_cst_21 : Ref sig .tc := ⟨.hbm, 278, rfl⟩
abbrev main_v109 : Ref sig .tc := ⟨.hbm, 279, rfl⟩
abbrev main_v110 : Ref sig .tc := ⟨.hbm, 280, rfl⟩

abbrev nD : Nat := 1
abbrev τ : Topo := Topo.v7x

variable {F : FTy → Type} [FloatOps F]

def κ : String → Option EReal := fun
  | "mask" => some ⊥
  | _ => none
-- ==== Proof.Ideal.BlockRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The block kernel's body, run -/

section Runs

variable (c : Dev nD) (i : grid0.Coords)
  (arg1 : Memref sig .tc .vmem S1x196x768 .bf16) (harg1 : arg1.IsWhole)
  (arg2 : Memref sig .tc .vmem S8x1024 .f32) (harg2 : arg2.IsWhole)
  (arg3 : Memref sig .tc .vmem S768x768 .f32) (harg3 : arg3.IsWhole)
  (arg4 : Memref sig .tc .vmem S768x1024 .f32) (harg4 : arg4.IsWhole)
  (arg5 : Memref sig .tc .vmem S1024x3072 .f32) (harg5 : arg5.IsWhole)
  (arg6 : Memref sig .tc .vmem S1024x1024 .f32) (harg6 : arg6.IsWhole)
  (arg7 : Memref sig .tc .vmem S1024x4096 .f32) (harg7 : arg7.IsWhole)
  (arg8 : Memref sig .tc .vmem S4096x1024 .f32) (harg8 : arg8.IsWhole)
  (arg9 : Memref sig .tc .vmem S208x1024 .bf16) (harg9 : arg9.IsWhole)

set_option maxHeartbeats 8000000 in
/-- The block kernel's body on whole buffers: the inputs stay, the output's buffer takes a value computed from them. -/
def blockRun (x0 : Vec F S1x196x768 .bf16) (x1 : Vec F S8x1024 .f32) (x2 : Vec F S768x768 .f32) (x3 : Vec F S768x1024 .f32) (x4 : Vec F S1024x3072 .f32) (x5 : Vec F S1024x1024 .f32) (x6 : Vec F S1024x4096 .f32) (x7 : Vec F S4096x1024 .f32) :
    { o : Vec F S208x1024 .bf16 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare o) -∗ K ⟨⟩))
          ⊢ wp frame (wpE (defs₀ (F := F)) Variants.none c none) E (cc0__block_body i arg1 harg1 arg2 harg2 arg3 harg3 arg4 harg4 arg5 harg5 arg6 harg6 arg7 harg7 arg8 harg8 arg9 harg9) K } := by
  refine ⟨?_, fun E K => ?run⟩
  case run =>
    simp only [cc0__block_body_eq_skeleton]; unfold cc0__block_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; isplitr; swap; · iexact H8
    ipureintro; refine View.read_writes_eq_canon (Val := Elt F) _ _ _ ?_; exact View.cover_of_tiledL _ S208x1024.size (by sl_kernel_rfl)

end Runs

end Cert.KernelIdeal.Hand

end

end
-- ==== Proof.Ideal.BlockRegion.lean ====
module

public import proofs.«01_k».proof.Proof.Ideal.BlockRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The block region's proof data, over any contents of the buffers at its entry -/

variable (V : Dev nD → Valuation τ sig (Elt F))

/-- A TensorCore buffer's contents at the entry. -/
abbrev entry (c : Dev nD) (b : Ref sig .tc) : Buf (Elt F) ((c : Thread nD τ).loc b) := V c b

/-- Window `w`'s block at point `t`, read off its array's contents at the region's entry. -/
def iblk0 (c : Dev nD) (w : Fin cfg0.W) (t : Fin cfg0.N) : ((cfg0.win w).xblock (cfg0.grid.coords t)).Idx → Elt F (cfg0.win w).elt :=
  ((cfg0.win w).blk t).view.read (Elt F) (entry V c (Pipeline.arrRef spec0 w))

abbrev mb0 (t : Fin cfg0.N) : Memref sig .tc .vmem S1x196x768 .bf16 := win0_0.stage (cfg0.slots t 0)
abbrev hb0 (t : Fin cfg0.N) : (mb0 t).IsWhole := hstage0_0 ((cfg0.slots t 0).cast nbuf0_0)
abbrev mb1 (t : Fin cfg0.N) : Memref sig .tc .vmem S8x1024 .f32 := win0_1.stage (cfg0.slots t 1)
abbrev hb1 (t : Fin cfg0.N) : (mb1 t).IsWhole := hstage0_1 ((cfg0.slots t 1).cast nbuf0_1)
abbrev mb2 (t : Fin cfg0.N) : Memref sig .tc .vmem S768x768 .f32 := win0_2.stage (cfg0.slots t 2)
abbrev hb2 (t : Fin cfg0.N) : (mb2 t).IsWhole := hstage0_2 ((cfg0.slots t 2).cast nbuf0_2)
abbrev mb3 (t : Fin cfg0.N) : Memref sig .tc .vmem S768x1024 .f32 := win0_3.stage (cfg0.slots t 3)
abbrev hb3 (t : Fin cfg0.N) : (mb3 t).IsWhole := hstage0_3 ((cfg0.slots t 3).cast nbuf0_3)
abbrev mb4 (t : Fin cfg0.N) : Memref sig .tc .vmem S1024x3072 .f32 := win0_4.stage (cfg0.slots t 4)
abbrev hb4 (t : Fin cfg0.N) : (mb4 t).IsWhole := hstage0_4 ((cfg0.slots t 4).cast nbuf0_4)
abbrev mb5 (t : Fin cfg0.N) : Memref sig .tc .vmem S1024x1024 .f32 := win0_5.stage (cfg0.slots t 5)
abbrev hb5 (t : Fin cfg0.N) : (mb5 t).IsWhole := hstage0_5 ((cfg0.slots t 5).cast nbuf0_5)
abbrev mb6 (t : Fin cfg0.N) : Memref sig .tc .vmem S1024x4096 .f32 := win0_6.stage (cfg0.slots t 6)
abbrev hb6 (t : Fin cfg0.N) : (mb6 t).IsWhole := hstage0_6 ((cfg0.slots t 6).cast nbuf0_6)
abbrev mb7 (t : Fin cfg0.N) : Memref sig .tc .vmem S4096x1024 .f32 := win0_7.stage (cfg0.slots t 7)
abbrev hb7 (t : Fin cfg0.N) : (mb7 t).IsWhole := hstage0_7 ((cfg0.slots t 7).cast nbuf0_7)
abbrev mb8 (t : Fin cfg0.N) : Memref sig .tc .vmem S208x1024 .bf16 := win0_8.stage (cfg0.slots t 8)
abbrev hb8 (t : Fin cfg0.N) : (mb8 t).IsWhole := hstage0_8 ((cfg0.slots t 8).cast nbuf0_8)

/-- The block the region writes back at point `t`. -/
def blockOut (c : Dev nD) (t : Fin cfg0.N) : Vec F S208x1024 .bf16 :=
  (blockRun c (grid0.coords t) (mb0 t) (hb0 t) (mb1 t) (hb1 t) (mb2 t) (hb2 t) (mb3 t) (hb3 t) (mb4 t) (hb4 t) (mb5 t) (hb5 t) (mb6 t) (hb6 t) (mb7 t) (hb7 t) (mb8 t) (hb8 t) (iblk0 V c 0 t) (iblk0 V c 1 t) (iblk0 V c 2 t) (iblk0 V c 3 t) (iblk0 V c 4 t) (iblk0 V c 5 t) (iblk0 V c 6 t) (iblk0 V c 7 t)).1

/-- The region's proof data: inputs keep their blocks, the output takes `blockOut`, nothing else changes. -/
def dat0 (c : Dev nD) : Dat τ (Elt F) Unit ℕ (UR sig nD τ) ℕ cfg0 c where
  A w := entry V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => blockOut V c t
  Φ _ := Pipeline.ΦA spec0 c
  q _ := fullShare
  owed _ := 0

theorem A0_eq (c : Dev nD) (w : Fin cfg0.W) : (dat0 V c).A w = V c (Proc.devRef .tc (Pipeline.arrRef spec0 w)) := by
  dsimp only [dat0]

/-- An input window whose block the body leaves in place holds that block at every point. -/
theorem before0_of (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dat0 V c).after w t) = (dat0 V c).blockOf w t)
    {y : (cfg0.win w).block.Idx → Elt F (cfg0.win w).elt} {t : Fin cfg0.N} {d}
    (hy : (dat0 V c).fetched w t d = y) : (dat0 V c).before w t d = y :=
  ((dat0 V c).before_in_eq_fetched w hw hlive hclip hkeep t d).trans hy

theorem before0_0 (c : Dev nD) (t : Fin cfg0.N) (d) : (dat0 V c).before 0 t d = iblk0 V c 0 t :=
  before0_of V c 0 rfl (fun _ => rfl) (fun _ _ _ => rfl) (fun _ => rfl) rfl
theorem before0_1 (c : Dev nD) (t : Fin cfg0.N) (d) : (dat0 V c).before 1 t d = iblk0 V c 1 t :=
  before0_of V c 1 rfl (fun _ => rfl) (fun _ _ _ => rfl) (fun _ => rfl) rfl
theorem before0_2 (c : Dev nD) (t : Fin cfg0.N) (d) : (dat0 V c).before 2 t d = iblk0 V c 2 t :=
  before0_of V c 2 rfl (fun _ => rfl) (fun _ _ _ => rfl) (fun _ => rfl) rfl
theorem before0_3 (c : Dev nD) (t : Fin cfg0.N) (d) : (dat0 V c).before 3 t d = iblk0 V c 3 t :=
  before0_of V c 3 rfl (fun _ => rfl) (fun _ _ _ => rfl) (fun _ => rfl) rfl
theorem before0_4 (c : Dev nD) (t : Fin cfg0.N) (d) : (dat0 V c).before 4 t d = iblk0 V c 4 t :=
  before0_of V c 4 rfl (fun _ => rfl) (fun _ _ _ => rfl) (fun _ => rfl) rfl
theorem before0_5 (c : Dev nD) (t : Fin cfg0.N) (d) : (dat0 V c).before 5 t d = iblk0 V c 5 t :=
  before0_of V c 5 rfl (fun _ => rfl) (fun _ _ _ => rfl) (fun _ => rfl) rfl
theorem before0_6 (c : Dev nD) (t : Fin cfg0.N) (d) : (dat0 V c).before 6 t d = iblk0 V c 6 t :=
  before0_of V c 6 rfl (fun _ => rfl) (fun _ _ _ => rfl) (fun _ => rfl) rfl
theorem before0_7 (c : Dev nD) (t : Fin cfg0.N) (d) : (dat0 V c).before 7 t d = iblk0 V c 7 t :=
  before0_of V c 7 rfl (fun _ => rfl) (fun _ _ _ => rfl) (fun _ => rfl) rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (mb0 t) fullShare ((dat0 V c).before 0 t d))
    ∗ (∃ d, owns (c : Thread nD τ) (mb1 t) fullShare ((dat0 V c).before 1 t d))
    ∗ (∃ d, owns (c : Thread nD τ) (mb2 t) fullShare ((dat0 V c).before 2 t d))
    ∗ (∃ d, owns (c : Thread nD τ) (mb3 t) fullShare ((dat0 V c).before 3 t d))
    ∗ (∃ d, owns (c : Thread nD τ) (mb4 t) fullShare ((dat0 V c).before 4 t d))
    ∗ (∃ d, owns (c : Thread nD τ) (mb5 t) fullShare ((dat0 V c).before 5 t d))
    ∗ (∃ d, owns (c : Thread nD τ) (mb6 t) fullShare ((dat0 V c).before 6 t d))
    ∗ (∃ d, owns (c : Thread nD τ) (mb7 t) fullShare ((dat0 V c).before 7 t d))
    ∗ (∃ d, owns (c : Thread nD τ) (mb8 t) fullShare ((dat0 V c).before 8 t d)))
/-- and what it returns. -/
def bodyPost0 (c : Dev nD) (t : Fin cfg0.N) : sProp 𝕄 :=
  iprop((dat0 V c).Φ t.succ ∗ (dat0 V c).owesAt () t.succ
    ∗ owns (c : Thread nD τ) (mb0 t) fullShare ((dat0 V c).after 0 t)
    ∗ owns (c : Thread nD τ) (mb1 t) fullShare ((dat0 V c).after 1 t)
    ∗ owns (c : Thread nD τ) (mb2 t) fullShare ((dat0 V c).after 2 t)
    ∗ owns (c : Thread nD τ) (mb3 t) fullShare ((dat0 V c).after 3 t)
    ∗ owns (c : Thread nD τ) (mb4 t) fullShare ((dat0 V c).after 4 t)
    ∗ owns (c : Thread nD τ) (mb5 t) fullShare ((dat0 V c).after 5 t)
    ∗ owns (c : Thread nD τ) (mb6 t) fullShare ((dat0 V c).after 6 t)
    ∗ owns (c : Thread nD τ) (mb7 t) fullShare ((dat0 V c).after 7 t)
    ∗ owns (c : Thread nD τ) (mb8 t) fullShare ((dat0 V c).after 8 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl]
  dsimp only [dat0]
  unfold blockOut
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((blockRun c (grid0.coords t) (mb0 t) (hb0 t) (mb1 t) (hb1 t) (mb2 t) (hb2 t) (mb3 t) (hb3 t) (mb4 t) (hb4 t) (mb5 t) (hb5 t) (mb6 t) (hb6 t) (mb7 t) (hb7 t) (mb8 t) (hb8 t) (iblk0 V c 0 t) (iblk0 V c 1 t) (iblk0 V c 2 t) (iblk0 V c 3 t) (iblk0 V c 4 t) (iblk0 V c 5 t) (iblk0 V c 6 t) (iblk0 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row0 (t : Fin cfg0.N) : defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.Ideal.HeadRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The head kernel's branches

Its nine branches ask one of three questions of the grid point: is it the first, is it a later one, is it the last. -/

/-- The branches taken at the first point only. -/
abbrev isFirst (i : grid1.Coords) : Prop := (Scalar.cmpi .ne (Scalar.extui (Scalar.cmpi .eq (BitVec.ofNat 32 (i 0).val) 0#32)) 0#32) = 1#1
/-- The branches taken at every later point. -/
abbrev isLater (i : grid1.Coords) : Prop := (Scalar.cmpi .ne (Scalar.extui (Scalar.cmpi .sgt (BitVec.ofNat 32 (i 0).val) 0#32)) 0#32) = 1#1
/-- The branch taken at the last point only. -/
abbrev isLast (i : grid1.Coords) : Prop := k1_cond9 i = 1#1

theorem isFirst_iff : ∀ t : Fin cfg1.N, isFirst (grid1.coords t) ↔ t.val = 0 :=
  (by decide +kernel : ∀ t : Fin grid1.N, isFirst (grid1.coords t) ↔ t.val = 0)
theorem isLater_iff : ∀ t : Fin cfg1.N, isLater (grid1.coords t) ↔ t.val ≠ 0 :=
  (by decide +kernel : ∀ t : Fin grid1.N, isLater (grid1.coords t) ↔ t.val ≠ 0)
theorem isLast_iff : ∀ t : Fin cfg1.N, isLast (grid1.coords t) ↔ t.val = 9 :=
  (by decide +kernel : ∀ t : Fin grid1.N, isLast (grid1.coords t) ↔ t.val = 9)

/-- What a run of the head kernel's body leaves: the tile of logits, the loss, and the three running vectors
    (the greatest logit so far, the sum of exponentials against it, the label's logit if it was met). -/
structure HeadOut (F : FTy → Type) where
  logits : Vec F S4x201x3200 .f32
  loss : Vec F S1x1 .f32
  mx : Vec F S4 .f32
  sm : Vec F S4 .f32
  lab : Vec F S4 .f32

section Runs

variable (c : Dev nD) (i : grid1.Coords)
  (arg1 : Memref sig .tc .smem S4 .i32) (harg1 : arg1.IsWhole) (arg2 : Memref sig .tc .vmem S832x1024 .bf16) (harg2 : arg2.IsWhole)
  (arg3 : Memref sig .tc .vmem S1024x3200 .f32) (harg3 : arg3.IsWhole) (arg4 : Memref sig .tc .vmem S4x201x3200 .f32) (harg4 : arg4.IsWhole)
  (arg5 : Memref sig .tc .smem S1x1 .f32) (harg5 : arg5.IsWhole) (arg6 : Memref sig .tc .smem S4 .f32) (harg6 : arg6.IsWhole)
  (arg7 : Memref sig .tc .smem S4 .f32) (harg7 : arg7.IsWhole) (arg8 : Memref sig .tc .smem S4 .f32) (harg8 : arg8.IsWhole)

set_option maxHeartbeats 4000000 in
/-- The body at the first point: nothing is carried in, the loss is left alone. -/
def headRunFirst (hF : isFirst i) (hP : ¬isLater i) (hL : ¬isLast i)
    (x0 : Vec F S4 .i32) (x1 : Vec F S832x1024 .bf16) (x2 : Vec F S1024x3200 .f32) :
    { o : HeadOut F // ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare o.logits ∗ owns (c : Thread nD τ) arg5 fullShare xi4 ∗ owns (c : Thread nD τ) arg6 fullShare o.mx ∗ owns (c : Thread nD τ) arg7 fullShare o.sm ∗ owns (c : Thread nD τ) arg8 fullShare o.lab) -∗ K ⟨⟩))
          ⊢ wp frame (wpE (defs₀ (F := F)) Variants.none c none) E (cc1__head_body i arg1 harg1 arg2 harg2 arg3 harg3 arg4 harg4 arg5 harg5 arg6 harg6 arg7 harg7 arg8 harg8) K } := by
  refine ⟨⟨?_, fun _ => Scalar.ofBits .f32 0#32, ?_, ?_, ?_⟩, fun xi4 E K => ?run⟩
  case run =>
    simp only [cc1__head_body_eq_skeleton]; unfold cc1__head_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg5.eq_unread hf4
    sl_exec (disch := first | sl_exact hF | sl_exact hP | sl_exact hL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro; refine View.read_writes_eq_canon (Val := Elt F) _ _ _ ?_; exact View.cover_of_tiledL _ S1x201x3200.size (by sl_kernel_rfl)
    isplitl [H4]
    · iexists _; isplitr; · ipureintro; exact harg5.read_unread _
      iexact H4
    isplitl [HS0]
    · iexists _; isplitr; swap; · iexact HS0
      ipureintro; refine View.read_writes_eq_canon (Val := Elt F) _ _ _ ?_; exact View.cover_of_tiledL _ S1.size (by sl_kernel_rfl)
    isplitl [HS1]
    · iexists _; isplitr; swap; · iexact HS1
      ipureintro; refine View.read_writes_eq_canon (Val := Elt F) _ _ _ ?_; exact View.cover_of_tiledL _ S1.size (by sl_kernel_rfl)
    iexists _; isplitr; swap; · iexact HS2
    ipureintro; refine View.read_writes_eq_canon (Val := Elt F) _ _ _ ?_; exact View.cover_of_tiledL _ S1.size (by sl_kernel_rfl)

set_option maxHeartbeats 4000000 in
/-- The body at a middle point: the running vectors come in, the loss is left alone. -/
def headRunMid (hF : ¬isFirst i) (hP : isLater i) (hL : ¬isLast i)
    (x0 : Vec F S4 .i32) (x1 : Vec F S832x1024 .bf16) (x2 : Vec F S1024x3200 .f32) (xs0 xs1 xs2 : Vec F S4 .f32) :
    { o : HeadOut F // ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0 ∗ owns (c : Thread nD τ) arg7 fullShare xs1 ∗ owns (c : Thread nD τ) arg8 fullShare xs2
            ∗ (iprop(owns (c : Thread nD τ) arg1 fullShare x0 ∗ owns (c : Thread nD τ) arg2 fullShare x1 ∗ owns (c : Thread nD τ) arg3 fullShare x2 ∗ owns (c : Thread nD τ) arg4 fullShare o.logits ∗ owns (c : Thread nD τ) arg5 fullShare xi4 ∗ owns (c : Thread nD τ) arg6 fullShare o.mx ∗ owns (c : Thread nD τ) arg7 fullShare o.sm ∗ owns (c : Thread nD τ) arg8 fullShare o.lab) -∗ K ⟨⟩))
          ⊢ wp frame (wpE (defs₀ (F := F)) Variants.none c none) E (cc1__head_body i arg1 harg1 arg2 harg2 arg3 harg3 arg4 harg4 arg5 harg5 arg6 harg6 arg7 harg7 arg8 harg8) K } := by
  refine ⟨⟨?_, fun _ => Scalar.ofBits .f32 0#32, ?_, ?_, ?_⟩, fun xi4 E K => ?run⟩
  case run =>
    simp only [cc1__head_body_eq_skeleton]; unfold cc1__head_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hs0, HS0⟩, ⟨%fs1, %hs1, HS1⟩, ⟨%fs2, %hs2, HS2⟩, Hk⟩
    obtain rfl := harg1.eq_unread hf0; obtain rfl := harg2.eq_unread hf1; obtain rfl := harg3.eq_unread hf2; obtain rfl := harg5.eq_unread hf4; obtain rfl := harg6.eq_unread hs0; obtain rfl := harg7.eq_unread hs1; obtain rfl := harg8.eq_unread hs2
    sl_exec (disch := first | sl_exact hF | sl_exact hP | sl_exact hL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro; refine View.read_writes_eq_canon (Val := Elt F) _ _ _ ?_; exact View.cover_of_tiledL _ S1x201x3200.size (by sl_kernel_rfl)
    isplitl [H4]
    · iexists _; isplitr; · ipureintro; exact harg5.read_unread _
      iexact H4
    isplitl [HS0]
    · iexists _; isplitr; swap; · iexact HS0
      ipureintro; refine View.read_writes_eq_canon (Val := Elt F) _ _ _ ?_; exact View.cover_of_tiledL _ S1.size (by sl_kernel_rfl)
    isplitl [HS1]
    · iexists _; isplitr; swap; · iexact HS1
      ipureintro; refine View.read_writes_eq_canon (Val := Elt F) _ _ _ ?_; exact View.cover_of_tiledL _ S1.size (by sl_kernel_rfl)
    iexists _; isplitr; swap; · iexact HS2
    ipureintro; refine View.read_writes_eq_canon (Val := Elt F) _ _ _ ?_; exact View.cover_of_tiledL _ S1.size (by sl_kernel_rfl)

set_option maxHeartbeats 4000000 in
/-- The body at the last point: the running vectors come in, the loss goes out. -/
def headRunLast (hF : ¬isFirst i) (hP : isLater i) (hL : isLast i)
    (x0 : Vec F S4 .i32) (x1 : Vec F S832x1024 .bf16) (x2 : Vec F S1024x3200 .f32) (xs0 xs1 xs2 : Vec F S4 .f32) :
    { o : HeadOut F // ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg1 fullShare x0 ∗ owns (c : Thread nD τ) arg2 fullShare x1 ∗ owns (c : Thread nD τ) arg3 fullShare x2 ∗ owns (c : Thread nD τ) arg4 fullShare o.logits ∗ owns (c : Thread nD τ) arg5 fullShare o.loss ∗ owns (c : Thread nD τ) arg6 fullShare o.mx ∗ owns (c : Thread nD τ) arg7 fullShare o.sm ∗ owns (c : Thread nD τ) arg8 fullShare o.lab) -∗ K ⟨⟩))
          ⊢ wp frame (wpE (defs₀ (F := F)) Variants.none c none) E (cc1__head_body i arg1 harg1 arg2 harg2 arg3 harg3 arg4 harg4 arg5 harg5 arg6 harg6 arg7 harg7 arg8 harg8) K } := by
  refine ⟨⟨?_, ?_, ?_, ?_, ?_⟩, fun E K => ?run⟩
  case run =>
    simp only [cc1__head_body_eq_skeleton]; unfold cc1__head_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hs0, HS0⟩, ⟨%fs1, %hs1, HS1⟩, ⟨%fs2, %hs2, HS2⟩, Hk⟩
    obtain rfl := harg1.eq_unread hf0; obtain rfl := harg2.eq_unread hf1; obtain rfl := harg3.eq_unread hf2; obtain rfl := harg6.eq_unread hs0; obtain rfl := harg7.eq_unread hs1; obtain rfl := harg8.eq_unread hs2
    sl_exec (disch := first | sl_exact hF | sl_exact hP | sl_exact hL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro; refine View.read_writes_eq_canon (Val := Elt F) _ _ _ ?_; exact View.cover_of_tiledL _ S1x201x3200.size (by sl_kernel_rfl)
    isplitl [H4]
    · iexists _; isplitr; swap; · iexact H4
      ipureintro; refine View.read_writes_eq_canon (Val := Elt F) _ _ _ ?_; exact View.cover_of_tiledL _ S1x1.size (by sl_kernel_rfl)
    isplitl [HS0]
    · iexists _; isplitr; swap; · iexact HS0
      ipureintro; refine View.read_writes_eq_canon (Val := Elt F) _ _ _ ?_; exact View.cover_of_tiledL _ S1.size (by sl_kernel_rfl)
    isplitl [HS1]
    · iexists _; isplitr; swap; · iexact HS1
      ipureintro; refine View.read_writes_eq_canon (Val := Elt F) _ _ _ ?_; exact View.cover_of_tiledL _ S1.size (by sl_kernel_rfl)
    iexists _; isplitr; swap; · iexact HS2
    ipureintro; refine View.read_writes_eq_canon (Val := Elt F) _ _ _ ?_; exact View.cover_of_tiledL _ S1.size (by sl_kernel_rfl)

end Runs

end Cert.KernelIdeal.Hand

end
-- ==== Proof.Ideal.HeadRegion.lean ====
module

public import proofs.«01_k».proof.Proof.Ideal.BlockRegion
public import proofs.«01_k».proof.Proof.Ideal.HeadRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The head region's proof data, over any contents of the buffers at its entry -/

variable (V : Dev nD → Valuation τ sig (Elt F))

/-- Window `w`'s block at point `t`, read off its array's contents at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (entry V c (Pipeline.arrRef spec1 w))

abbrev mh0 (t : Fin cfg1.N) : Memref sig .tc .smem S4 .i32 := win1_0.stage (cfg1.slots t 0)
abbrev hh0 (t : Fin cfg1.N) : (mh0 t).IsWhole := hstage1_0 ((cfg1.slots t 0).cast nbuf1_0)
abbrev mh1 (t : Fin cfg1.N) : Memref sig .tc .vmem S832x1024 .bf16 := win1_1.stage (cfg1.slots t 1)
abbrev hh1 (t : Fin cfg1.N) : (mh1 t).IsWhole := hstage1_1 ((cfg1.slots t 1).cast nbuf1_1)
abbrev mh2 (t : Fin cfg1.N) : Memref sig .tc .vmem S1024x3200 .f32 := win1_2.stage (cfg1.slots t 2)
abbrev hh2 (t : Fin cfg1.N) : (mh2 t).IsWhole := hstage1_2 ((cfg1.slots t 2).cast nbuf1_2)
abbrev mh3 (t : Fin cfg1.N) : Memref sig .tc .vmem S4x201x3200 .f32 := win1_3.stage (cfg1.slots t 3)
abbrev hh3 (t : Fin cfg1.N) : (mh3 t).IsWhole := hstage1_3 ((cfg1.slots t 3).cast nbuf1_3)
abbrev mh4 (t : Fin cfg1.N) : Memref sig .tc .smem S1x1 .f32 := win1_4.stage (cfg1.slots t 4)
abbrev hh4 (t : Fin cfg1.N) : (mh4 t).IsWhole := hstage1_4 ((cfg1.slots t 4).cast nbuf1_4)

/-- The three buffers the kernel carries from point to point. -/
abbrev sc0 : Memref sig .tc .smem S4 .f32 := Memref.whole cc1_scratch0
abbrev sc1 : Memref sig .tc .smem S4 .f32 := Memref.whole cc1_scratch1
abbrev sc2 : Memref sig .tc .smem S4 .f32 := Memref.whole cc1_scratch2

/-- What the first point leaves, -/
def outFirst (c : Dev nD) (t : Fin cfg1.N) (h : t.val = 0) : HeadOut F :=
  (headRunFirst c (grid1.coords t) (mh0 t) (hh0 t) (mh1 t) (hh1 t) (mh2 t) (hh2 t) (mh3 t) (hh3 t) (mh4 t) (hh4 t) sc0 (Memref.isWhole_whole _) sc1 (Memref.isWhole_whole _) sc2 (Memref.isWhole_whole _) ((isFirst_iff t).mpr h) (fun h' => (isLater_iff t).mp h' h) (fun h' => by have := (isLast_iff t).mp h'; omega) (iblk1 V c 0 t) (iblk1 V c 1 t) (iblk1 V c 2 t)).1
/-- what a middle point leaves after one that left `p`, -/
def outMid (c : Dev nD) (t : Fin cfg1.N) (h : t.val ≠ 0) (h9 : t.val ≠ 9) (p : HeadOut F) : HeadOut F :=
  (headRunMid c (grid1.coords t) (mh0 t) (hh0 t) (mh1 t) (hh1 t) (mh2 t) (hh2 t) (mh3 t) (hh3 t) (mh4 t) (hh4 t) sc0 (Memref.isWhole_whole _) sc1 (Memref.isWhole_whole _) sc2 (Memref.isWhole_whole _) (fun h' => h ((isFirst_iff t).mp h')) ((isLater_iff t).mpr h) (fun h' => h9 ((isLast_iff t).mp h')) (iblk1 V c 0 t) (iblk1 V c 1 t) (iblk1 V c 2 t) p.mx p.sm p.lab).1
/-- and what the last point leaves. -/
def outLast (c : Dev nD) (t : Fin cfg1.N) (h9 : t.val = 9) (p : HeadOut F) : HeadOut F :=
  (headRunLast c (grid1.coords t) (mh0 t) (hh0 t) (mh1 t) (hh1 t) (mh2 t) (hh2 t) (mh3 t) (hh3 t) (mh4 t) (hh4 t) sc0 (Memref.isWhole_whole _) sc1 (Memref.isWhole_whole _) sc2 (Memref.isWhole_whole _) (fun h' => by have := (isFirst_iff t).mp h'; omega) ((isLater_iff t).mpr (by omega)) ((isLast_iff t).mpr h9) (iblk1 V c 0 t) (iblk1 V c 1 t) (iblk1 V c 2 t) p.mx p.sm p.lab).1

/-- What point `n` leaves, by recursion over the points. -/
def headOut (c : Dev nD) : (n : ℕ) → n < cfg1.N → HeadOut F
  | 0, hn => outFirst V c ⟨0, hn⟩ rfl
  | n + 1, hn =>
    if h9 : n + 1 = 9 then outLast V c ⟨n + 1, hn⟩ h9 (headOut c n (Nat.lt_of_succ_lt hn))
    else outMid V c ⟨n + 1, hn⟩ (Nat.succ_ne_zero n) h9 (headOut c n (Nat.lt_of_succ_lt hn))

theorem headOut_first (c : Dev nD) (t : Fin cfg1.N) (h : t.val = 0) : headOut V c t.val t.isLt = outFirst V c t h := by
  obtain ⟨n, hn⟩ := t
  cases n with
  | zero => rfl
  | succ n => exact absurd h (Nat.succ_ne_zero n)
theorem headOut_mid (c : Dev nD) (t : Fin cfg1.N) (h : t.val ≠ 0) (h9 : t.val ≠ 9) :
    headOut V c t.val t.isLt = outMid V c t h h9 (headOut V c (t.val - 1) (by omega)) := by
  obtain ⟨n, hn⟩ := t
  cases n with
  | zero => exact absurd rfl h
  | succ n => exact dif_neg h9
theorem headOut_last (c : Dev nD) (t : Fin cfg1.N) (h9 : t.val = 9) :
    headOut V c t.val t.isLt = outLast V c t h9 (headOut V c (t.val - 1) (by omega)) := by
  obtain ⟨n, hn⟩ := t
  cases n with
  | zero => exact absurd h9 (by simp)
  | succ n => exact dif_pos h9

/-- The scoped buffers that the head region neither stages nor carries. -/
def others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f))

/-- The invariant before position `n`: the carried buffers at what the point before left, at anything before the first. -/
def Phi1 (c : Dev nD) : (n : ℕ) → n ≤ cfg1.N → sProp 𝕄
  | 0, _ => iprop((others c ∗ (∃ d, owns (c : Thread nD τ) sc0 fullShare d) ∗ (∃ d, owns (c : Thread nD τ) sc1 fullShare d)
      ∗ (∃ d, owns (c : Thread nD τ) sc2 fullShare d)) ∗ (∃ r, prngReg c r))
  | n + 1, hn => iprop((others c ∗ owns (c : Thread nD τ) sc0 fullShare (headOut V c n hn).mx ∗ owns (c : Thread nD τ) sc1 fullShare (headOut V c n hn).sm
      ∗ owns (c : Thread nD τ) sc2 fullShare (headOut V c n hn).lab) ∗ (∃ r, prngReg c r))

theorem Phi1_zero (c : Dev nD) (n : ℕ) (h : n ≤ cfg1.N) (hz : n = 0) : Phi1 V c n h
    = iprop((others c ∗ (∃ d, owns (c : Thread nD τ) sc0 fullShare d) ∗ (∃ d, owns (c : Thread nD τ) sc1 fullShare d)
      ∗ (∃ d, owns (c : Thread nD τ) sc2 fullShare d)) ∗ (∃ r, prngReg c r)) := by
  subst hz; rfl
theorem Phi1_succ (c : Dev nD) (n : ℕ) (hn : n < cfg1.N) : Phi1 V c (n + 1) hn
    = iprop((others c ∗ owns (c : Thread nD τ) sc0 fullShare (headOut V c n hn).mx ∗ owns (c : Thread nD τ) sc1 fullShare (headOut V c n hn).sm
      ∗ owns (c : Thread nD τ) sc2 fullShare (headOut V c n hn).lab) ∗ (∃ r, prngReg c r)) := rfl
theorem Phi1_pos (c : Dev nD) (n : ℕ) (h : n ≤ cfg1.N) (hz : n ≠ 0) : Phi1 V c n h
    = iprop((others c ∗ owns (c : Thread nD τ) sc0 fullShare (headOut V c (n - 1) (by omega)).mx ∗ owns (c : Thread nD τ) sc1 fullShare (headOut V c (n - 1) (by omega)).sm
      ∗ owns (c : Thread nD τ) sc2 fullShare (headOut V c (n - 1) (by omega)).lab) ∗ (∃ r, prngReg c r)) := by
  cases n with
  | zero => exact absurd rfl hz
  | succ n => rfl

/-- The region's proof data. -/
def dat1 (c : Dev nD) : Dat τ (Elt F) Unit ℕ (UR sig nD τ) ℕ cfg1 c where
  A w := entry V c (Pipeline.arrRef spec1 w)
  after w t := match w with
    | ⟨0, _⟩ => iblk1 V c 0 t
    | ⟨1, _⟩ => iblk1 V c 1 t
    | ⟨2, _⟩ => iblk1 V c 2 t
    | ⟨3, _⟩ => (headOut V c t.val t.isLt).logits
    | ⟨4, _⟩ => (headOut V c t.val t.isLt).loss
  Φ t := Phi1 V c t.val (Nat.le_of_lt_succ t.isLt)
  q _ := fullShare
  owed _ := 0

theorem A1_eq (c : Dev nD) (w : Fin cfg1.W) : (dat1 V c).A w = V c (Proc.devRef .tc (Pipeline.arrRef spec1 w)) := by
  dsimp only [dat1]

theorem Phi1_castSucc (c : Dev nD) (t : Fin cfg1.N) : (dat1 V c).Φ t.castSucc = Phi1 V c t.val (Nat.le_of_lt t.isLt) := by
  dsimp only [dat1]; exact Pipeline.Dat.Φ_castSucc (Phi1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (headOut V c t.val t.isLt).logits := by dsimp only [dat1]
theorem after1_4 (c : Dev nD) (t : Fin cfg1.N) : (dat1 V c).after 4 t = (headOut V c t.val t.isLt).loss := by dsimp only [dat1]

/-- An input window whose block the body leaves in place holds that block at every point. -/
theorem before1_of (c : Dev nD) (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((dat1 V c).after w t) = (dat1 V c).blockOf w t)
    {y : (cfg1.win w).block.Idx → Elt F (cfg1.win w).elt} {t : Fin cfg1.N} {d}
    (hy : (dat1 V c).fetched w t d = y) : (dat1 V c).before w t d = y :=
  ((dat1 V c).before_in_eq_fetched w hw hlive hclip hkeep t d).trans hy

theorem before1_0 (c : Dev nD) (t : Fin cfg1.N) (d) : (dat1 V c).before 0 t d = iblk1 V c 0 t :=
  before1_of V c 0 rfl (fun _ => rfl) (fun _ _ _ => rfl) (fun _ => rfl) rfl
theorem before1_1 (c : Dev nD) (t : Fin cfg1.N) (d) : (dat1 V c).before 1 t d = iblk1 V c 1 t :=
  before1_of V c 1 rfl (fun _ => rfl) (fun _ _ _ => rfl) (fun _ => rfl) rfl
theorem before1_2 (c : Dev nD) (t : Fin cfg1.N) (d) : (dat1 V c).before 2 t d = iblk1 V c 2 t :=
  before1_of V c 2 rfl (fun _ => rfl) (fun _ _ _ => rfl) (fun _ => rfl) rfl

/-- The loss's window is used at the last point alone. -/
theorem idle1_4 : ∀ t : Fin cfg1.N, t.val ≠ 9 → cfg1.idle 4 (grid1.coords t) = true :=
  (by decide +kernel : ∀ t : Fin grid1.N, t.val ≠ 9 → cfg1.idle 4 (grid1.coords t) = true)
theorem live1_4 : ∀ t : Fin cfg1.N, t.val = 9 → cfg1.idle 4 (grid1.coords t) = false :=
  (by decide +kernel : ∀ t : Fin grid1.N, t.val = 9 → cfg1.idle 4 (grid1.coords t) = false)
theorem noflush1_4 (t : Fin cfg1.N) (h : t.val ≠ 9) : (cfg1.win 4).flush t = false := by
  rw [← Bool.not_eq_true, flush1_4]
  have : t.val < 10 := lt_of_lt_of_eq t.isLt (show cfg1.N = 10 from N_1)
  omega

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (mh0 t) fullShare ((dat1 V c).before 0 t d))
    ∗ (∃ d, owns (c : Thread nD τ) (mh1 t) fullShare ((dat1 V c).before 1 t d))
    ∗ (∃ d, owns (c : Thread nD τ) (mh2 t) fullShare ((dat1 V c).before 2 t d))
    ∗ (∃ d, owns (c : Thread nD τ) (mh3 t) fullShare ((dat1 V c).before 3 t d))
    ∗ (∃ d, owns (c : Thread nD τ) (mh4 t) fullShare ((dat1 V c).before 4 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- A window in use is left at what the proof data say. -/
theorem leaves1_of (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [show cfg1.idle w (cfg1.grid.coords t) = false from h]

set_option maxHeartbeats 4000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) t.isLt from rfl, Phi1_succ, Phi1_castSucc,
    leaves1_of V c 0 t rfl, leaves1_of V c 1 t rfl, leaves1_of V c 2 t rfl, leaves1_of V c 3 t rfl,
    after1_0, after1_1, after1_2, after1_3]
  by_cases h : t.val = 0
  · rw [Dat.leavesExact_idle (dat1 V c) 4 t (idle1_4 t (by omega)) (noflush1_4 t (by omega)), Phi1_zero V c _ _ h, headOut_first V c t h]
    unfold outFirst
    iintro ⟨⟨⟨HR, HS0, HS1, HS2⟩, Hg⟩, Ho, ⟨%d0, H0⟩, ⟨%d1, H1⟩, ⟨%d2, H2⟩, ⟨%d3, H3⟩, ⟨%d4, H4⟩⟩
    iapply ((headRunFirst c (grid1.coords t) (mh0 t) (hh0 t) (mh1 t) (hh1 t) (mh2 t) (hh2 t) (mh3 t) (hh3 t) (mh4 t) (hh4 t) sc0 (Memref.isWhole_whole _) sc1 (Memref.isWhole_whole _) sc2 (Memref.isWhole_whole _) ((isFirst_iff t).mpr h) (fun h' => (isLater_iff t).mp h' h) (fun h' => by have := (isLast_iff t).mp h'; omega) (iblk1 V c 0 t) (iblk1 V c 1 t) (iblk1 V c 2 t)).2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HR HS0 HS1 HS2 Hg]
    · isplitl [HR HS0 HS1 HS2]
      · isplitl [HR]; · iexact HR
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexists _; iexact H4
  · rw [Phi1_pos V c _ _ h]
    by_cases h9 : t.val = 9
    · rw [leaves1_of V c 4 t (live1_4 t h9), after1_4, headOut_last V c t h9]
      generalize headOut V c (t.val - 1) _ = p
      unfold outLast
      iintro ⟨⟨⟨HR, HS0, HS1, HS2⟩, Hg⟩, Ho, ⟨%d0, H0⟩, ⟨%d1, H1⟩, ⟨%d2, H2⟩, ⟨%d3, H3⟩, ⟨%d4, H4⟩⟩
      iapply ((headRunLast c (grid1.coords t) (mh0 t) (hh0 t) (mh1 t) (hh1 t) (mh2 t) (hh2 t) (mh3 t) (hh3 t) (mh4 t) (hh4 t) sc0 (Memref.isWhole_whole _) sc1 (Memref.isWhole_whole _) sc2 (Memref.isWhole_whole _) (fun h' => by have := (isFirst_iff t).mp h'; omega) ((isLater_iff t).mpr (by omega)) ((isLast_iff t).mpr h9) (iblk1 V c 0 t) (iblk1 V c 1 t) (iblk1 V c 2 t) p.mx p.sm p.lab).2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HR HS0 HS1 HS2 Hg]
      · isplitl [HR HS0 HS1 HS2]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idle1_4 t h9) (noflush1_4 t h9), headOut_mid V c t h h9]
      generalize headOut V c (t.val - 1) _ = p
      unfold outMid
      iintro ⟨⟨⟨HR, HS0, HS1, HS2⟩, Hg⟩, Ho, ⟨%d0, H0⟩, ⟨%d1, H1⟩, ⟨%d2, H2⟩, ⟨%d3, H3⟩, ⟨%d4, H4⟩⟩
      iapply ((headRunMid c (grid1.coords t) (mh0 t) (hh0 t) (mh1 t) (hh1 t) (mh2 t) (hh2 t) (mh3 t) (hh3 t) (mh4 t) (hh4 t) sc0 (Memref.isWhole_whole _) sc1 (Memref.isWhole_whole _) sc2 (Memref.isWhole_whole _) (fun h' => h ((isFirst_iff t).mp h')) ((isLater_iff t).mpr h) (fun h' => h9 ((isLast_iff t).mp h')) (iblk1 V c 0 t) (iblk1 V c 1 t) (iblk1 V c 2 t) p.mx p.sm p.lab).2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HR HS0 HS1 HS2 Hg]
      · isplitl [HR HS0 HS1 HS2]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4

theorem defs₀_row1 (t : Fin cfg1.N) : defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point, -/
theorem hin1 (c : Dev nD) : iprop(Pipeline.scopedRest spec1 c ∗ (∃ r, prngReg c r)) ⊢ (dat1 (F := F) V c).Φ 0 := by
  rw [show (dat1 V c).Φ 0 = Phi1 V c 0 (Nat.zero_le _) from rfl, Phi1_zero V c 0 _ rfl, scopedRest1_eq]
  unfold others
  simp only [sc0, sc1, sc2, owns_whole]
  iintro ⟨⟨G0, G1, G2, G3, G4, G5, G6, G7, G8, G9, G10, S0, S1, S2⟩, Hg⟩
  isplitr [Hg]
  · isplitl [G0 G1 G2 G3 G4 G5 G6 G7 G8 G9 G10]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      iexact G10
    isplitl [S0]; · iexact S0
    isplitl [S1]; · iexact S1
    iexact S2
  iexact Hg
/-- and the invariant after the last point gives it back. -/
theorem hout1 (c : Dev nD) : (dat1 (F := F) V c).Φ (Fin.last cfg1.N) ⊢ iprop(Pipeline.scopedRest spec1 c ∗ (∃ r, prngReg c r)) := by
  rw [show (dat1 V c).Φ (Fin.last cfg1.N) = Phi1 V c cfg1.N (Nat.le_refl _) from rfl, Phi1_pos V c _ _ (by rw [show cfg1.N = 10 from N_1]; decide), scopedRest1_eq]
  unfold others
  simp only [sc0, sc1, sc2, owns_whole]
  iintro ⟨⟨⟨G0, G1, G2, G3, G4, G5, G6, G7, G8, G9, G10⟩, S0, S1, S2⟩, Hg⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [S0]; · iexists _; iexact S0
    isplitl [S1]; · iexists _; iexact S1
    iexists _; iexact S2
  iexact Hg

end Cert.KernelIdeal.Hand

end
-- ==== Proof.Ideal.Run.lean ====
module

public import proofs.«01_k».proof.Proof.Gen.KernelIdeal.Regions
public import proofs.«01_k».proof.Proof.Ideal.HeadRegion
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The whole run: the host prefix, the two regions, the host suffix -/

open Idealize.ShloMosaic.Pipeline (Seg HostSeg RegionSeg)

variable (m : (ℓ : Loc nD τ sig) → Buf (Elt F) ℓ) (ρ : Dev nD → PrngReg)

/-- The buffers after the block region, -/
def W1 (c : Dev nD) : Valuation τ sig (Elt F) := Pipeline.afterRegion (dat0 (V2 m) c) (V2 m c)
/-- after the head region, -/
def W2 (c : Dev nD) : Valuation τ sig (Elt F) := Pipeline.afterRegion (dat1 (W1 m) c) (W1 m c)
/-- and at the end. -/
def W3 (c : Dev nD) : Valuation τ sig (Elt F) := StableHlo.after hostOps2 (W2 m c)

/-- Both regions' proof data. -/
def pdats : (p : Fin 2) → (c : Dev nD) → Dat τ (Elt F) Unit ℕ (UR sig nD τ) ℕ (cfgs p) c
  | 0, c => dat0 (V2 m) c
  | 1, c => dat1 (W1 m) c

abbrev 𝒱₀ : Variants := Variants.none
/-- The TensorCore's cells carry the one index, at level zero. -/
abbrev L : GSem nD τ sig → Finset Unit := fun g => if g.1.2 = .tc then {()} else ∅
abbrev lv : GSem nD τ sig → Unit → ℕ := fun _ _ => 0

/-- What rides beside the buffers: the core owes nothing, its generator register is at some state. -/
def rest (c : Dev nD) : sProp 𝕄 := iprop((∃ Wd, owes (c : Thread nD τ) (0 : CellTallies nD τ sig Unit) Wd) ∗ (∃ r, prngReg c r))

set_option backward.isDefEq.respectTransparency.types false in
theorem cut (p : Fin 2) : Pipeline.LevelCut (pcfgs (F := F)) adm () L lv p (fun _ : Dev nD => (0 : CellTallies nD τ sig Unit)) (fun _ => 0) where
  hι _ _ _ := by simp [L]
  hιb _ _ _ := Nat.le_refl 0
  hD _ _ _ h := absurd h (by simp)

set_option backward.isDefEq.respectTransparency.types false in
/-- Region 0's record. -/
def reg0 : RegionSeg (pcfgs (F := F)) adm (pdats m) () defs₀ 𝒱₀ L lv 0 :=
  RegionSeg.ofHeldIn (pcfgs (F := F)) adm (pdats m) () defs₀ 𝒱₀ L lv 0 (fun _ => 0) (Pipeline.ucRefs τ sig) (fun c => iprop(∃ r, prngReg c r)) (fun c => iprop(∃ r, prngReg c r))
    (launch0.toP) rfl (fun c => (body_obligation0 (V2 m) c).loose) (fun _ _ => rfl) (fun _ => rfl)
    (fun c => (pdats m 0 c).share_full fun _ => rfl) (fun c => .rfl) (fun c => .rfl)
    (fun _ => 0) (cut (F := F) 0) (fun _ => iprop(emp)) (V2 m) (fun c w => A0_eq (V2 m) c w)

set_option backward.isDefEq.respectTransparency.types false in
theorem arrs0 : Pipeline.arrRefs (pcfgs (F := F) 0).spec ⊆ Pipeline.ucRefs τ sig := Pipeline.arrRefs_sub_ucRefs _ winFacts0.arr_unscoped

theorem rest_in0 (c : Dev nD) : iprop(StableHlo.held (c : Thread nD τ) (Pipeline.ucRefs τ sig) (V2 m c) ∗ rest c)
    ⊢ (iprop(StableHlo.held (c.tc : Thread nD τ) (Pipeline.ucRefs τ sig) (V2 m c) ∗ ((∃ Wd, owes (c : Thread nD τ) (0 : CellTallies nD τ sig Unit) Wd) ∗ (∃ r, prngReg c r) ∗ emp)) : sProp 𝕄) := by
  unfold rest
  iintro ⟨Hh, HO, HX⟩
  isplitl [Hh]; · iexact Hh
  isplitl [HO]; · iexact HO
  isplitl [HX]; · iexact HX
  iempintro
theorem rest_out0 (c : Dev nD) : (iprop(StableHlo.held (c.tc : Thread nD τ) (Pipeline.ucRefs τ sig) (W1 m c) ∗ ((∃ Wd, owes (c : Thread nD τ) (0 : CellTallies nD τ sig Unit) Wd) ∗ (∃ r, prngReg c r) ∗ emp)) : sProp 𝕄)
    ⊢ iprop(StableHlo.held (c : Thread nD τ) (Pipeline.ucRefs τ sig) (W1 m c) ∗ rest c) := by
  unfold rest
  iintro ⟨Hh, HO, HX, -⟩
  isplitl [Hh]; · iexact Hh
  isplitl [HO]; · iexact HO
  iexact HX

set_option backward.isDefEq.respectTransparency.types false in
theorem reg0_pre (c : Dev nD) :
    iprop(StableHlo.held (c : Thread nD τ) (Pipeline.ucRefs τ sig) (V2 m c) ∗ rest c) ⊢ (reg0 m).pre c := by
  refine (rest_in0 m c).trans ?_
  unfold reg0
  exact RegionSeg.ofHeldIn_pre (pcs := pcfgs (F := F)) (a := adm) (pdats := pdats m) (ι := ()) (defs₀ := defs₀) (𝒱₀ := 𝒱₀) (L := L) (lv := lv) (D := fun _ => 0) (p := 0) (X := fun c => iprop(∃ r, prngReg c r)) (R := fun _ => iprop(emp)) (W := V2 m) arrs0 c

set_option backward.isDefEq.respectTransparency.types false in
theorem reg0_post (c : Dev nD) :
    (reg0 m).post c ⊢ iprop(StableHlo.held (c : Thread nD τ) (Pipeline.ucRefs τ sig) (W1 m c) ∗ rest c) := by
  refine BI.Entails.trans ?_ (rest_out0 m c)
  unfold reg0 W1
  exact RegionSeg.ofHeldIn_post (p := 0) (Y := fun c => iprop(∃ r, prngReg c r)) (R := fun _ => iprop(emp)) (W := V2 m) arrs0 c

set_option backward.isDefEq.respectTransparency.types false in
/-- Region 1's record. -/
def reg1 : RegionSeg (pcfgs (F := F)) adm (pdats m) () defs₀ 𝒱₀ L lv 1 :=
  RegionSeg.ofHeldIn (pcfgs (F := F)) adm (pdats m) () defs₀ 𝒱₀ L lv 1 (fun _ => 0) (Pipeline.ucRefs τ sig) (fun c => iprop(∃ r, prngReg c r)) (fun c => iprop(∃ r, prngReg c r))
    (launch1.toP) rfl (fun c => (body_obligation1 (W1 m) c).loose) (fun _ _ => rfl) (fun _ => rfl)
    (fun c => (pdats m 1 c).share_full fun _ => rfl) (fun c => hin1 (W1 m) c) (fun c => hout1 (W1 m) c)
    (fun _ => 0) (cut (F := F) 1) (fun _ => iprop(emp)) (W1 m) (fun c w => A1_eq (W1 m) c w)

set_option backward.isDefEq.respectTransparency.types false in
theorem arrs1 : Pipeline.arrRefs (pcfgs (F := F) 1).spec ⊆ Pipeline.ucRefs τ sig := Pipeline.arrRefs_sub_ucRefs _ winFacts1.arr_unscoped

theorem rest_in1 (c : Dev nD) : iprop(StableHlo.held (c : Thread nD τ) (Pipeline.ucRefs τ sig) (W1 m c) ∗ rest c)
    ⊢ (iprop(StableHlo.held (c.tc : Thread nD τ) (Pipeline.ucRefs τ sig) (W1 m c) ∗ ((∃ Wd, owes (c : Thread nD τ) (0 : CellTallies nD τ sig Unit) Wd) ∗ (∃ r, prngReg c r) ∗ emp)) : sProp 𝕄) := by
  unfold rest
  iintro ⟨Hh, HO, HX⟩
  isplitl [Hh]; · iexact Hh
  isplitl [HO]; · iexact HO
  isplitl [HX]; · iexact HX
  iempintro
theorem rest_out1 (c : Dev nD) : (iprop(StableHlo.held (c.tc : Thread nD τ) (Pipeline.ucRefs τ sig) (W2 m c) ∗ ((∃ Wd, owes (c : Thread nD τ) (0 : CellTallies nD τ sig Unit) Wd) ∗ (∃ r, prngReg c r) ∗ emp)) : sProp 𝕄)
    ⊢ iprop(StableHlo.held (c : Thread nD τ) (Pipeline.ucRefs τ sig) (W2 m c) ∗ rest c) := by
  unfold rest
  iintro ⟨Hh, HO, HX, -⟩
  isplitl [Hh]; · iexact Hh
  isplitl [HO]; · iexact HO
  iexact HX

set_option backward.isDefEq.respectTransparency.types false in
theorem reg1_pre (c : Dev nD) :
    iprop(StableHlo.held (c : Thread nD τ) (Pipeline.ucRefs τ sig) (W1 m c) ∗ rest c) ⊢ (reg1 m).pre c := by
  refine (rest_in1 m c).trans ?_
  unfold reg1
  exact RegionSeg.ofHeldIn_pre (pcs := pcfgs (F := F)) (a := adm) (pdats := pdats m) (ι := ()) (defs₀ := defs₀) (𝒱₀ := 𝒱₀) (L := L) (lv := lv) (D := fun _ => 0) (p := 1) (X := fun c => iprop(∃ r, prngReg c r)) (R := fun _ => iprop(emp)) (W := W1 m) arrs1 c

set_option backward.isDefEq.respectTransparency.types false in
theorem reg1_post (c : Dev nD) :
    (reg1 m).post c ⊢ iprop(StableHlo.held (c : Thread nD τ) (Pipeline.ucRefs τ sig) (W2 m c) ∗ rest c) := by
  refine BI.Entails.trans ?_ (rest_out1 m c)
  unfold reg1 W2
  exact RegionSeg.ofHeldIn_post (p := 1) (Y := fun c => iprop(∃ r, prngReg c r)) (R := fun _ => iprop(emp)) (W := W1 m) arrs1 c

/-- The host suffix. -/
def segTail : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) rest

/-- The program's items. -/
abbrev items (_ : Dev nD) : List (Seg (pcfgs (F := F)) adm (pdats m) () defs₀ 𝒱₀ L lv) :=
  [.host (seg0 m 𝒱₀ L lv (fun _ => rest)), .host (seg1 m 𝒱₀ L lv (fun _ => rest)), .region (reg0 m), .region (reg1 m), .host (segTail m)]

set_option backward.isDefEq.respectTransparency.types false in
/-- From any memory with zero counters the program terminates with every buffer at `W3` and every counter at zero. -/
theorem run_all : θ_run defs (onTc (τ := τ) (main (F := F))) ⟨m, fun _ => 0, ρ⟩
    (fun r => (∀ c : Dev nD, ∀ b ∈ Pipeline.ucRefs τ sig, r.2.mem ((c : Thread nD τ).1, b) = W3 m c b) ∧ r.2.sem = fun _ => 0) := by
  refine Pipeline.θ_run_regions_kit_dev_sems (pcfgs (F := F)) adm (pdats m) () cellOf_inj emb₁ defs₀ 𝒱₀ L lv m ρ main (items m)
    (fun c Q => by
      rewrite [main_chain c, Seg.run_eq_chain,
        show (items m c).map Seg.prog = [
          StableHlo.seq hostOps0,
          StableHlo.seq hostOps0_1,
          Prog.lift (.customCall (Pipeline.entry 0) ()),
          Prog.lift (.customCall (Pipeline.entry 1) ()),
          StableHlo.seq hostOps2 ] from rfl]
      exact .rfl)
    (fun c => by simp only [items, Seg.pipes_host, Seg.pipes_region, Seg.pipes_nil]; decide) (O₀ := 0)
    (fun g h => if_neg h) (G := fun _ => iprop(emp)) (u₀ := initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (W3 m c))
    (hch := fun c => ⟨.rfl, .rfl, reg0_pre m c, (reg0_post m c).trans (reg1_pre m c), reg1_post m c, sep_mono .rfl (by
      unfold rest
      iintro ⟨HO, -⟩
      iexact HO)⟩)
    (hinit := by
      refine Pipeline.initEach L lv fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      unfold rest
      iintro ⟨⟨Hh, -, HO, -, Hp, -⟩, -⟩
      imodintro
      isplitl [Hh]; · iexact Hh
      isplitl [HO]; · iexists _; iexact HO
      iexists _; iexact Hp)
    (QY := fun c s => ∀ b ∈ Pipeline.ucRefs τ sig, s.mem ((c.tc : Thread nD τ).1, b) = W3 m c b)
    (hfin := fun c s' => by
      unfold StableHlo.held
      iintro ⟨Hh, HSI⟩
      ihave Hr := (pointsTo_read_all (Pipeline.ucRefs τ sig) (fun b => ((c.tc : Thread nD τ).1, b)) (W3 m c) s') $$ [Hh HSI]
      · isplitl [Hh] <;> iassumption
      imodintro; iexact Hr)
    (hQ := fun _ h hz => ⟨h, funext fun g => hz g (.inr (regions_no_unscoped g.2))⟩)

/-! ## The arguments end as they began -/

theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- A buffer that no host operation writes and no region writes ends as launched. -/
theorem W3_keeps (c : Dev nD) (r : Ref sig .tc) (h0 : r ∉ hostOps0_W) (h1 : r ∉ hostOps0_1_W) (h2 : r ∉ hostOps2_W)
    (k0 : ∀ w, Pipeline.arrRef spec0 w = r → (cfg0.win w).isOut = false) (k1 : ∀ w, Pipeline.arrRef spec1 w = r → (cfg1.win w).isOut = false) :
    W3 m c r = m ((c : Thread nD τ).loc r) :=
  (StableHlo.after_of_writes_sub hostOps2 _ hostOps2_writes h2).trans <|
  (Pipeline.afterRegion_keeps (dat1 (W1 m) c) (W1 m c) launch1.win.arr_inj (A1_eq (W1 m) c) r k1).trans <|
  (Pipeline.afterRegion_keeps (dat0 (V2 m) c) (V2 m c) launch0.win.arr_inj (A0_eq (V2 m) c) r k0).trans <|
  (V2_of m c r h1).trans <| (V1_of m c r h0).trans rfl

theorem W3_arg0 (c : Dev nD) : W3 m c main_arg0 = m ((c : Thread nD τ).loc main_arg0) :=
  W3_keeps m c main_arg0 (by decide) (by decide) (by decide) (by decide) (by decide)
theorem W3_arg1 (c : Dev nD) : W3 m c main_arg1 = m ((c : Thread nD τ).loc main_arg1) :=
  W3_keeps m c main_arg1 (by decide) (by decide) (by decide) (by decide) (by decide)
theorem W3_arg2 (c : Dev nD) : W3 m c main_arg2 = m ((c : Thread nD τ).loc main_arg2) :=
  W3_keeps m c main_arg2 (by decide) (by decide) (by decide) (by decide) (by decide)
theorem W3_arg3 (c : Dev nD) : W3 m c main_arg3 = m ((c : Thread nD τ).loc main_arg3) :=
  W3_keeps m c main_arg3 (by decide) (by decide) (by decide) (by decide) (by decide)
theorem W3_arg4 (c : Dev nD) : W3 m c main_arg4 = m ((c : Thread nD τ).loc main_arg4) :=
  W3_keeps m c main_arg4 (by decide) (by decide) (by decide) (by decide) (by decide)
theorem W3_arg5 (c : Dev nD) : W3 m c main_arg5 = m ((c : Thread nD τ).loc main_arg5) :=
  W3_keeps m c main_arg5 (by decide) (by decide) (by decide) (by decide) (by decide)
theorem W3_arg6 (c : Dev nD) : W3 m c main_arg6 = m ((c : Thread nD τ).loc main_arg6) :=
  W3_keeps m c main_arg6 (by decide) (by decide) (by decide) (by decide) (by decide)
theorem W3_arg7 (c : Dev nD) : W3 m c main_arg7 = m ((c : Thread nD τ).loc main_arg7) :=
  W3_keeps m c main_arg7 (by decide) (by decide) (by decide) (by decide) (by decide)
theorem W3_arg8 (c : Dev nD) : W3 m c main_arg8 = m ((c : Thread nD τ).loc main_arg8) :=
  W3_keeps m c main_arg8 (by decide) (by decide) (by decide) (by decide) (by decide)
theorem W3_arg9 (c : Dev nD) : W3 m c main_arg9 = m ((c : Thread nD τ).loc main_arg9) :=
  W3_keeps m c main_arg9 (by decide) (by decide) (by decide) (by decide) (by decide)
theorem W3_arg10 (c : Dev nD) : W3 m c main_arg10 = m ((c : Thread nD τ).loc main_arg10) :=
  W3_keeps m c main_arg10 (by decide) (by decide) (by decide) (by decide) (by decide)

/-- The frame: the program terminates with its arguments as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_mono (run_all m ρ) fun r h => ⟨fun c => ⟨(h.1 c _ (mem_uc main_arg0 rfl)).trans (W3_arg0 m c), (h.1 c _ (mem_uc main_arg1 rfl)).trans (W3_arg1 m c), (h.1 c _ (mem_uc main_arg2 rfl)).trans (W3_arg2 m c), (h.1 c _ (mem_uc main_arg3 rfl)).trans (W3_arg3 m c), (h.1 c _ (mem_uc main_arg4 rfl)).trans (W3_arg4 m c), (h.1 c _ (mem_uc main_arg5 rfl)).trans (W3_arg5 m c), (h.1 c _ (mem_uc main_arg6 rfl)).trans (W3_arg6 m c), (h.1 c _ (mem_uc main_arg7 rfl)).trans (W3_arg7 m c), (h.1 c _ (mem_uc main_arg8 rfl)).trans (W3_arg8 m c), (h.1 c _ (mem_uc main_arg9 rfl)).trans (W3_arg9 m c), (h.1 c _ (mem_uc main_arg10 rfl)).trans (W3_arg10 m c)⟩, h.2⟩

end Cert.KernelIdeal.Hand

end
-- ==== Proof.Frames.lean ====
module

public import proofs.«01_k».proof.Defs
public import proofs.«01_k».proof.Proof.Bits.Run
public import proofs.«01_k».proof.Proof.Ideal.Run
public import proofs.«01_k».proof.Proof.Gen.ReferenceIdeal.Run
public import Idealize.ShloMosaic.Lib.Quiescent
public import Idealize.ShloMosaic.Lib.Decide

/-!
# The frames, and the named constant

Each program terminates with its arguments unchanged and its semaphore counters back at zero; the constant named "mask"
of the ideal kernel is the bottom of the extended reals.
-/

@[expose] public section

noncomputable section

namespace Cert.Hand

open Idealize.ShloMosaic Idealize.SL.Sem

/-- The shape facts the precondition states of itself. -/
theorem preFacts : Cert.Pre_inputs_ok.Facts where
  h_S_ := by decide
  bcast_S_S4 := by decide
  reducesTo_S4_S_d0 := by decide
  bcast_S_S32002x1024 := by decide
  reducesTo_S32002x1024_S_d0_1 := by decide
  bcast_S_S1024x3072 := by decide
  reducesTo_S1024x3072_S_d0_1 := by decide
  bcast_S_S1024x1024 := by decide
  reducesTo_S1024x1024_S_d0_1 := by decide
  bcast_S_S1024x4096 := by decide
  reducesTo_S1024x4096_S_d0_1 := by decide
  bcast_S_S4096x1024 := by decide
  reducesTo_S4096x1024_S_d0_1 := by decide
  bcast_S_S1024x32000 := by decide
  reducesTo_S1024x32000_S_d0_1 := by decide
  bcast_S_S3 := by decide
  reducesTo_S3_S_d0 := by decide

instance : Cert.Pre_inputs_ok.Facts := preFacts

theorem frame_p : Cert.quiescent_Kernel := fun m ρ _ => Cert.Kernel.Hand.frame_run m ρ

theorem frame_pi : Cert.quiescent_KernelIdeal := fun m ρ _ => Cert.KernelIdeal.Hand.frame_run m ρ

theorem frame_pi_pre : Cert.quiescent_KernelIdeal_pre_inputs_ok := fun m ρ _ => Cert.KernelIdeal.Hand.frame_run m ρ

theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frame_ri_pre : Cert.quiescent_ReferenceIdeal_pre_inputs_ok := fun m ρ _ => frame_ri m ρ trivial

theorem preserves : Cert.preserves_Kernel_KernelIdeal :=
  IdealRules.named_const.statement Cert.KernelIdeal.κ "mask" .f32 0xF149F2CA#32 ⊥ rfl

end Cert.Hand

end
-- ==== Proof.Value.Real.lean ====
module

public import Idealize.ShloMosaic.PureOps.Ideal.Laws
public import Idealize.ShloMosaic.Lib.ValueIdx
public import Idealize.ShloMosaic.Lib.IdealHost
public import Idealize.ShloMosaic.Lib.MatmulPlain
public import Idealize.ShloMosaic.Lib.Pointwise
public import Idealize.ShloMosaic.Lib.ValueLayout
public import Idealize.ShloMosaic.Lib.ValueLayoutCasts

/-!
# Arrays of real numbers

An array of extended reals whose entries are all real is described by a function of natural numbers: `Is2 v A` says that
the entry of `v` at row `i` and column `j` is the real number `A i j`. One lemma per operation says what function the
result is described by.
-/

@[expose] public section

noncomputable section

namespace Cert.Real

open Idealize.ShloMosaic
open scoped BigOperators

abbrev R1 := ℕ → ℝ
abbrev R2 := ℕ → ℕ → ℝ
abbrev R3 := ℕ → ℕ → ℕ → ℝ
abbrev R4 := ℕ → ℕ → ℕ → ℕ → ℝ

/-- The scalar `c` is the real `r`. -/
def Is0 (c : EReal) (r : ℝ) : Prop := c = (r : EReal)
def Is1 {n : ℕ} (v : (⟨1, ![n]⟩ : Shape).Idx → EReal) (A : R1) : Prop := ∀ i : Fin n, v (ix1 i) = ((A i : ℝ) : EReal)
def Is2 {n m : ℕ} (v : (⟨2, ![n, m]⟩ : Shape).Idx → EReal) (A : R2) : Prop :=
  ∀ (i : Fin n) (j : Fin m), v (ix2 i j) = ((A i j : ℝ) : EReal)
def Is3 {n m k : ℕ} (v : (⟨3, ![n, m, k]⟩ : Shape).Idx → EReal) (A : R3) : Prop :=
  ∀ (i : Fin n) (j : Fin m) (l : Fin k), v (ix3 i j l) = ((A i j l : ℝ) : EReal)
def Is4 {n m k q : ℕ} (v : (⟨4, ![n, m, k, q]⟩ : Shape).Idx → EReal) (A : R4) : Prop :=
  ∀ (i : Fin n) (j : Fin m) (l : Fin k) (p : Fin q), v (ix4 i j l p) = ((A i j l p : ℝ) : EReal)
/-- Every entry of `v`, of any shape, is the real that `A` gives. -/
def IsR {s : Shape} (v : s.Idx → EReal) (A : s.Idx → ℝ) : Prop := ∀ i, v i = ((A i : ℝ) : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals over the indices below `n`. -/
theorem sum_fin {n : ℕ} (f : Fin n → EReal) (g : ℕ → ℝ) (h : ∀ i : Fin n, f i = ((g i : ℝ) : EReal)) :
    ∑ i : Fin n, f i = ((∑ i ∈ Finset.range n, g i : ℝ) : EReal) := by
  rw [← Fin.sum_univ_eq_sum_range g n, coe_sum]
  exact Finset.sum_congr rfl fun i _ => h i

theorem sum_mul_fin {n : ℕ} (a b : Fin n → EReal) (A B : ℕ → ℝ) (ha : ∀ i : Fin n, a i = ((A i : ℝ) : EReal))
    (hb : ∀ i : Fin n, b i = ((B i : ℝ) : EReal)) :
    ∑ i : Fin n, a i * b i = ((∑ i ∈ Finset.range n, A i * B i : ℝ) : EReal) :=
  sum_fin _ (fun i => A i * B i) fun i => by rw [ha, hb]; exact (EReal.coe_mul _ _).symm

theorem div_real {a b : EReal} {x y : ℝ} (ha : a = (x : EReal)) (hb : b = (y : EReal)) (hy : y ≠ 0) :
    Ideal.div a b = ((x / y : ℝ) : EReal) := by
  rw [ha, hb, Ideal.div_coe hy, ← EReal.coe_mul, div_eq_mul_inv x y, one_div]

/-! ## Scalars -/

section scalar
variable {a b : EReal} {x y : ℝ}
theorem Is0.add (ha : Is0 a x) (hb : Is0 b y) : Is0 (a + b) (x + y) := by unfold Is0 at *; rw [ha, hb, EReal.coe_add]
theorem Is0.sub (ha : Is0 a x) (hb : Is0 b y) : Is0 (a - b) (x - y) := by unfold Is0 at *; rw [ha, hb, EReal.coe_sub]
theorem Is0.mul (ha : Is0 a x) (hb : Is0 b y) : Is0 (a * b) (x * y) := by unfold Is0 at *; rw [ha, hb, EReal.coe_mul]
theorem Is0.div (ha : Is0 a x) (hb : Is0 b y) (hy : y ≠ 0) : Is0 (Ideal.div a b) (x / y) := div_real ha hb hy
theorem Is0.sqrt (ha : Is0 a x) (hx : 0 ≤ x) : Is0 (Ideal.sqrt a) (Real.sqrt x) := by
  unfold Is0 at *; rw [ha, Ideal.sqrt_coe, if_neg (not_lt.mpr hx)]
theorem Is0.rsqrt (ha : Is0 a x) (hx : 0 < x) : Is0 (Ideal.rsqrt a) (Real.sqrt x)⁻¹ := by
  unfold Is0 at *; rw [ha, Ideal.rsqrt_coe, if_neg (not_lt.mpr hx.le), if_neg hx.ne']
theorem Is0.exp (ha : Is0 a x) : Is0 (Ideal.exp a) (Real.exp x) := by unfold Is0 at *; rw [ha, Ideal.exp_coe]
theorem Is0.tanh (ha : Is0 a x) : Is0 (Ideal.tanh a) (Real.tanh x) := by unfold Is0 at *; rw [ha, Ideal.tanh_coe]
theorem Is0.log (ha : Is0 a x) (hx : 0 < x) : Is0 (Ideal.log a) (Real.log x) := by
  unfold Is0 at *; rw [ha, Ideal.log_coe, if_neg (not_le.mpr hx)]
theorem Is0.neg (ha : Is0 a x) : Is0 (-a) (-x) := by unfold Is0 at *; rw [ha, EReal.coe_neg]
theorem Is0.max (ha : Is0 a x) (hb : Is0 b y) : Is0 (max a b) (max x y) := by
  unfold Is0 at *; rw [ha, hb]; exact (EReal.coe_strictMono.monotone.map_max).symm
end scalar

/-! ## Two axes -/

section two
variable {n m k : ℕ} {φ ψ : FTy}

theorem Is2.congr {a : FVec Ideal ⟨2, ![n, m]⟩ φ} {A B : R2} (h : Is2 a A) (e : ∀ i < n, ∀ j < m, A i j = B i j) : Is2 a B :=
  fun i j => by rw [h i j, e i i.isLt j j.isLt]

theorem Is1.congr {a : FVec Ideal ⟨1, ![n]⟩ φ} {A B : R1} (h : Is1 a A) (e : ∀ i < n, A i = B i) : Is1 a B :=
  fun i => by rw [h i, e i i.isLt]

theorem Is2.addf {a b : FVec Ideal ⟨2, ![n, m]⟩ φ} {A B : R2} (ha : Is2 a A) (hb : Is2 b B) :
    Is2 (addf a b) (fun i j => A i j + B i j) := fun i j => Is0.add (ha i j) (hb i j)
theorem Is2.subf {a b : FVec Ideal ⟨2, ![n, m]⟩ φ} {A B : R2} (ha : Is2 a A) (hb : Is2 b B) :
    Is2 (subf a b) (fun i j => A i j - B i j) := fun i j => Is0.sub (ha i j) (hb i j)
theorem Is2.mulf {a b : FVec Ideal ⟨2, ![n, m]⟩ φ} {A B : R2} (ha : Is2 a A) (hb : Is2 b B) :
    Is2 (mulf a b) (fun i j => A i j * B i j) := fun i j => Is0.mul (ha i j) (hb i j)
theorem Is2.divf {a b : FVec Ideal ⟨2, ![n, m]⟩ φ} {A B : R2} (ha : Is2 a A) (hb : Is2 b B) (h : ∀ i < n, ∀ j < m, B i j ≠ 0) :
    Is2 (divf a b) (fun i j => A i j / B i j) := fun i j => Is0.div (ha i j) (hb i j) (h i i.isLt j j.isLt)
theorem Is2.rsqrt {a : FVec Ideal ⟨2, ![n, m]⟩ φ} {A : R2} (ha : Is2 a A) (h : ∀ i < n, ∀ j < m, 0 < A i j) :
    Is2 (rsqrt a) (fun i j => (Real.sqrt (A i j))⁻¹) := fun i j => Is0.rsqrt (ha i j) (h i i.isLt j j.isLt)
theorem Is2.tanh {a : FVec Ideal ⟨2, ![n, m]⟩ φ} {A : R2} (ha : Is2 a A) :
    Is2 (tanh a) (fun i j => Real.tanh (A i j)) := fun i j => Is0.tanh (ha i j)
theorem Is2.truncf {a : FVec Ideal ⟨2, ![n, m]⟩ φ} {A : R2} (ha : Is2 a A) (h : ψ.bits < φ.bits) :
    Is2 (truncf ψ a h) A := fun i j => ha i j
theorem Is2.extf {a : FVec Ideal ⟨2, ![n, m]⟩ φ} {A : R2} (ha : Is2 a A) (h : φ.bits < ψ.bits) :
    Is2 (extf ψ a h) A := fun i j => ha i j
theorem Is2.broadcast {c : Ideal φ} {r : ℝ} (h : Is0 c r) : Is2 (broadcast (⟨2, ![n, m]⟩ : Shape) c) (fun _ _ => r) :=
  fun _ _ => h

theorem Is1.colCast {a : FVec Ideal ⟨1, ![n]⟩ φ} {A : R1} (ha : Is1 a A) (h : (⟨1, ![n]⟩ : Shape).ShapeCasts ⟨2, ![n, 1]⟩) :
    Is2 (shapeCast ⟨2, ![n, 1]⟩ a h) (fun i _ => A i) := by
  intro i j
  exact (ValueIdx.shapeCast_a_a1_apply a h i j).trans (ha i)

theorem Is2.colBroadcast {a : FVec Ideal ⟨2, ![n, 1]⟩ φ} {A : R2} (ha : Is2 a A)
    (h : (⟨2, ![n, 1]⟩ : Shape).Broadcasts ⟨2, ![n, m]⟩) : Is2 (broadcastTo ⟨2, ![n, m]⟩ a h) (fun i _ => A i 0) := by
  intro i j
  refine (broadcastTo_apply a h (ix2 i j) (ix2 i (0 : Fin 1)) fun ax => ?_).trans (ha i 0)
  match ax with
  | ⟨0, _⟩ =>
    show i.val = if n = 1 then 0 else i.val
    split
    · have := i.isLt; omega
    · rfl
  | ⟨1, _⟩ => rfl

theorem Is2.rowSum {a : FVec Ideal ⟨2, ![n, m]⟩ .f32} {A : R2} (ha : Is2 a A)
    (h : (⟨2, ![n, m]⟩ : Shape).Reduces [1] ⟨1, ![n]⟩) (hφ) (hacc) :
    Is1 (multiReduction .add [1] ⟨1, ![n]⟩ a 0x00000000#32 h hφ hacc) (fun i => ∑ j ∈ Finset.range m, A i j) := by
  intro i
  pointwise
  exact sum_fin _ _ fun j => ha i j

/-- The product of two matrices whose common extent is `K`. -/
def mm (K : ℕ) (A B : R2) : R2 := fun i j => ∑ k ∈ Finset.range K, A i k * B k j
/-- The product with the second matrix transposed. -/
def mmT (K : ℕ) (A B : R2) : R2 := fun i j => ∑ k ∈ Finset.range K, A i k * B j k

theorem Is2.matmul {a : FVec Ideal ⟨2, ![n, k]⟩ φ} {b : FVec Ideal ⟨2, ![k, m]⟩ ψ} {A B : R2} (prec : Option ContractPrecision)
    (ha : Is2 a A) (hb : Is2 b B) :
    Is2 (Idealize.ShloMosaic.matmul (DotDims.plain n k m) prec a b (constant ⟨2, ![n, m]⟩ .f32 0x00000000#32)) (mm k A B) := by
  intro i j
  refine (Ideal.matmul_plain_apply prec a b _ i j).trans ?_
  rw [ValueIdx.constant_apply, Ideal.ofBits_zero_f32, zero_add]
  exact sum_mul_fin _ _ (fun l => A i l) (fun l => B l j) (fun l => ha i l) fun l => hb l j

theorem Is2.matmulT {a : FVec Ideal ⟨2, ![n, k]⟩ φ} {b : FVec Ideal ⟨2, ![m, k]⟩ ψ} {A B : R2} (prec : Option ContractPrecision)
    (ha : Is2 a A) (hb : Is2 b B) :
    Is2 (Idealize.ShloMosaic.matmul (DotDims.transposedRhs n k m) prec a b (constant ⟨2, ![n, m]⟩ .f32 0x00000000#32)) (mmT k A B) := by
  intro i j
  refine (Ideal.matmul_transposedRhs_apply prec a b _ i j).trans ?_
  rw [ValueIdx.constant_apply, Ideal.ofBits_zero_f32, zero_add]
  exact sum_mul_fin _ _ (fun l => A i l) (fun l => B j l) (fun l => ha i l) fun l => hb j l

theorem Is2.slice {p q o₀ o₁ : ℕ} {a : FVec Ideal ⟨2, ![n, m]⟩ φ} {A : R2} (ha : Is2 a A)
    (h : (⟨2, ![n, m]⟩ : Shape).Slices ![o₀, o₁] ⟨2, ![p, q]⟩) :
    Is2 (extractStridedSlice ⟨2, ![p, q]⟩ ![o₀, o₁] a h) (fun i j => A (o₀ + i) (o₁ + j)) :=
  fun i j => (congrArg a (eq_ix2 _)).trans (ha _ _)

end two

end Cert.Real

end
-- ==== Proof.Value.Wide.lean ====
module

public import proofs.«01_k».proof.Proof.Value.Real

/-!
# Arrays of extended reals, and what an infinite entry does to a normalisation

A normalisation takes the mean off and divides by the deviation. If an entry is infinite, then so are the mean, every
difference from it and the deviation, and everything becomes zero.
-/

@[expose] public section

noncomputable section

namespace Cert.Real

open Idealize.ShloMosaic
open scoped BigOperators

abbrev E2 := ℕ → ℕ → EReal
abbrev E3 := ℕ → ℕ → ℕ → EReal

/-- The entries of `v` are given by `A`. -/
def At2 {n m : ℕ} (v : (⟨2, ![n, m]⟩ : Shape).Idx → EReal) (A : E2) : Prop := ∀ (i : Fin n) (j : Fin m), v (ix2 i j) = A i j
def At3 {n m k : ℕ} (v : (⟨3, ![n, m, k]⟩ : Shape).Idx → EReal) (A : E3) : Prop :=
  ∀ (i : Fin n) (j : Fin m) (l : Fin k), v (ix3 i j l) = A i j l

/-- A matrix of reals among the extended reals. -/
def wide (A : R2) : E2 := fun i j => ((A i j : ℝ) : EReal)

theorem Is2.wide {n m : ℕ} {v : (⟨2, ![n, m]⟩ : Shape).Idx → EReal} {A : R2} (h : Is2 v A) : At2 v (wide A) := h

/-- The product of two matrices whose common extent is `K`. -/
def mmE (K : ℕ) (A B : E2) : E2 := fun i j => ∑ k ∈ Finset.range K, A i k * B k j

theorem sum_mul_at {n : ℕ} (a b : Fin n → EReal) (A B : ℕ → EReal) (ha : ∀ i : Fin n, a i = A i) (hb : ∀ i : Fin n, b i = B i) :
    ∑ i : Fin n, a i * b i = ∑ i ∈ Finset.range n, A i * B i := by
  rw [← Fin.sum_univ_eq_sum_range (fun i => A i * B i) n]
  exact Finset.sum_congr rfl fun i _ => by rw [ha, hb]

/-- A row of reals times a matrix of reals. -/
theorem mmE_real {K i j : ℕ} {A B : E2} {a b : R1} (ha : ∀ k < K, A i k = ((a k : ℝ) : EReal)) (hb : ∀ k < K, B k j = ((b k : ℝ) : EReal)) :
    mmE K A B i j = ((∑ k ∈ Finset.range K, a k * b k : ℝ) : EReal) := by
  unfold mmE
  rw [coe_sum]
  exact Finset.sum_congr rfl fun k hk => by
    rw [ha k (Finset.mem_range.mp hk), hb k (Finset.mem_range.mp hk), EReal.coe_mul]

section two
variable {n m k : ℕ} {φ ψ : FTy}

theorem At2.congr {a : FVec Ideal ⟨2, ![n, m]⟩ φ} {A B : E2} (h : At2 a A) (e : ∀ i < n, ∀ j < m, A i j = B i j) : At2 a B :=
  fun i j => by rw [h i j, e i i.isLt j j.isLt]

theorem At2.addf {a b : FVec Ideal ⟨2, ![n, m]⟩ φ} {A B : E2} (ha : At2 a A) (hb : At2 b B) :
    At2 (addf a b) (fun i j => A i j + B i j) := fun i j => congrArg₂ (· + ·) (ha i j) (hb i j)

theorem At2.matmul {a : FVec Ideal ⟨2, ![n, k]⟩ φ} {b : FVec Ideal ⟨2, ![k, m]⟩ ψ} {A B : E2} (prec : Option ContractPrecision)
    (ha : At2 a A) (hb : At2 b B) :
    At2 (Idealize.ShloMosaic.matmul (DotDims.plain n k m) prec a b (constant ⟨2, ![n, m]⟩ .f32 0x00000000#32)) (mmE k A B) := by
  intro i j
  refine (Ideal.matmul_plain_apply prec a b _ i j).trans ?_
  rw [ValueIdx.constant_apply, Ideal.ofBits_zero_f32, zero_add]
  exact sum_mul_at _ _ (fun l => A i l) (fun l => B l j) (fun l => ha i l) fun l => hb l j

theorem At2.slice {p q o₀ o₁ : ℕ} {a : FVec Ideal ⟨2, ![n, m]⟩ φ} {A : E2} (ha : At2 a A)
    (h : (⟨2, ![n, m]⟩ : Shape).Slices ![o₀, o₁] ⟨2, ![p, q]⟩) :
    At2 (extractStridedSlice ⟨2, ![p, q]⟩ ![o₀, o₁] a h) (fun i j => A (o₀ + i) (o₁ + j)) :=
  fun i j => (congrArg a (eq_ix2 _)).trans (ha _ _)

end two

/-! ## Infinite entries -/

/-- An infinite number. -/
def Inf (x : EReal) : Prop := x = ⊤ ∨ x = ⊥

theorem real_of_not_inf {x : EReal} (h : ¬ Inf x) : x = ((x.toReal : ℝ) : EReal) :=
  (EReal.coe_toReal (fun e => h (.inl e)) fun e => h (.inr e)).symm

theorem not_inf_coe (r : ℝ) : ¬ Inf (r : EReal) := by rintro (h | h) <;> simp at h

section sums
variable {ι : Type*} [Fintype ι] {r : ι → EReal} {c : ℝ}

theorem sum_bot (i : ι) (h : r i = ⊥) : ∑ k, r k = ⊥ := by
  classical
  rw [← Finset.add_sum_erase _ _ (Finset.mem_univ i), h, EReal.bot_add]

theorem sum_top (i : ι) (h : r i = ⊤) (hb : ∀ k, r k ≠ ⊥) : ∑ k, r k = ⊤ := by
  classical
  rw [← Finset.add_sum_erase _ _ (Finset.mem_univ i), h]
  refine EReal.top_add_of_ne_bot ?_
  refine Finset.sum_induction _ (· ≠ ⊥) (fun a b ha hb e => ?_) (by simp) fun k _ => hb k
  rcases EReal.add_eq_bot_iff.mp e with e | e
  · exact ha e
  · exact hb e

theorem div_top (hc : 0 < c) : Ideal.div ⊤ (c : EReal) = ⊤ := by
  rw [Ideal.div_coe hc.ne', EReal.top_mul_coe_of_pos (by positivity)]
theorem div_bot (hc : 0 < c) : Ideal.div ⊥ (c : EReal) = ⊥ := by
  rw [Ideal.div_coe hc.ne', EReal.bot_mul_coe_of_pos (by positivity)]

/-- If an entry is infinite, every difference from the mean is, -/
theorem spread (hc : 0 < c) (h : ∃ i, Inf (r i)) (i : ι) : Inf (r i - Ideal.div (∑ k, r k) (c : EReal)) := by
  by_cases hb : ∃ k, r k = ⊥
  · obtain ⟨k, hk⟩ := hb
    rw [sum_bot k hk, div_bot hc]
    by_cases hi : r i = ⊥
    · right; rw [hi, EReal.bot_sub]
    · left; rw [sub_eq_add_neg, EReal.neg_bot, EReal.add_top_of_ne_bot hi]
  · obtain ⟨k, hk⟩ := h
    have hk : r k = ⊤ := hk.resolve_right fun e => hb ⟨k, e⟩
    rw [sum_top k hk fun j e => hb ⟨j, e⟩, div_top hc]
    right; rw [EReal.sub_top]

theorem Inf.sq {x : EReal} (h : Inf x) : x * x = ⊤ := by
  rcases h with rfl | rfl
  · exact EReal.top_mul_top
  · exact EReal.bot_mul_bot

/-- and the variance is. -/
theorem spread_sq (hc : 0 < c) (h : ∃ i, Inf (r i)) {m : EReal} (hm : m = Ideal.div (∑ k, r k) (c : EReal)) :
    Ideal.div (∑ i, (r i - m) * (r i - m)) (c : EReal) = ⊤ := by
  subst hm
  have hs := fun i => (spread hc h i).sq
  obtain ⟨i, _⟩ := h
  rw [sum_top i (hs i) fun k => by rw [hs k]; exact bot_lt_top.ne', div_top hc]

end sums

end Cert.Real

end
-- ==== Proof.Value.Spec.lean ====
module

public import proofs.«01_k».proof.Proof.Value.Wide
public import Mathlib.Analysis.SpecialFunctions.Exp
public import Mathlib.Analysis.SpecialFunctions.Log.Basic

/-!
# The block and the loss, over the reals

What one image's rows become: row normalisation, causal attention by heads, the two-layer network; then the loss of one
row of logits. Rows are counted by natural numbers, so that an array padded with further rows has the same description. The
rows themselves may be infinite; what is computed of them is real and added to them.
-/

@[expose] public section

noncomputable section

namespace Cert.Real

open Idealize.ShloMosaic
open scoped BigOperators

/-! ## Float literals -/

/-- The real that a single-precision word stands for. -/
def lit (b : BitVec 32) : ℝ := (Ideal.ofBits .f32 b).toReal

theorem lit_is (b : BitVec 32) (h : (b.extractLsb' 23 8).toNat ≠ 255 := by decide) : Is0 (Ideal.ofBits .f32 b) (lit b) := by
  unfold Is0 lit
  have h' : ¬ (b.extractLsb' 23 8).toNat = 2 ^ 8 - 1 := h
  simp only [Ideal.ofBits, Ideal.ieee]
  rw [if_neg h']
  split <;> rw [EReal.toReal_coe]

theorem lit_pos (b : BitVec 32) (h : (b.extractLsb' 23 8).toNat ≠ 255 := by decide) (h0 : (b.extractLsb' 23 8).toNat ≠ 0 := by decide)
    (hs : (b.extractLsb' 31 1 == 1#1) = false := by decide) : 0 < lit b := by
  unfold lit
  have h' : ¬ (b.extractLsb' 23 8).toNat = 2 ^ 8 - 1 := h
  simp only [Ideal.ofBits, Ideal.ieee]
  rw [if_neg h', if_neg h0, EReal.toReal_coe]
  have hs' : (b.extractLsb' (8 + 23) 1 == 1#1) = false := hs
  rw [hs']
  simp only [Bool.false_eq_true, if_false, one_mul]
  positivity

theorem lit_eq {b : BitVec 32} {r : ℝ} (h : Ideal.ofBits .f32 b = (r : EReal)) : lit b = r := by
  unfold lit; rw [h, EReal.toReal_coe]

theorem lit_one : lit 0x3F800000#32 = 1 := lit_eq (by rw [Ideal.ofBits_one_f32]; rfl)
theorem lit_eight : lit 0x41000000#32 = 8 := lit_eq (by simp [Ideal.ofBits, Ideal.ieee, -EReal.coe_mul]; norm_num)
theorem lit_eighth : lit 0x3E000000#32 = 1 / 8 := lit_eq (by simp [Ideal.ofBits, Ideal.ieee, -EReal.coe_mul]; norm_num)
theorem lit_quarter : lit 0x3E800000#32 = 1 / 4 := lit_eq (by simp [Ideal.ofBits, Ideal.ieee, -EReal.coe_mul]; norm_num)
theorem lit_four : lit 0x40800000#32 = 4 := lit_eq (by simp [Ideal.ofBits, Ideal.ieee, -EReal.coe_mul]; norm_num)
theorem lit_zero : lit 0x00000000#32 = 0 := lit_eq (by rw [Ideal.ofBits_zero_f32]; rfl)
theorem ofBits_neg_inf : Ideal.ofBits .f32 0xFF800000#32 = ⊥ := by simp [Ideal.ofBits, Ideal.ieee]

/-- The width of a row, 1024. -/
abbrev width : ℝ := lit 0x44800000#32
/-- The small number added to a row's variance. -/
abbrev eps : ℝ := lit 0x3727C5AC#32

/-! ## Row normalisation -/

def mean (X : R2) : R1 := fun i => (∑ j ∈ Finset.range 1024, X i j) / width
def var (X : R2) : R1 := fun i => (∑ j ∈ Finset.range 1024, (X i j - mean X i) * (X i j - mean X i)) / width
def norm (X : R2) : R2 := fun i j => (X i j - mean X i) * (Real.sqrt (var X i + eps))⁻¹

theorem var_eps_pos (X : R2) (i : ℕ) : 0 < var X i + eps := by
  have h : 0 ≤ var X i := div_nonneg (Finset.sum_nonneg fun _ _ => mul_self_nonneg _) (lit_pos _).le
  have := lit_pos 0x3727C5AC#32
  unfold eps
  linarith

open scoped Classical in
/-- The rows as reals, a row with an infinite entry counted as zeros. -/
def tame (X : E2) : R2 := fun i j => if ∀ k < 1024, ¬ Inf (X i k) then (X i j).toReal else 0

/-- A row normalised. -/
def normRow (r : Fin 1024 → EReal) (j : Fin 1024) : EReal :=
  (r j - Ideal.div (∑ k, r k) (Ideal.ofBits .f32 0x44800000#32))
    * Ideal.rsqrt (Ideal.div (∑ k, (r k - Ideal.div (∑ k, r k) (Ideal.ofBits .f32 0x44800000#32)) * (r k - Ideal.div (∑ k, r k) (Ideal.ofBits .f32 0x44800000#32)))
      (Ideal.ofBits .f32 0x44800000#32) + Ideal.ofBits .f32 0x3727C5AC#32)

theorem normRow_is {r : Fin 1024 → EReal} {X : E2} {i : ℕ} (h : ∀ j : Fin 1024, r j = X i j) (j : Fin 1024) :
    Is0 (normRow r j) (norm (tame X) i j) := by
  unfold normRow
  rw [show Ideal.ofBits .f32 0x44800000#32 = ((width : ℝ) : EReal) from lit_is _]
  have hw : 0 < width := lit_pos _
  by_cases hf : ∀ k < 1024, ¬ Inf (X i k)
  · have hr : ∀ k : Fin 1024, r k = ((tame X i k : ℝ) : EReal) := fun k => by
      unfold tame
      rw [if_pos hf, h k]
      exact real_of_not_inf (hf k k.isLt)
    have hm : Is0 (Ideal.div (∑ k, r k) ((width : ℝ) : EReal)) (mean (tame X) i) := Is0.div (sum_fin _ (fun k => tame X i k) hr) rfl hw.ne'
    generalize Ideal.div (∑ k, r k) ((width : ℝ) : EReal) = m at *
    exact Is0.mul (Is0.sub (hr j) hm) (Is0.rsqrt (Is0.add (Is0.div (sum_mul_fin _ _ (fun k => tame X i k - mean (tame X) i) (fun k => tame X i k - mean (tame X) i)
      (fun k => Is0.sub (hr k) hm) fun k => Is0.sub (hr k) hm) rfl hw.ne') (lit_is _)) (var_eps_pos _ _))
  · have h0 : ∀ k, tame X i k = 0 := fun k => by unfold tame; rw [if_neg hf]
    have hi : ∃ k, Inf (r k) := by
      push Not at hf
      obtain ⟨k, hk, e⟩ := hf
      exact ⟨⟨k, hk⟩, by rw [h]; exact e⟩
    rw [spread_sq hw hi rfl, show Ideal.ofBits .f32 0x3727C5AC#32 = ((eps : ℝ) : EReal) from lit_is _, EReal.top_add_coe, Ideal.rsqrt_top, mul_zero]
    unfold Is0 norm mean
    simp [h0]

/-! ## Causal attention of one head -/

/-- The largest of `S 0`, …, `S i`. -/
def top (S : R1) (i : ℕ) : ℝ := (Finset.range (i + 1)).sup' ⟨0, by simp⟩ S
/-- The sum of `exp (S j - top)` over `j ≤ i`. -/
def mass (S : R1) (i : ℕ) : ℝ := ∑ j ∈ Finset.range (i + 1), Real.exp (S j - top S i)
/-- The weight of column `j` in row `i`: zero past the diagonal. -/
def weight (S : R1) (i j : ℕ) : ℝ := if j ≤ i then Real.exp (S j - top S i) / mass S i else 0

theorem mass_pos (S : R1) (i : ℕ) : 0 < mass S i :=
  Finset.sum_pos (fun _ _ => Real.exp_pos _) ⟨0, by simp⟩

/-- The scores of a head. -/
def score (Q : R2) (h : ℕ) : R2 := fun i j => (∑ d ∈ Finset.range 64, Q i (64 * h + d) * Q j (1024 + 64 * h + d)) * (1 / 8)
def attend (Q : R2) (h : ℕ) : R2 := fun i d => ∑ j ∈ Finset.range (i + 1), weight (score Q h i) i j * Q j (2048 + 64 * h + d)
/-- All heads side by side. -/
def heads (Q : R2) : R2 := fun i c => attend Q (c / 64) i (c % 64)

/-! ## The block -/

def qkv (Wqkv : R2) (X : E2) : R2 := mm 1024 (norm (tame X)) Wqkv
def mid (Wqkv Wo : R2) (X : E2) : E2 := fun i j => X i j + ((mm 1024 (heads (qkv Wqkv X)) Wo i j : ℝ) : EReal)
def gelu (y : ℝ) : ℝ :=
  y * (lit 0x3F000000#32 * (1 + Real.tanh (lit 0x3F4C422A#32 * (y + lit 0x3D372713#32 * (y * (y * y))))))
def ffn (W1 W2 : R2) (X : E2) : E2 :=
  fun i j => X i j + ((mm 4096 (fun i j => gelu (mm 1024 (norm (tame X)) W1 i j)) W2 i j : ℝ) : EReal)
def block (Wqkv Wo W1 W2 : R2) (X : E2) : E2 := ffn W1 W2 (mid Wqkv Wo X)

/-- A row of reals stays one. -/
theorem block_real (Wqkv Wo W1 W2 : R2) {X : E2} {i j : ℕ} (h : ∃ r : ℝ, X i j = (r : EReal)) :
    ∃ r : ℝ, block Wqkv Wo W1 W2 X i j = (r : EReal) := by
  obtain ⟨r, h⟩ := h
  unfold block ffn mid
  exact ⟨_, (by rw [h, ← EReal.coe_add, ← EReal.coe_add])⟩

/-! ## One row of masked scores -/

theorem fold_max {n : ℕ} (s : Fin n → EReal) : Finset.fold max (⊥ : EReal) s Finset.univ = Finset.univ.sup s := rfl

section row
variable {n : ℕ} {s : Fin n → EReal} {S : R1} {i : ℕ}

theorem row_max (hi : i < n) (h : ∀ j : Fin n, s j = if j.val ≤ i then ((S j : ℝ) : EReal) else ⊥) :
    Is0 (Finset.fold max (⊥ : EReal) s Finset.univ) (top S i) := by
  unfold Is0
  rw [fold_max]
  apply le_antisymm
  · refine Finset.sup_le fun j _ => ?_
    rw [h j]
    split
    · next hj => exact EReal.coe_le_coe_iff.mpr (Finset.le_sup' S (Finset.mem_range.mpr (Nat.lt_succ_of_le hj)))
    · exact bot_le
  · obtain ⟨j, hj, e⟩ := Finset.exists_mem_eq_sup' (s := Finset.range (i + 1)) ⟨0, by simp⟩ S
    have hj' : j ≤ i := Nat.lt_succ_iff.mp (Finset.mem_range.mp hj)
    unfold top
    rw [e]
    have := Finset.le_sup (f := s) (Finset.mem_univ (⟨j, lt_of_le_of_lt hj' hi⟩ : Fin n))
    rw [h, if_pos hj'] at this
    exact this

theorem row_exp (M : ℝ) {x : EReal} {y : ℝ} {p : Prop} [Decidable p] (h : x = if p then (y : EReal) else ⊥) :
    Is0 (Ideal.exp (x - (M : EReal))) (if p then Real.exp (y - M) else 0) := by
  rw [h]
  split
  · exact Is0.exp (Is0.sub rfl rfl)
  · unfold Is0
    rw [EReal.bot_sub, Ideal.exp_bot]
    rfl

theorem sum_le {f : R1} (hi : i < n) : ∑ j ∈ Finset.range n, (if j ≤ i then f j else 0) = ∑ j ∈ Finset.range (i + 1), f j := by
  rw [← Finset.sum_filter]
  congr 1
  ext j
  simp only [Finset.mem_filter, Finset.mem_range]
  omega

theorem sum_weight {f : R1} (hi : i < n) :
    ∑ j ∈ Finset.range n, weight S i j * f j = ∑ j ∈ Finset.range (i + 1), weight S i j * f j := by
  rw [← sum_le (f := fun j => weight S i j * f j) hi]
  refine Finset.sum_congr rfl fun j _ => ?_
  unfold weight
  split
  · rfl
  · exact zero_mul _

end row

end Cert.Real

end
-- ==== Proof.Value.Attention.lean ====
module

public import proofs.«01_k».proof.Proof.Value.Spec
public import proofs.«01_k».proof.Proof.Gen.KernelIdeal.Skeleton
public import Idealize.ShloMosaic.Lib.WordCmp

/-!
# The block kernel's attention heads

Every head's chain of vector operations is the same function of its queries, keys and values, read over the reals.
-/

@[expose] public section

set_option maxRecDepth 8192

noncomputable section

namespace Cert.KernelIdeal.Hand

open Cert.Real Cert.KernelIdeal Cert.KernelIdeal.Gen
open Idealize.ShloMosaic
open scoped BigOperators

/-- The kernel's causal mask: column at most row. -/
theorem mask_apply (i j : Fin 208) : k0_pay14 (ix2 i j) = if j.val ≤ i.val then 1#1 else 0#1 := by
  pointwise [k0_pay14]
  have hi := i.isLt
  have hj := j.isLt
  rw [WordCmp.cmpi_sge_eq, WordCmp.toInt_ofNat_of_lt (by omega), WordCmp.toInt_ofNat_of_lt (by omega)]
  by_cases h : j.val ≤ i.val <;> simp [h]

/-- A head's masked scores. -/
def scoresV (q k : FVec Ideal S208x64 .f32) : FVec Ideal S208x208 .f32 :=
  select k0_pay14 (mulf (matmul dot_S208x64_S208x64_S208x208_1_1_0_0_n_n none q k (constant S208x208 .f32 0x00000000#32))
    (broadcast S208x208 (Scalar.ofBits .f32 0x3E000000#32 : Ideal .f32)))
    (broadcast S208x208 (Named.named κ "mask" 0xF149F2CA#32 : Ideal .f32))

/-- The largest score of each row, as one column. -/
def topV (s : FVec Ideal S208x208 .f32) : FVec Ideal S208x1 .f32 :=
  shapeCast S208x1 (maximumf (broadcast S208 (Scalar.ofBits .f32 0xFF800000#32 : Ideal .f32))
    (multiReduction .maximumf [1] S208 s 0xFF800000#32 reduces_S208x208_S208 (.inl rfl) rfl)) shapeCasts_S208_S208x1

/-- The exponentials of the scores, each row's largest score taken off. -/
def expV (s : FVec Ideal S208x208 .f32) : FVec Ideal S208x208 .f32 :=
  exp (subf s (broadcastTo S208x208 (topV s) broadcasts_S208x1_S208x208))

/-- The row sums of the exponentials, as one column. -/
def massV (e : FVec Ideal S208x208 .f32) : FVec Ideal S208x1 .f32 :=
  shapeCast S208x1 (multiReduction .add [1] S208 e 0x00000000#32 reduces_S208x208_S208 (.inl rfl) rfl) shapeCasts_S208_S208x1

/-- The weighted values. -/
def mixV (s : FVec Ideal S208x208 .f32) (v : FVec Ideal S208x64 .f32) : FVec Ideal S208x64 .f32 :=
  matmul dot_S208x208_S208x64_S208x64_1_0_0_1_n_n none
    (divf (expV s) (broadcastTo S208x208 (massV (expV s)) broadcasts_S208x1_S208x208)) v (constant S208x64 .f32 0x00000000#32)

theorem scoresV_is {q k : FVec Ideal S208x64 .f32} {Q K : R2} (hq : Is2 (n := 208) (m := 64) q Q) (hk : Is2 (n := 208) (m := 64) k K)
    (i j : Fin 208) : scoresV q k (ix2 i j)
      = if j.val ≤ i.val then ((mmT 64 Q K i j * (1 / 8) : ℝ) : EReal) else ⊥ := by
  show Scalar.select (k0_pay14 (ix2 i j)) _ _ = _
  rw [mask_apply]
  split
  · rw [ValueIdx.select_one]
    exact Is0.mul (Is2.matmulT none hq hk i j) (show Is0 (Ideal.ofBits .f32 0x3E000000#32) (1 / 8) from lit_eighth ▸ lit_is _)
  · rw [ValueIdx.select_zero]
    rfl

section softmax
variable {s : FVec Ideal S208x208 .f32} {S : R2}

theorem topV_is (h : ∀ i j : Fin 208, s (ix2 i j) = if j.val ≤ i.val then ((S i j : ℝ) : EReal) else ⊥) :
    Is2 (n := 208) (m := 1) (topV s) (fun i _ => top (S i) i) := by
  refine Is1.colCast (n := 208) (A := fun i => top (S i) i) (fun i => ?_) _
  show max (Ideal.ofBits .f32 0xFF800000#32) (multiReduction .maximumf [1] S208 s 0xFF800000#32 reduces_S208x208_S208 (.inl rfl) rfl (ix1 i)) = _
  pointwise
  rw [ofBits_neg_inf, max_eq_right bot_le]
  exact row_max i.isLt fun j => h i j

theorem expV_is (h : ∀ i j : Fin 208, s (ix2 i j) = if j.val ≤ i.val then ((S i j : ℝ) : EReal) else ⊥) :
    Is2 (n := 208) (m := 208) (expV s) (fun i j => if j ≤ i then Real.exp (S i j - top (S i) i) else 0) := by
  intro i j
  have e := Is2.colBroadcast (m := 208) (topV_is h) broadcasts_S208x1_S208x208 i j
  show Ideal.exp (s (ix2 i j) - broadcastTo S208x208 (topV s) broadcasts_S208x1_S208x208 (ix2 i j)) = _
  rw [e]
  exact row_exp _ (h i j)

theorem mixV_is {v : FVec Ideal S208x64 .f32} {W : R2}
    (h : ∀ i j : Fin 208, s (ix2 i j) = if j.val ≤ i.val then ((S i j : ℝ) : EReal) else ⊥) (hv : Is2 (n := 208) (m := 64) v W) :
    Is2 (n := 208) (m := 64) (mixV s v) (fun i d => ∑ j ∈ Finset.range (i + 1), weight (S i) i j * W j d) := by
  have he := expV_is h
  have hm : Is2 (n := 208) (m := 1) (massV (expV s)) (fun i _ => mass (S i) i) :=
    Is1.colCast (n := 208) (Is1.congr (Is2.rowSum he reduces_S208x208_S208 (.inl rfl) rfl) fun i hi => sum_le hi) _
  have hd : Is2 (n := 208) (m := 208) _ (fun i j => weight (S i) i j) :=
    (Is2.divf he (Is2.colBroadcast (m := 208) hm broadcasts_S208x1_S208x208) fun i _ _ _ => (mass_pos _ i).ne').congr
      fun i _ j _ => by
        unfold weight
        split
        · rfl
        · exact zero_div _
  exact (Is2.matmul none hd hv).congr fun i hi d _ => sum_weight hi

end softmax

/-- A head cut out of the projected rows, at its columns. -/
theorem head_is {x : FVec Ideal S208x3072 .f32} {X : R2} (hx : Is2 (n := 208) (m := 3072) x X) (h o₁ o₂ o₃ : ℕ)
    (e₁ : o₁ = 64 * h) (e₂ : o₂ = 1024 + 64 * h) (e₃ : o₃ = 2048 + 64 * h)
    (s₁ : S208x3072.Slices ![0, o₁] S208x64) (s₂ : S208x3072.Slices ![0, o₂] S208x64) (s₃ : S208x3072.Slices ![0, o₃] S208x64) :
    Is2 (n := 208) (m := 64) (mixV (scoresV (extractStridedSlice S208x64 ![0, o₁] x s₁) (extractStridedSlice S208x64 ![0, o₂] x s₂))
      (extractStridedSlice S208x64 ![0, o₃] x s₃)) (attend X h) := by
  have h₁ := Is2.slice (p := 208) (q := 64) hx s₁
  have h₂ := Is2.slice (p := 208) (q := 64) hx s₂
  have h₃ := Is2.slice (p := 208) (q := 64) hx s₃
  subst e₁ e₂ e₃
  refine (mixV_is (S := score X h) (fun i j => (scoresV_is h₁ h₂ i j).trans ?_) h₃).congr fun i _ d _ => ?_
  · unfold score mmT
    simp only [zero_add]
  · unfold attend
    simp only [zero_add]

end Cert.KernelIdeal.Hand

end
-- ==== Proof.Value.Block.lean ====
module

public import proofs.«01_k».proof.Proof.Value.Attention

/-!
# The block kernel's value

What the block kernel stores, as one function of the values it loads, and the same read over the reals.
-/

@[expose] public section

set_option maxRecDepth 8192

noncomputable section

namespace Cert.Real

open Idealize.ShloMosaic
open scoped BigOperators

/-- The number of pixels of a channel. -/
abbrev area : ℝ := lit 0x47440000#32
/-- The small number added to a channel's deviation. -/
abbrev tiny : ℝ := lit 0x358637BD#32

/-- A channel's mean over the patches. -/
def chanMean (P : R2) : ℝ := (∑ p ∈ Finset.range 196, ∑ r ∈ Finset.range 256, P p r) / area
def chanVar (P : R2) : ℝ := chanMean (fun p r => (P p r - chanMean P) * (P p r - chanMean P))
def chanNorm (P : R2) : R2 := fun p r => (P p r - chanMean P) / (Real.sqrt (chanVar P) + tiny)
/-- Channel `c` of the patches. -/
def chan (P : R2) (c : ℕ) : R2 := fun p r => P p (256 * c + r)
/-- The patches, each channel normalised. -/
def patches (P : R2) : R2 := fun p k => chanNorm (chan P (k / 256)) p (k % 256)
/-- The rows of the image. -/
def visual (Wp Wt : E2) (P : R2) : E2 := mmE 768 (mmE 768 (wide (patches P)) Wp) Wt
/-- All rows: a start row, the image's, an end row, three of the prompt, and zeros. -/
def embed (V : E2) (E : R2) : E2 := fun i j =>
  if i < 1 then wide E 0 j else if i < 197 then V (i - 1) j else if i < 198 then wide E 1 j
    else if i < 201 then wide E (2 + (i - 198)) j else 0
/-- The points `f` of a channel are the reals `P`; or one of them is infinite, and `P` is zero. -/
def Chan {n m : ℕ} (f : Fin n → Fin m → EReal) (P : R2) : Prop :=
  (∀ i j, f i j = ((P i j : ℝ) : EReal)) ∨ ((∃ i j, Inf (f i j)) ∧ ∀ i < n, ∀ j < m, P i j = 0)

theorem chanVar_nonneg (P : R2) : 0 ≤ chanVar P :=
  div_nonneg (Finset.sum_nonneg fun _ _ => Finset.sum_nonneg fun _ _ => mul_self_nonneg _) (lit_pos _).le

theorem dev_pos (P : R2) : 0 < Real.sqrt (chanVar P) + tiny := add_pos_of_nonneg_of_pos (Real.sqrt_nonneg _) (lit_pos _)

theorem chanMean_zero {P : R2} (h : ∀ i < 196, ∀ j < 256, P i j = 0) : chanMean P = 0 := by
  unfold chanMean
  rw [Finset.sum_eq_zero fun p hp => Finset.sum_eq_zero fun r hr => h p (Finset.mem_range.mp hp) r (Finset.mem_range.mp hr), zero_div]

/-- The normalisation of a channel of zeros is zero. -/
theorem chanNorm_zero {P : R2} (h : ∀ i < 196, ∀ j < 256, P i j = 0) {i j : ℕ} (hi : i < 196) (hj : j < 256) : chanNorm P i j = 0 := by
  unfold chanNorm
  rw [chanMean_zero h, h i hi j hj, sub_zero, zero_div]

theorem div_by_top (x : EReal) : Ideal.div x ⊤ = 0 := by
  unfold Ideal.div
  rw [if_neg EReal.top_ne_zero, EReal.inv_top, mul_zero]

/-- If a point of a channel is infinite, so is its deviation. -/
theorem dev_top {n m : ℕ} {f : Fin n → Fin m → EReal} (h : ∃ i j, Inf (f i j)) {mu c : EReal} {r : ℝ} (hc : c = (r : EReal)) (hr : 0 < r)
    (hm : mu = Ideal.div (∑ i, ∑ j, f i j) c) :
    Ideal.sqrt (Ideal.div (∑ i, ∑ j, (f i j - mu) * (f i j - mu)) c) + Ideal.ofBits .f32 0x358637BD#32 = ⊤ := by
  subst hc
  obtain ⟨i, j, h⟩ := h
  have e := spread_sq (r := fun x : Fin n × Fin m => f x.1 x.2) hr ⟨(i, j), h⟩ (m := mu) (by rw [hm, Fintype.sum_prod_type])
  rw [Fintype.sum_prod_type] at e
  rw [e, Ideal.sqrt_top, show Ideal.ofBits .f32 0x358637BD#32 = ((tiny : ℝ) : EReal) from lit_is _, EReal.top_add_coe]

/-- A product over 768 columns is three products over 256. -/
theorem mm_three (P W : E2) (i j : ℕ) :
    mmE 768 P W i j = mmE 256 (fun i r => P i (0 + r)) (fun r j => W (0 + r) j) i j + mmE 256 (fun i r => P i (256 + r)) (fun r j => W (256 + r) j) i j
      + mmE 256 (fun i r => P i (512 + r)) (fun r j => W (512 + r) j) i j := by
  unfold mmE
  rw [show (768 : ℕ) = 512 + 256 from rfl, Finset.sum_range_add, show (512 : ℕ) = 256 + 256 from rfl, Finset.sum_range_add]
  simp only [zero_add]

end Cert.Real

namespace Cert.KernelIdeal.Hand

open Cert.Real Cert.KernelIdeal Cert.KernelIdeal.Gen
open Idealize.ShloMosaic
open scoped BigOperators

/-! ## Normalised rows -/

/-- The rows' means, as one column. -/
def meanV (x : FVec Ideal S208x1024 .f32) : FVec Ideal S208x1 .f32 :=
  divf (shapeCast S208x1 (multiReduction .add [1] S208 x 0x00000000#32 reduces_S208x1024_S208 (.inl rfl) rfl) shapeCasts_S208_S208x1)
    (broadcast S208x1 (Scalar.ofBits .f32 0x44800000#32 : Ideal .f32))

/-- The rows with their means taken off. -/
def devV (x : FVec Ideal S208x1024 .f32) : FVec Ideal S208x1024 .f32 :=
  subf x (broadcastTo S208x1024 (meanV x) broadcasts_S208x1_S208x1024)

def normV (x : FVec Ideal S208x1024 .f32) : FVec Ideal S208x1024 .f32 :=
  mulf (devV x) (broadcastTo S208x1024 (rsqrt (addf (meanV (mulf (devV x) (devV x)))
    (broadcast S208x1 (Scalar.ofBits .f32 0x3727C5AC#32 : Ideal .f32)))) broadcasts_S208x1_S208x1024)

theorem normV_apply (x : FVec Ideal S208x1024 .f32) (i : Fin 208) (j : Fin 1024) : normV x (ix2 i j) = normRow (fun k => x (ix2 i k)) j := by
  pointwise [normV, devV, meanV]
  rfl

theorem normV_is {x : FVec Ideal S208x1024 .f32} {X : E2} (hx : At2 (n := 208) (m := 1024) x X) : Is2 (n := 208) (m := 1024) (normV x) (norm (tame X)) :=
  fun i j => (normV_apply x i j).trans (normRow_is (hx i) j)

/-! ## The image's rows -/

/-- A channel's mean. -/
def chanMeanV (p : FVec Ideal S196x256 .f32) : Ideal .f32 :=
  Scalar.divf (extractAt ![0, 0, 0] (shapeCast S1x1x1 (multiReduction .add [1, 2] S1 (shapeCast S1x196x256 p shapeCasts_S196x256_S1x196x256) 0x00000000#32 reduces_S1x196x256_S1 (.inl rfl) rfl) shapeCasts_S1_S1x1x1) inpos_S1x1x1_p0_0_0)
    (Scalar.ofBits .f32 0x47440000#32 : Ideal .f32)

def chanDevV (p : FVec Ideal S196x256 .f32) : FVec Ideal S196x256 .f32 := subf p (broadcast S196x256 (chanMeanV p))

def chanNormV (p : FVec Ideal S196x256 .f32) : FVec Ideal S196x256 .f32 :=
  mulf (chanDevV p) (broadcast S196x256 (Scalar.divf (Scalar.ofBits .f32 0x3F800000#32 : Ideal .f32)
    (Scalar.addf (Scalar.sqrt (chanMeanV (mulf (chanDevV p) (chanDevV p)))) (Scalar.ofBits .f32 0x358637BD#32 : Ideal .f32))))

theorem chanMeanV_eq (p : FVec Ideal S196x256 .f32) :
    chanMeanV p = Ideal.div (∑ i : Fin 196, ∑ r : Fin 256, p (ix2 i r)) (Ideal.ofBits .f32 0x47440000#32) := by
  pointwise [chanMeanV]

theorem chanMeanV_is {p : FVec Ideal S196x256 .f32} {P : R2} (hp : Is2 (n := 196) (m := 256) p P) : Is0 (chanMeanV p) (chanMean P) := by
  rw [chanMeanV_eq]
  exact Is0.div (sum_fin _ (fun i => ∑ r ∈ Finset.range 256, P i r) fun i => sum_fin _ (fun r => P i r) fun r => hp i r)
    (lit_is _) (lit_pos _).ne'

theorem chanNormV_real {p : FVec Ideal S196x256 .f32} {P : R2} (hp : Is2 (n := 196) (m := 256) p P) :
    Is2 (n := 196) (m := 256) (chanNormV p) (chanNorm P) := by
  have hd : Is2 (n := 196) (m := 256) (chanDevV p) (fun i r => P i r - chanMean P) :=
    Is2.subf (n := 196) (m := 256) hp (Is2.broadcast (chanMeanV_is hp))
  have h := Is2.mulf (n := 196) (m := 256) hd (Is2.broadcast (φ := .f32) (n := 196) (m := 256)
    (Is0.div (lit_is 0x3F800000#32) (Is0.add (Is0.sqrt (chanMeanV_is (Is2.mulf (n := 196) (m := 256) hd hd)) (chanVar_nonneg P)) (lit_is 0x358637BD#32)) (dev_pos P).ne'))
  refine Is2.congr (n := 196) (m := 256) (A := _) h fun i _ j _ => ?_
  rw [lit_one]
  unfold chanNorm chanVar
  ring

theorem chanNormV_is {p : FVec Ideal S196x256 .f32} {P : R2} (hp : Chan (n := 196) (m := 256) (fun i j => p (ix2 i j)) P) :
    Is2 (n := 196) (m := 256) (chanNormV p) (chanNorm P) := by
  rcases hp with hp | ⟨hi, hz⟩
  · exact chanNormV_real hp
  · intro i j
    have e : chanNormV p (ix2 i j) = (p (ix2 i j) - chanMeanV p) * Ideal.div (Ideal.ofBits .f32 0x3F800000#32)
        (Ideal.sqrt (chanMeanV (mulf (chanDevV p) (chanDevV p))) + Ideal.ofBits .f32 0x358637BD#32) := rfl
    have hd : chanMeanV (mulf (chanDevV p) (chanDevV p))
        = Ideal.div (∑ i : Fin 196, ∑ r : Fin 256, (p (ix2 i r) - chanMeanV p) * (p (ix2 i r) - chanMeanV p)) (Ideal.ofBits .f32 0x47440000#32) := chanMeanV_eq _
    rw [e, hd, dev_top hi (lit_is 0x47440000#32) (lit_pos _) (chanMeanV_eq p), div_by_top, mul_zero, chanNorm_zero hz i.isLt j.isLt]
    rfl

/-- The image's rows from the patches, the three parts of the first weight and the second weight. -/
def visualV (v : FVec Ideal S1x196x768 .bf16) (a b c : FVec Ideal S256x768 .f32) (w : FVec Ideal S768x1024 .f32) : FVec Ideal S196x1024 .f32 :=
  k0_pay7 (k0_pay2 v) (k0_pay3 v a) (k0_pay4 v) (k0_pay5 v) (k0_pay6 v) b c w

theorem visualV_eq (v a b c w) : visualV v a b c w =
    matmul dot_S196x768_S768x1024_S196x1024_1_0_0_1_n_n none
      (addf (addf (addf (broadcast S196x768 (Scalar.ofBits .f32 0x00000000#32 : Ideal .f32))
        (matmul dot_S196x256_S256x768_S196x768_1_0_0_1_n_n none (chanNormV (extractStridedSlice S196x256 ![0, 0] (k0_pay2 v) slices_S196x768_o0_0_S196x256)) a (constant S196x768 .f32 0x00000000#32)))
        (matmul dot_S196x256_S256x768_S196x768_1_0_0_1_n_n none (chanNormV (extractStridedSlice S196x256 ![0, 256] (k0_pay2 v) slices_S196x768_o0_256_S196x256)) b (constant S196x768 .f32 0x00000000#32)))
        (matmul dot_S196x256_S256x768_S196x768_1_0_0_1_n_n none (chanNormV (extractStridedSlice S196x256 ![0, 512] (k0_pay2 v) slices_S196x768_o0_512_S196x256)) c (constant S196x768 .f32 0x00000000#32)))
      w (constant S196x1024 .f32 0x00000000#32) := rfl

/-- The patches `P` are in `v`, by channels. -/
def Pixels (v : FVec Ideal S1x196x768 .bf16) (P : R2) : Prop :=
  ∀ c : Fin 3, Chan (n := 196) (m := 256) (fun p r => v (ix3 0 p ⟨256 * c.val + r.val, by omega⟩)) (chan P c)

theorem pay2_cut (v : FVec Ideal S1x196x768 .bf16) (o : ℕ) (h : S196x768.Slices ![0, o] S196x256) (i : Fin 196) (j : Fin 256) (ho : o + j.val < 768) :
    extractStridedSlice S196x256 ![0, o] (k0_pay2 (F := Ideal) v) h (ix2 i j) = v (ix3 0 i ⟨o + j.val, ho⟩) := by
  pointwise [k0_pay2]

theorem cut_is {v : FVec Ideal S1x196x768 .bf16} {P : R2} (hv : Pixels v P) (c : Fin 3) (o : ℕ) (ho : o = 256 * c.val)
    (h : S196x768.Slices ![0, o] S196x256) :
    Is2 (n := 196) (m := 256) (chanNormV (extractStridedSlice S196x256 ![0, o] (k0_pay2 (F := Ideal) v) h)) (chanNorm (fun p r => P p (o + r))) := by
  subst ho
  have e := hv c
  refine chanNormV_is ?_
  have q : (fun (i : Fin 196) (j : Fin 256) => extractStridedSlice S196x256 ![0, 256 * c.val] (k0_pay2 (F := Ideal) v) h (ix2 i j))
      = fun i j => v (ix3 0 i ⟨256 * c.val + j.val, by omega⟩) := funext fun i => funext fun j => pay2_cut v (256 * c.val) h i j _
  rw [q]
  exact e

theorem visualV_is {v : FVec Ideal S1x196x768 .bf16} {a b c : FVec Ideal S256x768 .f32} {w : FVec Ideal S768x1024 .f32} {P : R2} {Wp Wt : E2}
    (hv : Pixels v P)
    (ha : At2 (n := 256) (m := 768) a (fun i j => Wp (0 + i) j)) (hb : At2 (n := 256) (m := 768) b (fun i j => Wp (256 + i) j))
    (hc : At2 (n := 256) (m := 768) c (fun i j => Wp (512 + i) j)) (hw : At2 (n := 768) (m := 1024) w Wt) :
    At2 (n := 196) (m := 1024) (visualV v a b c w) (visual Wp Wt P) := by
  rw [visualV_eq]
  have n0 := (cut_is hv 0 0 rfl slices_S196x768_o0_0_S196x256).wide
  have n1 := (cut_is hv 1 256 rfl slices_S196x768_o0_256_S196x256).wide
  have n2 := (cut_is hv 2 512 rfl slices_S196x768_o0_512_S196x256).wide
  have hz : At2 (n := 196) (m := 768) (broadcast S196x768 (Scalar.ofBits .f32 0x00000000#32 : Ideal .f32)) (fun _ _ => 0) := fun _ _ => Ideal.ofBits_zero_f32
  have s := At2.addf (n := 196) (m := 768) (At2.addf (n := 196) (m := 768) (At2.addf (n := 196) (m := 768)
    hz (At2.matmul (n := 196) (k := 256) (m := 768) none n0 ha))
    (At2.matmul (n := 196) (k := 256) (m := 768) none n1 hb)) (At2.matmul (n := 196) (k := 256) (m := 768) none n2 hc)
  refine At2.matmul (n := 196) (k := 768) (m := 1024) none (At2.congr (n := 196) (m := 768) s fun i _ j _ => ?_) hw
  rw [mm_three, zero_add]
  refine congrArg₂ (· + ·) (congrArg₂ (· + ·) ?_ ?_) ?_ <;>
  · refine Finset.sum_congr rfl fun r hr => ?_
    have hr := Finset.mem_range.mp hr
    congr 1
    unfold wide
    congr 1
    unfold patches chan
    beta_reduce
    first
      | rw [show (0 + r) / 256 = 0 by omega, show (0 + r) % 256 = r by omega]
      | rw [show (256 + r) / 256 = 1 by omega, show (256 + r) % 256 = r by omega]
      | rw [show (512 + r) / 256 = 2 by omega, show (512 + r) % 256 = r by omega]
    try simp only [zero_add, mul_zero, mul_one, Nat.reduceMul]

/-! ## All rows -/

/-- All rows, from the image's and the eight embedded ones. -/
def embedV (v : FVec Ideal S196x1024 .f32) (e : FVec Ideal S8x1024 .f32) : FVec Ideal S208x1024 .f32 :=
  k0_pay12 v (k0_pay9 e) (k0_pay10 e) (k0_pay11 e)

theorem embedV_is {v : FVec Ideal S196x1024 .f32} {e : FVec Ideal S8x1024 .f32} {V : E2} {E : R2}
    (hv : At2 (n := 196) (m := 1024) v V) (he : Is2 (n := 8) (m := 1024) e E) : At2 (n := 208) (m := 1024) (embedV v e) (embed V E) := by
  intro i j
  have hi := i.isLt
  have e0 : ∀ (k : Fin 1), k0_pay9 (F := Ideal) e (ix2 k j) = wide E 0 j := fun k => by
    refine Eq.trans ?_ (he 0 j)
    have hk : k = 0 := Subsingleton.elim _ _
    subst hk
    pointwise [k0_pay9, k0_pay8]
  have e1 : ∀ (k : Fin 1), k0_pay10 (F := Ideal) e (ix2 k j) = wide E 1 j := fun k => by
    refine Eq.trans ?_ (he 1 j)
    have hk : k = 0 := Subsingleton.elim _ _
    subst hk
    pointwise [k0_pay10, k0_pay8]
  have e2 : ∀ (k : Fin 3), k0_pay11 (F := Ideal) e (ix2 k j) = wide E (2 + k) j := fun k => by
    refine Eq.trans ?_ (he ⟨2 + k, by omega⟩ j)
    pointwise [k0_pay11, k0_pay8]
  have e0' : ∀ (k : ℕ) (h : k < 1), k0_pay9 (F := Ideal) e (ix2 (⟨k, h⟩ : Fin 1) j) = _ := fun k h => e0 ⟨k, h⟩
  have e1' : ∀ (k : ℕ) (h : k < 1), k0_pay10 (F := Ideal) e (ix2 (⟨k, h⟩ : Fin 1) j) = _ := fun k h => e1 ⟨k, h⟩
  have e2' : ∀ (k : ℕ) (h : k < 3), k0_pay11 (F := Ideal) e (ix2 (⟨k, h⟩ : Fin 3) j) = _ := fun k h => e2 ⟨k, h⟩
  have hv' : ∀ (k : ℕ) (h : k < 196), v (ix2 (⟨k, h⟩ : Fin 196) j) = _ := fun k h => hv ⟨k, h⟩ j
  unfold embedV
  generalize k0_pay9 (F := Ideal) e = a0 at e0'
  generalize k0_pay10 (F := Ideal) e = a1 at e1'
  generalize k0_pay11 (F := Ideal) e = a2 at e2'
  pointwise [k0_pay12]
  simp only [e0', e1', e2', hv']
  unfold embed
  by_cases h1 : i.val < 1
  · rw [dif_pos h1, if_pos h1]
  rw [dif_neg h1, if_neg h1]
  by_cases h2 : i.val < 197
  · rw [dif_pos (by omega), if_pos h2]
  rw [dif_neg (by omega), if_neg h2]
  by_cases h3 : i.val < 198
  · rw [dif_pos (by omega), if_pos h3]
  rw [dif_neg (by omega), if_neg h3]
  by_cases h4 : i.val < 201
  · rw [dif_pos (by omega), if_pos h4, show i.val - 1 - 196 - 1 = i.val - 198 by omega]
  · rw [dif_neg (by omega), if_neg h4]

/-! ## The heads side by side -/

theorem heads_concat (p : Fin 16 → FVec Ideal S208x64 .f32) {Q : R2} (hp : ∀ h : Fin 16, Is2 (n := 208) (m := 64) (p h) (attend Q h))
    (hc : Shape.Concatenates ((List.ofFn fun h : Fin 16 => (⟨S208x64, p h⟩ : (s : Shape) × (s.Idx → EReal))).map (·.1)) S208x1024 1) :
    Is2 (n := 208) (m := 1024) (concatenate S208x1024 1 (List.ofFn fun h : Fin 16 => (⟨S208x64, p h⟩ : (s : Shape) × (s.Idx → EReal))) hc) (heads Q) := by
  intro i j
  have hj := j.isLt
  refine (concatenate_ofFn_apply (t := S208x1024) (s₁ := S208x64) (1 : Fin 2) p hc rfl 64 rfl (ix2 i j) ⟨j.val / 64, by omega⟩ rfl
    (ix2 i (⟨j.val % 64, by omega⟩ : Fin 64)) rfl fun b hb => ?_).trans (hp ⟨j.val / 64, by omega⟩ i ⟨j.val % 64, by omega⟩)
  match b with
  | ⟨0, _⟩ => rfl
  | ⟨1, _⟩ => exact absurd rfl hb

/-- One head of the row `q` of queries, keys and values. -/
def headV (q : FVec Ideal S208x3072 .f32) (o₁ o₂ o₃ : ℕ) (s₁ : S208x3072.Slices ![0, o₁] S208x64) (s₂ : S208x3072.Slices ![0, o₂] S208x64)
    (s₃ : S208x3072.Slices ![0, o₃] S208x64) : FVec Ideal S208x64 .f32 :=
  mixV (scoresV (extractStridedSlice S208x64 ![0, o₁] q s₁) (extractStridedSlice S208x64 ![0, o₂] q s₂)) (extractStridedSlice S208x64 ![0, o₃] q s₃)

def head0 (q : FVec Ideal S208x3072 .f32) := headV q 0 1024 2048 slices_S208x3072_o0_0_S208x64 slices_S208x3072_o0_1024_S208x64 slices_S208x3072_o0_2048_S208x64
def head1 (q : FVec Ideal S208x3072 .f32) := headV q 64 1088 2112 slices_S208x3072_o0_64_S208x64 slices_S208x3072_o0_1088_S208x64 slices_S208x3072_o0_2112_S208x64
def head2 (q : FVec Ideal S208x3072 .f32) := headV q 128 1152 2176 slices_S208x3072_o0_128_S208x64 slices_S208x3072_o0_1152_S208x64 slices_S208x3072_o0_2176_S208x64
def head3 (q : FVec Ideal S208x3072 .f32) := headV q 192 1216 2240 slices_S208x3072_o0_192_S208x64 slices_S208x3072_o0_1216_S208x64 slices_S208x3072_o0_2240_S208x64
def head4 (q : FVec Ideal S208x3072 .f32) := headV q 256 1280 2304 slices_S208x3072_o0_256_S208x64 slices_S208x3072_o0_1280_S208x64 slices_S208x3072_o0_2304_S208x64
def head5 (q : FVec Ideal S208x3072 .f32) := headV q 320 1344 2368 slices_S208x3072_o0_320_S208x64 slices_S208x3072_o0_1344_S208x64 slices_S208x3072_o0_2368_S208x64
def head6 (q : FVec Ideal S208x3072 .f32) := headV q 384 1408 2432 slices_S208x3072_o0_384_S208x64 slices_S208x3072_o0_1408_S208x64 slices_S208x3072_o0_2432_S208x64
def head7 (q : FVec Ideal S208x3072 .f32) := headV q 448 1472 2496 slices_S208x3072_o0_448_S208x64 slices_S208x3072_o0_1472_S208x64 slices_S208x3072_o0_2496_S208x64
def head8 (q : FVec Ideal S208x3072 .f32) := headV q 512 1536 2560 slices_S208x3072_o0_512_S208x64 slices_S208x3072_o0_1536_S208x64 slices_S208x3072_o0_2560_S208x64
def head9 (q : FVec Ideal S208x3072 .f32) := headV q 576 1600 2624 slices_S208x3072_o0_576_S208x64 slices_S208x3072_o0_1600_S208x64 slices_S208x3072_o0_2624_S208x64
def head10 (q : FVec Ideal S208x3072 .f32) := headV q 640 1664 2688 slices_S208x3072_o0_640_S208x64 slices_S208x3072_o0_1664_S208x64 slices_S208x3072_o0_2688_S208x64
def head11 (q : FVec Ideal S208x3072 .f32) := headV q 704 1728 2752 slices_S208x3072_o0_704_S208x64 slices_S208x3072_o0_1728_S208x64 slices_S208x3072_o0_2752_S208x64
def head12 (q : FVec Ideal S208x3072 .f32) := headV q 768 1792 2816 slices_S208x3072_o0_768_S208x64 slices_S208x3072_o0_1792_S208x64 slices_S208x3072_o0_2816_S208x64
def head13 (q : FVec Ideal S208x3072 .f32) := headV q 832 1856 2880 slices_S208x3072_o0_832_S208x64 slices_S208x3072_o0_1856_S208x64 slices_S208x3072_o0_2880_S208x64
def head14 (q : FVec Ideal S208x3072 .f32) := headV q 896 1920 2944 slices_S208x3072_o0_896_S208x64 slices_S208x3072_o0_1920_S208x64 slices_S208x3072_o0_2944_S208x64
def head15 (q : FVec Ideal S208x3072 .f32) := headV q 960 1984 3008 slices_S208x3072_o0_960_S208x64 slices_S208x3072_o0_1984_S208x64 slices_S208x3072_o0_3008_S208x64

/-- The heads of `q`, each by its number. -/
def headsV (q : FVec Ideal S208x3072 .f32) : Fin 16 → FVec Ideal S208x64 .f32 :=
  ![head0 q, head1 q, head2 q, head3 q, head4 q, head5 q, head6 q, head7 q, head8 q, head9 q, head10 q, head11 q, head12 q, head13 q, head14 q, head15 q]

theorem headsV_is {q : FVec Ideal S208x3072 .f32} {Q : R2} (hq : Is2 (n := 208) (m := 3072) q Q) (h : Fin 16) :
    Is2 (n := 208) (m := 64) (headsV q h) (attend Q h) := by
  match h with
  | ⟨0, _⟩ => exact head_is hq 0 _ _ _ rfl rfl rfl _ _ _
  | ⟨1, _⟩ => exact head_is hq 1 _ _ _ rfl rfl rfl _ _ _
  | ⟨2, _⟩ => exact head_is hq 2 _ _ _ rfl rfl rfl _ _ _
  | ⟨3, _⟩ => exact head_is hq 3 _ _ _ rfl rfl rfl _ _ _
  | ⟨4, _⟩ => exact head_is hq 4 _ _ _ rfl rfl rfl _ _ _
  | ⟨5, _⟩ => exact head_is hq 5 _ _ _ rfl rfl rfl _ _ _
  | ⟨6, _⟩ => exact head_is hq 6 _ _ _ rfl rfl rfl _ _ _
  | ⟨7, _⟩ => exact head_is hq 7 _ _ _ rfl rfl rfl _ _ _
  | ⟨8, _⟩ => exact head_is hq 8 _ _ _ rfl rfl rfl _ _ _
  | ⟨9, _⟩ => exact head_is hq 9 _ _ _ rfl rfl rfl _ _ _
  | ⟨10, _⟩ => exact head_is hq 10 _ _ _ rfl rfl rfl _ _ _
  | ⟨11, _⟩ => exact head_is hq 11 _ _ _ rfl rfl rfl _ _ _
  | ⟨12, _⟩ => exact head_is hq 12 _ _ _ rfl rfl rfl _ _ _
  | ⟨13, _⟩ => exact head_is hq 13 _ _ _ rfl rfl rfl _ _ _
  | ⟨14, _⟩ => exact head_is hq 14 _ _ _ rfl rfl rfl _ _ _
  | ⟨15, _⟩ => exact head_is hq 15 _ _ _ rfl rfl rfl _ _ _
  | ⟨n + 16, hn⟩ => exact absurd hn (by omega)

/-! ## The block -/

/-- The rows' queries, keys and values. -/
def qkvV (x : FVec Ideal S208x1024 .f32) (w : FVec Ideal S1024x3072 .f32) : FVec Ideal S208x3072 .f32 :=
  matmul dot_S208x1024_S1024x3072_S208x3072_1_0_0_1_n_n none (normV x) w (constant S208x3072 .f32 0x00000000#32)

/-- The rows after attention. -/
def midV (x : FVec Ideal S208x1024 .f32) (w : FVec Ideal S1024x3072 .f32) (wo : FVec Ideal S1024x1024 .f32) : FVec Ideal S208x1024 .f32 :=
  k0_pay45 x (qkvV x w) k0_pay14 (head0 (qkvV x w)) (head1 (qkvV x w)) (head2 (qkvV x w)) (head3 (qkvV x w)) (head4 (qkvV x w)) (head5 (qkvV x w))
    (head6 (qkvV x w)) (head7 (qkvV x w)) (head8 (qkvV x w)) (head9 (qkvV x w)) (head10 (qkvV x w)) (head11 (qkvV x w)) (head12 (qkvV x w))
    (head13 (qkvV x w)) (k0_pay43 (qkvV x w)) (k0_pay44 (qkvV x w)) wo

theorem midV_is {x : FVec Ideal S208x1024 .f32} {w : FVec Ideal S1024x3072 .f32} {wo : FVec Ideal S1024x1024 .f32} {X : E2} {W Wo : R2}
    (hx : At2 (n := 208) (m := 1024) x X) (hw : Is2 (n := 1024) (m := 3072) w W) (ho : Is2 (n := 1024) (m := 1024) wo Wo) :
    At2 (n := 208) (m := 1024) (midV x w wo) (mid W Wo X) := by
  have hq : Is2 (n := 208) (m := 3072) (qkvV x w) (qkv W X) := Is2.matmul (n := 208) (k := 1024) (m := 3072) none (normV_is hx) hw
  unfold midV
  generalize qkvV x w = q at hq
  exact At2.addf (n := 208) (m := 1024) hx (Is2.matmul (n := 208) (k := 1024) (m := 1024) none (heads_concat (headsV q) (headsV_is hq) concatenates_S208x64_S208x64_S208x64_S208x64_S208x64_S208x64_S208x64_S208x64_S208x64_S208x64_S208x64_S208x64_S208x64_S208x64_S208x64_S208x64_S208x1024_d1) ho)

/-- What the block kernel stores from the rows after attention. -/
def ffnV (x : FVec Ideal S208x1024 .f32) (w1 : FVec Ideal S1024x4096 .f32) (w2 : FVec Ideal S4096x1024 .f32) : FVec Ideal S208x1024 .bf16 :=
  k0_pay1 x (meanV x) (broadcastTo S208x1024 (meanV x) broadcasts_S208x1_S208x1024) w1 w2

theorem ffnV_is {x : FVec Ideal S208x1024 .f32} {w1 : FVec Ideal S1024x4096 .f32} {w2 : FVec Ideal S4096x1024 .f32} {X : E2} {W1 W2 : R2}
    (hx : At2 (n := 208) (m := 1024) x X) (h1 : Is2 (n := 1024) (m := 4096) w1 W1) (h2 : Is2 (n := 4096) (m := 1024) w2 W2) :
    At2 (n := 208) (m := 1024) (ffnV x w1 w2) (ffn W1 W2 X) := by
  have hy : Is2 (n := 208) (m := 4096) (matmul dot_S208x1024_S1024x4096_S208x4096_1_0_0_1_n_n none (normV x) w1 (constant S208x4096 .f32 0x00000000#32)) (mm 1024 (norm (tame X)) W1) :=
    Is2.matmul (n := 208) (k := 1024) (m := 4096) none (normV_is hx) h1
  have hg := Is2.mulf (n := 208) (m := 4096) hy (Is2.mulf (n := 208) (m := 4096) (Is2.broadcast (n := 208) (m := 4096) (lit_is 0x3F000000#32))
    (Is2.addf (n := 208) (m := 4096) (Is2.broadcast (n := 208) (m := 4096) (lit_is 0x3F800000#32)) (Is2.tanh (n := 208) (m := 4096)
      (Is2.mulf (n := 208) (m := 4096) (Is2.broadcast (n := 208) (m := 4096) (lit_is 0x3F4C422A#32)) (Is2.addf (n := 208) (m := 4096) hy
        (Is2.mulf (n := 208) (m := 4096) (Is2.broadcast (n := 208) (m := 4096) (lit_is 0x3D372713#32))
          (Is2.mulf (n := 208) (m := 4096) hy (Is2.mulf (n := 208) (m := 4096) hy hy))))))))
  have hg' := Is2.congr (n := 208) (m := 4096) (B := fun i j => gelu (mm 1024 (norm (tame X)) W1 i j)) hg fun i _ j _ => by rw [lit_one]; rfl
  exact At2.addf (n := 208) (m := 1024) hx (Is2.matmul (n := 208) (k := 4096) (m := 1024) none hg' h2)

end Cert.KernelIdeal.Hand

end
-- ==== Proof.Value.BlockLink.lean ====
module

public import proofs.«01_k».proof.Proof.Value.Block
public import proofs.«01_k».proof.Proof.Ideal.BlockRegion
public import Idealize.ShloMosaic.Lib.WholeRead

/-!
# The block kernel's run, read over the reals
-/

@[expose] public section

set_option maxRecDepth 8192

noncomputable section

namespace Cert.KernelIdeal.Hand

open Cert.Real Cert.KernelIdeal Cert.KernelIdeal.Gen
open Idealize.ShloMosaic

/-- A load of all of a whole buffer reads what the buffer holds. -/
theorem readAt_all {κ : Kind} {sp : Space} {s : Shape} {e : EltTy} {Val : EltTy → Type} {m : Memref sig κ sp s e} (h : m.IsWhole)
    (X : s.Idx → Val e) {off : Fin s.rank → ℕ} (h0 : off = fun _ => 0) (inb : ∀ a, off a + s.size a ≤ s.size a) :
    View.readAt Val m.view (Rect.unit off s.size inb).toLoadRect (h.unread X) = X := by
  subst h0
  funext x
  rw [h.readAt_unread]
  exact congrArg X (Rect.emb_whole_apply _ x)

section
variable (c : Dev nD) (i : grid0.Coords)
  (arg1 : Memref sig .tc .vmem S1x196x768 .bf16) (harg1 : arg1.IsWhole)
  (arg2 : Memref sig .tc .vmem S8x1024 .f32) (harg2 : arg2.IsWhole)
  (arg3 : Memref sig .tc .vmem S768x768 .f32) (harg3 : arg3.IsWhole)
  (arg4 : Memref sig .tc .vmem S768x1024 .f32) (harg4 : arg4.IsWhole)
  (arg5 : Memref sig .tc .vmem S1024x3072 .f32) (harg5 : arg5.IsWhole)
  (arg6 : Memref sig .tc .vmem S1024x1024 .f32) (harg6 : arg6.IsWhole)
  (arg7 : Memref sig .tc .vmem S1024x4096 .f32) (harg7 : arg7.IsWhole)
  (arg8 : Memref sig .tc .vmem S4096x1024 .f32) (harg8 : arg8.IsWhole)
  (arg9 : Memref sig .tc .vmem S208x1024 .bf16) (harg9 : arg9.IsWhole)
  (x0 : Vec Ideal S1x196x768 .bf16) (x1 : Vec Ideal S8x1024 .f32) (x2 : Vec Ideal S768x768 .f32) (x3 : Vec Ideal S768x1024 .f32)
  (x4 : Vec Ideal S1024x3072 .f32) (x5 : Vec Ideal S1024x1024 .f32) (x6 : Vec Ideal S1024x4096 .f32) (x7 : Vec Ideal S4096x1024 .f32)

theorem zero2 : (![0, 0] : Fin 2 → ℕ) = fun _ => 0 := by decide
theorem zero3 : (![0, 0, 0] : Fin 3 → ℕ) = fun _ => 0 := by decide

/-- 256 rows of the first weight, as the body loads them. -/
abbrev part (o : Fin 2 → ℕ) (h : ∀ a, o a + S256x768.size a ≤ S768x768.size a) : FVec Ideal S256x768 .f32 :=
  View.readAt (Elt Ideal) arg3.view (Rect.unit (s := S768x768) o S256x768.size h).toLoadRect (harg3.unread x2)

/-- The rows the body embeds. -/
abbrev rowsV : FVec Ideal S208x1024 .f32 :=
  embedV (visualV x0 (part arg3 harg3 x2 ![0, 0] inb_S768x768_S256x768_0_0) (part arg3 harg3 x2 ![256, 0] inb_S768x768_S256x768_256_0)
    (part arg3 harg3 x2 ![512, 0] inb_S768x768_S256x768_512_0) x3) x1

theorem run_r9 : blockRun.sl.r_9 (F := Ideal) c arg1 harg1 arg2 harg2 arg3 harg3 arg4 harg4 x0 x1 x2 x3 = rowsV arg3 harg3 x0 x1 x2 x3 := by
  unfold blockRun.sl.r_9 blockRun.sl.r_8 blockRun.sl.r_7 blockRun.sl.r_6 blockRun.sl.r_5 blockRun.sl.r_4 blockRun.sl.r_3 blockRun.sl.r_2 blockRun.sl.r_1 blockRun.sl.r
  rw [readAt_all harg1 x0 zero3, readAt_all harg2 x1 zero2, readAt_all harg4 x3 zero2]
  rfl

theorem run_r10 : blockRun.sl.r_10 (F := Ideal) c arg1 harg1 arg2 harg2 arg3 harg3 arg4 harg4 arg5 harg5 x0 x1 x2 x3 x4
    = qkvV (rowsV arg3 harg3 x0 x1 x2 x3) x4 := by
  rw [← run_r9 c arg1 harg1 arg2 harg2 arg3 harg3 arg4 harg4]
  unfold blockRun.sl.r_10 blockRun.sl.r_9
  rw [readAt_all harg5 x4 zero2]
  rfl

theorem run_r41 : blockRun.sl.r_41 (F := Ideal) c arg1 harg1 arg2 harg2 arg3 harg3 arg4 harg4 arg5 harg5 arg6 harg6 x0 x1 x2 x3 x4 x5
    = midV (rowsV arg3 harg3 x0 x1 x2 x3) x4 x5 := by
  unfold blockRun.sl.r_41 midV
  rw [run_r9, readAt_all harg6 x5 zero2, ← run_r10 c arg1 harg1 arg2 harg2 arg3 harg3 arg4 harg4 arg5 harg5]
  rfl

theorem blockRun_eq : (blockRun (F := Ideal) c i arg1 harg1 arg2 harg2 arg3 harg3 arg4 harg4 arg5 harg5 arg6 harg6 arg7 harg7 arg8 harg8 arg9 harg9 x0 x1 x2 x3 x4 x5 x6 x7).1
    = ffnV (midV (rowsV arg3 harg3 x0 x1 x2 x3) x4 x5) x6 x7 := by
  unfold blockRun
  dsimp only
  rw [← run_r41 c arg1 harg1 arg2 harg2 arg3 harg3 arg4 harg4 arg5 harg5 arg6 harg6]
  refine (View.canon_unit_zero zero2 _ _).trans ?_
  unfold blockRun.sl.r_43 blockRun.sl.r_42
  rw [readAt_all harg7 x6 zero2, readAt_all harg8 x7 zero2]
  rfl

theorem part_is {W : E2} (hx : At2 (n := 768) (m := 768) x2 W) (o : ℕ) (h : ∀ a, (![o, 0] : Fin 2 → ℕ) a + S256x768.size a ≤ S768x768.size a) :
    At2 (n := 256) (m := 768) (part arg3 harg3 x2 ![o, 0] h) (fun i j => W (o + i) j) := by
  intro i j
  unfold part
  have ho : o + 256 ≤ 768 := h 0
  rw [harg3.readAt_unread]
  refine Eq.trans (congrArg x2 ?_) (hx ⟨o + i.val, by omega⟩ j)
  funext a
  match a with
  | ⟨0, _⟩ => exact Fin.ext (by show o + 1 * i.val = o + i.val; omega)
  | ⟨1, _⟩ => exact Fin.ext (by show 0 + 1 * j.val = j.val; omega)

variable {P E Wqkv Wo W1 W2 : R2} {Wp Wt : E2}

theorem blockRun_is (h0 : Pixels x0 P) (h1 : Is2 (n := 8) (m := 1024) x1 E)
    (h2 : At2 (n := 768) (m := 768) x2 Wp) (h3 : At2 (n := 768) (m := 1024) x3 Wt) (h4 : Is2 (n := 1024) (m := 3072) x4 Wqkv)
    (h5 : Is2 (n := 1024) (m := 1024) x5 Wo) (h6 : Is2 (n := 1024) (m := 4096) x6 W1) (h7 : Is2 (n := 4096) (m := 1024) x7 W2) :
    At2 (n := 208) (m := 1024) (blockRun (F := Ideal) c i arg1 harg1 arg2 harg2 arg3 harg3 arg4 harg4 arg5 harg5 arg6 harg6 arg7 harg7 arg8 harg8 arg9 harg9 x0 x1 x2 x3 x4 x5 x6 x7).1
      (block Wqkv Wo W1 W2 (embed (visual Wp Wt P) E)) := by
  rw [blockRun_eq]
  exact ffnV_is (midV_is (embedV_is (visualV_is h0 (part_is _ _ _ h2 0 _) (part_is _ _ _ h2 256 _) (part_is _ _ _ h2 512 _) h3) h1) h4 h5) h6 h7

end

end Cert.KernelIdeal.Hand

end
-- ==== Proof.Value.HeadLink.lean ====
module

public import proofs.«01_k».proof.Proof.Value.BlockLink
public import proofs.«01_k».proof.Proof.Ideal.HeadRegion
public import Idealize.ShloMosaic.Lib.Pipeline.Value

/-!
# The head kernel's runs as values

What each of the three kinds of run leaves, in terms of the loaded blocks and the carried vectors.
-/

@[expose] public section

set_option maxRecDepth 8192

noncomputable section

namespace Cert.KernelIdeal.Hand

open Cert.KernelIdeal Cert.KernelIdeal.Gen
open Idealize.ShloMosaic Idealize.ShloMosaic.TcCoe

/-! ## Four stores, one per image -/

section canon
variable {Val : EltTy → Type} [∀ e, Nonempty (Val e)] {e : EltTy}

theorem canon_four (a0 a1 a2 a3 : Val e) (b : Fin 4) :
    View.canon [(⟨Rect.unit ![3] ![1] inb_S4_S1_3, fun _ => a3⟩ : View.Piece Val S4 e), ⟨Rect.unit ![2] ![1] inb_S4_S1_2, fun _ => a2⟩,
      ⟨Rect.unit ![1] ![1] inb_S4_S1_1, fun _ => a1⟩, ⟨Rect.unit ![0] ![1] inb_S4_S1_0, fun _ => a0⟩] (ix1 b) = ![a0, a1, a2, a3] b := by
  refine View.canon_apply_of_pieces (S := S4) (fun y => ![a0, a1, a2, a3] (y 0)) _ ?_ (ix1 b) ?_
  · intro p hp x
    simp only [List.mem_cons, List.not_mem_nil, or_false] at hp
    rcases hp with rfl | rfl | rfl | rfl
    · have hx : (x 0).val < 1 := (x 0).isLt
      have h : ((Rect.unit (s := S4) ![3] ![1] inb_S4_S1_3).emb x) 0 = (3 : Fin 4) := Fin.ext (by show 3 + 1 * (x 0).val = 3; omega)
      dsimp only
      rw [h]; rfl
    · have hx : (x 0).val < 1 := (x 0).isLt
      have h : ((Rect.unit (s := S4) ![2] ![1] inb_S4_S1_2).emb x) 0 = (2 : Fin 4) := Fin.ext (by show 2 + 1 * (x 0).val = 2; omega)
      dsimp only
      rw [h]; rfl
    · have hx : (x 0).val < 1 := (x 0).isLt
      have h : ((Rect.unit (s := S4) ![1] ![1] inb_S4_S1_1).emb x) 0 = (1 : Fin 4) := Fin.ext (by show 1 + 1 * (x 0).val = 1; omega)
      dsimp only
      rw [h]; rfl
    · have hx : (x 0).val < 1 := (x 0).isLt
      have h : ((Rect.unit (s := S4) ![0] ![1] inb_S4_S1_0).emb x) 0 = (0 : Fin 4) := Fin.ext (by show 0 + 1 * (x 0).val = 0; omega)
      dsimp only
      rw [h]; rfl
  · fin_cases b
    · exact ⟨_, List.mem_cons_of_mem _ (List.mem_cons_of_mem _ (List.mem_cons_of_mem _ List.mem_cons_self)), (by decide : ix1 (0 : Fin 4) ∈ (Rect.unit (s := S4) ![0] ![1] inb_S4_S1_0).set)⟩
    · exact ⟨_, List.mem_cons_of_mem _ (List.mem_cons_of_mem _ List.mem_cons_self), (by decide : ix1 (1 : Fin 4) ∈ (Rect.unit (s := S4) ![1] ![1] inb_S4_S1_1).set)⟩
    · exact ⟨_, List.mem_cons_of_mem _ List.mem_cons_self, (by decide : ix1 (2 : Fin 4) ∈ (Rect.unit (s := S4) ![2] ![1] inb_S4_S1_2).set)⟩
    · exact ⟨_, List.mem_cons_self, (by decide : ix1 (3 : Fin 4) ∈ (Rect.unit (s := S4) ![3] ![1] inb_S4_S1_3).set)⟩

/-- Where a place of one image's tile lies among the four. -/
theorem tile_emb (o : ℕ) (ho : o < 4) (inb : ∀ a, (![o, 0, 0] : Fin 3 → ℕ) a + (![1, 201, 3200] : Fin 3 → ℕ) a ≤ S4x201x3200.size a) (i : Fin 201) (j : Fin 3200) :
    (Rect.unit (s := S4x201x3200) ![o, 0, 0] ![1, 201, 3200] inb).emb (ix3 (0 : Fin 1) i j) = ix3 (⟨o, ho⟩ : Fin 4) i j := by
  funext a
  match a with
  | ⟨0, _⟩ => exact Fin.ext (by show o + 1 * 0 = o; omega)
  | ⟨1, _⟩ => exact Fin.ext (by show 0 + 1 * i.val = i.val; omega)
  | ⟨2, _⟩ => exact Fin.ext (by show 0 + 1 * j.val = j.val; omega)

theorem canon_tiles (w : Fin 4 → S1x201x3200.Idx → Val e) (b : Fin 4) (i : Fin 201) (j : Fin 3200) :
    View.canon [(⟨Rect.unit ![3, 0, 0] ![1, 201, 3200] inb_S4x201x3200_S1x201x3200_3_0_0, w 3⟩ : View.Piece Val S4x201x3200 e),
      ⟨Rect.unit ![2, 0, 0] ![1, 201, 3200] inb_S4x201x3200_S1x201x3200_2_0_0, w 2⟩,
      ⟨Rect.unit ![1, 0, 0] ![1, 201, 3200] inb_S4x201x3200_S1x201x3200_1_0_0, w 1⟩,
      ⟨Rect.unit ![0, 0, 0] ![1, 201, 3200] inb_S4x201x3200_S1x201x3200_0_0_0, w 0⟩] (ix3 b i j) = w b (ix3 0 i j) := by
  have key : ∀ (o : Fin 4) (inb : ∀ a, (![o.val, 0, 0] : Fin 3 → ℕ) a + (![1, 201, 3200] : Fin 3 → ℕ) a ≤ S4x201x3200.size a) (x : S1x201x3200.Idx),
      w o x = (fun y : S4x201x3200.Idx => w (y 0) (ix3 (0 : Fin 1) (y 1) (y 2))) ((Rect.unit (s := S4x201x3200) ![o.val, 0, 0] ![1, 201, 3200] inb).emb x) := by
    intro o inb x
    have hx : x = ix3 (0 : Fin 1) (x 1) (x 2) := by
      funext a
      match a with
      | ⟨0, _⟩ => exact Fin.ext (by show (x 0).val = 0; have : (x 0).val < 1 := (x 0).isLt; omega)
      | ⟨1, _⟩ => rfl
      | ⟨2, _⟩ => rfl
    have he := tile_emb o.val o.isLt inb (x 1) (x 2)
    have hx' := congrArg (Rect.unit (s := S4x201x3200) ![o.val, 0, 0] ![1, 201, 3200] inb).emb hx
    rw [hx'.trans he]
    exact congrArg (w o) hx
  refine View.canon_apply_of_pieces (S := S4x201x3200) (fun y => w (y 0) (ix3 (0 : Fin 1) (y 1) (y 2))) _ ?_ (ix3 b i j) ?_
  · intro p hp x
    simp only [List.mem_cons, List.not_mem_nil, or_false] at hp
    rcases hp with rfl | rfl | rfl | rfl
    · exact key 3 inb_S4x201x3200_S1x201x3200_3_0_0 x
    · exact key 2 inb_S4x201x3200_S1x201x3200_2_0_0 x
    · exact key 1 inb_S4x201x3200_S1x201x3200_1_0_0 x
    · exact key 0 inb_S4x201x3200_S1x201x3200_0_0_0 x
  · have at_ : ∀ (o : ℕ) (ho : o < 4) (inb : ∀ a, (![o, 0, 0] : Fin 3 → ℕ) a + (![1, 201, 3200] : Fin 3 → ℕ) a ≤ S4x201x3200.size a),
        ix3 (⟨o, ho⟩ : Fin 4) i j ∈ (Rect.unit (s := S4x201x3200) ![o, 0, 0] ![1, 201, 3200] inb).set := by
      intro o ho inb
      rw [← tile_emb o ho inb i j]
      exact LoadRect.idx_mem _ _
    fin_cases b
    · exact ⟨_, List.mem_cons_of_mem _ (List.mem_cons_of_mem _ (List.mem_cons_of_mem _ List.mem_cons_self)), at_ 0 (by omega) inb_S4x201x3200_S1x201x3200_0_0_0⟩
    · exact ⟨_, List.mem_cons_of_mem _ (List.mem_cons_of_mem _ List.mem_cons_self), at_ 1 (by omega) inb_S4x201x3200_S1x201x3200_1_0_0⟩
    · exact ⟨_, List.mem_cons_of_mem _ List.mem_cons_self, at_ 2 (by omega) inb_S4x201x3200_S1x201x3200_2_0_0⟩
    · exact ⟨_, List.mem_cons_self, at_ 3 (by omega) inb_S4x201x3200_S1x201x3200_3_0_0⟩

end canon

/-- One word of a whole vector of four. -/
theorem readAt_one {κ : Kind} {sp : Space} {e : EltTy} {Val : EltTy → Type} {m : Memref sig κ sp S4 e} (h : m.IsWhole)
    (X : S4.Idx → Val e) (o : ℕ) (ho : o < 4) (inb : ∀ a, (![o] : Fin 1 → ℕ) a + S1.size a ≤ S4.size a)
    (x : (Rect.unit (s := S4) ![o] S1.size inb).toLoadRect.shape.Idx) :
    View.readAt Val m.view (Rect.unit (s := S4) ![o] S1.size inb).toLoadRect (h.unread X) x = X (ix1 ⟨o, ho⟩) := by
  rw [h.readAt_unread]
  refine congrArg X (funext fun a => ?_)
  match a with
  | ⟨0, _⟩ => exact Fin.ext (by show o + 1 * (x 0).val = o; have : (x 0).val < 1 := (x 0).isLt; omega)

/-- Four values of one function of the image and its row. -/
theorem four_map {α β : Type*} (f : Fin 4 → α → β) (a0 a1 a2 a3 : α) (b : Fin 4) :
    ![f 0 a0, f 1 a1, f 2 a2, f 3 a3] b = f b (![a0, a1, a2, a3] b) := by
  fin_cases b <;> rfl

/-! ## The runs -/

/-- The last row of each image's tile of logits. -/
abbrev lastRow (x : FVec Ideal S832x1024 .bf16) (w : FVec Ideal S1024x3200 .f32) : Fin 4 → FVec Ideal S3200 .f32 :=
  ![k1_pay10 x w, k1_pay18 (k1_pay7 x w), k1_pay27 (k1_pay26 (k1_pay7 x w)), k1_pay35 (k1_pay7 x w)]
/-- The four tiles. -/
abbrev tiles (x : FVec Ideal S832x1024 .bf16) (w : FVec Ideal S1024x3200 .f32) : Fin 4 → FVec Ideal S1x201x3200 .f32 :=
  ![k1_pay9 x w, k1_pay17 (k1_pay7 x w), k1_pay25 (k1_pay7 x w), k1_pay34 (k1_pay7 x w)]
/-- The greatest entry of a row. -/
def maxV (v : FVec Ideal S3200 .f32) : Ideal .f32 :=
  extractAt ![0, 0] (shapeCast S1x1 (multiReduction .maximumf [1] S1 (shapeCast S1x3200 v shapeCasts_S3200_S1x3200) 0xFF800000#32 reduces_S1x3200_S1 (.inl rfl) rfl) shapeCasts_S1_S1x1) inpos_S1x1_p0_0
/-- The label's distance from the tile's first column. -/
def place (i : grid1.Coords) (l : BitVec 32) : BitVec 32 := Scalar.subi l (Scalar.muli (BitVec.ofNat 32 (i 0).val) 3200#32)
/-- The label's logit, if its column lies in the tile. -/
def labV (i : grid1.Coords) (v : FVec Ideal S3200 .f32) (l : BitVec 32) : Ideal .f32 := k1_pay1 (F := Ideal) k1_pay8 v (place i l)

section
variable (i : grid1.Coords) (x : FVec Ideal S832x1024 .bf16) (w : FVec Ideal S1024x3200 .f32) (l : BitVec 32) (v : FVec Ideal S832x3200 .f32) (u : FVec Ideal S1x3200 .f32) (m s : Ideal .f32)
theorem pay11 : k1_pay11 x w = maxV (k1_pay10 x w) := rfl
theorem pay19 : k1_pay19 v = maxV (k1_pay18 v) := rfl
theorem pay28 : k1_pay28 u = maxV (k1_pay27 u) := rfl
theorem pay36 : k1_pay36 v = maxV (k1_pay35 v) := rfl
theorem pay13 : k1_pay13 x w = k1_pay2 (F := Ideal) (k1_pay10 x w) (k1_pay11 x w) := rfl
theorem pay21 : k1_pay21 v = k1_pay2 (F := Ideal) (k1_pay18 v) (k1_pay19 v) := rfl
theorem pay30 : k1_pay30 u = k1_pay2 (F := Ideal) (k1_pay27 u) (k1_pay28 u) := rfl
theorem pay12 : k1_pay12 i x w l = labV i (k1_pay10 x w) l := rfl
theorem pay20 : k1_pay20 (BitVec.ofNat 32 (i 0).val) v k1_pay8 l = labV i (k1_pay18 v) l := rfl
theorem pay29 : k1_pay29 (BitVec.ofNat 32 (i 0).val) k1_pay8 u l = labV i (k1_pay27 u) l := rfl
theorem pay22 : k1_pay22 v m = k1_pay3 (F := Ideal) (k1_pay19 v) m := rfl
theorem pay31 : k1_pay31 u m = k1_pay3 (F := Ideal) (k1_pay28 u) m := rfl
theorem pay14 : k1_pay14 m s = k1_pay3 (F := Ideal) m s := rfl
theorem pay15 (r : FVec Ideal S3200 .f32) (o : Ideal .f32) : k1_pay15 r m s o = k1_pay4 (F := Ideal) r m s o := rfl
theorem pay23 : k1_pay23 v m s = k1_pay4 (F := Ideal) (k1_pay18 v) (k1_pay19 v) m s := rfl
theorem pay32 : k1_pay32 u m s = k1_pay4 (F := Ideal) (k1_pay27 u) (k1_pay28 u) m s := rfl
theorem pay16 : k1_pay16 m s = Scalar.addf s m := rfl
theorem pay24 : k1_pay24 (BitVec.ofNat 32 (i 0).val) v k1_pay8 l s = Scalar.addf s (labV i (k1_pay18 v) l) := rfl
theorem pay33 : k1_pay33 (BitVec.ofNat 32 (i 0).val) k1_pay8 u l s = Scalar.addf s (labV i (k1_pay27 u) l) := rfl
theorem pay5 (r : FVec Ideal S3200 .f32) (l : BitVec 32) : k1_pay5 k1_pay8 r (Scalar.subi l (Scalar.muli (BitVec.ofNat 32 (i 0).val) 3200#32)) s = Scalar.addf s (labV i r l) := rfl
theorem pay1 (r : FVec Ideal S3200 .f32) (l : BitVec 32) : k1_pay1 k1_pay8 r (Scalar.subi l (Scalar.muli (BitVec.ofNat 32 (i 0).val) 3200#32)) = labV i r l := rfl
end

section
variable (c : Dev nD) (i : grid1.Coords)
  (arg1 : Memref sig .tc .smem S4 .i32) (harg1 : arg1.IsWhole) (arg2 : Memref sig .tc .vmem S832x1024 .bf16) (harg2 : arg2.IsWhole)
  (arg3 : Memref sig .tc .vmem S1024x3200 .f32) (harg3 : arg3.IsWhole) (arg4 : Memref sig .tc .vmem S4x201x3200 .f32) (harg4 : arg4.IsWhole)
  (arg5 : Memref sig .tc .smem S1x1 .f32) (harg5 : arg5.IsWhole) (arg6 : Memref sig .tc .smem S4 .f32) (harg6 : arg6.IsWhole)
  (arg7 : Memref sig .tc .smem S4 .f32) (harg7 : arg7.IsWhole) (arg8 : Memref sig .tc .smem S4 .f32) (harg8 : arg8.IsWhole)
  (x0 : Vec Ideal S4 .i32) (x1 : Vec Ideal S832x1024 .bf16) (x2 : Vec Ideal S1024x3200 .f32) (xs0 xs1 xs2 : Vec Ideal S4 .f32)

theorem logitsFirst (hF : isFirst i) (hP : ¬isLater i) (hL : ¬isLast i) (b : Fin 4) (r : Fin 201) (j : Fin 3200) :
    (headRunFirst (F := Ideal) c i arg1 harg1 arg2 harg2 arg3 harg3 arg4 harg4 arg5 harg5 arg6 harg6 arg7 harg7 arg8 harg8 hF hP hL x0 x1 x2).1.logits (ix3 b r j) = tiles x1 x2 b (ix3 0 r j) := by
  unfold headRunFirst
  dsimp only
  refine Eq.trans ?_ (canon_tiles (Val := Elt Ideal) (e := .f32) (tiles x1 x2) b r j)
  refine congrFun ?_ (ix3 b r j)
  unfold headRunFirst.sl.r_4
  rw [readAt_all harg2 x1 zero2, readAt_all harg3 x2 zero2]
  rfl

theorem logitsMid (hF : ¬isFirst i) (hP : isLater i) (hL : ¬isLast i) (b : Fin 4) (r : Fin 201) (j : Fin 3200) :
    (headRunMid (F := Ideal) c i arg1 harg1 arg2 harg2 arg3 harg3 arg4 harg4 arg5 harg5 arg6 harg6 arg7 harg7 arg8 harg8 hF hP hL x0 x1 x2 xs0 xs1 xs2).1.logits (ix3 b r j) = tiles x1 x2 b (ix3 0 r j) := by
  unfold headRunMid
  dsimp only
  refine Eq.trans ?_ (canon_tiles (Val := Elt Ideal) (e := .f32) (tiles x1 x2) b r j)
  refine congrFun ?_ (ix3 b r j)
  unfold headRunMid.sl.r_1
  rw [readAt_all harg2 x1 zero2, readAt_all harg3 x2 zero2]
  rfl

theorem logitsLast (hF : ¬isFirst i) (hP : isLater i) (hL : isLast i) (b : Fin 4) (r : Fin 201) (j : Fin 3200) :
    (headRunLast (F := Ideal) c i arg1 harg1 arg2 harg2 arg3 harg3 arg4 harg4 arg5 harg5 arg6 harg6 arg7 harg7 arg8 harg8 hF hP hL x0 x1 x2 xs0 xs1 xs2).1.logits (ix3 b r j) = tiles x1 x2 b (ix3 0 r j) := by
  unfold headRunLast
  dsimp only
  refine Eq.trans ?_ (canon_tiles (Val := Elt Ideal) (e := .f32) (tiles x1 x2) b r j)
  refine congrFun ?_ (ix3 b r j)
  unfold headRunLast.sl.r_1
  rw [readAt_all harg2 x1 zero2, readAt_all harg3 x2 zero2]
  rfl

theorem mxFirst (hF : isFirst i) (hP : ¬isLater i) (hL : ¬isLast i) (b : Fin 4) :
    (headRunFirst (F := Ideal) c i arg1 harg1 arg2 harg2 arg3 harg3 arg4 harg4 arg5 harg5 arg6 harg6 arg7 harg7 arg8 harg8 hF hP hL x0 x1 x2).1.mx (ix1 b) = maxV (lastRow x1 x2 b) := by
  unfold headRunFirst
  dsimp only
  refine (canon_four (Val := Elt Ideal) (e := .f32) _ _ _ _ b).trans ?_
  simp only [headRunFirst.sl.r, headRunFirst.sl.r_1, headRunFirst.sl.r_2, headRunFirst.sl.r_3, headRunFirst.sl.r_4, headRunFirst.sl.r_5, headRunFirst.sl.r_6, headRunFirst.sl.r_7, headRunFirst.sl.r_8, headRunFirst.sl.r_9, headRunFirst.sl.r_10, headRunFirst.sl.r_11, headRunFirst.sl.r_12, headRunFirst.sl.r_13, headRunFirst.sl.r_14, headRunFirst.sl.r_15, headRunFirst.sl.r_16, headRunFirst.sl.r_17, headRunFirst.sl.r_18, headRunFirst.sl.r_19, headRunFirst.sl.r_20, headRunFirst.sl.r_21, headRunFirst.sl.r_22, headRunFirst.sl.f, headRunFirst.sl.f_1, headRunFirst.sl.f_2, headRunFirst.sl.f_3, headRunFirst.sl.f_4, headRunFirst.sl.f_5, headRunFirst.sl.f_6, headRunFirst.sl.f_7, headRunFirst.sl.f_8, headRunFirst.sl.v111, headRunFirst.sl.v112]
  rw [readAt_all harg2 x1 zero2, readAt_all harg3 x2 zero2]
  simp only [pay1, pay5, pay11, pay12, pay13, pay14, pay15, pay16, pay19, pay20, pay21, pay22, pay23, pay24, pay28, pay29, pay30, pay31, pay32, pay33, pay36]
  exact four_map (fun _ v => maxV v) _ _ _ _ b

theorem smFirst (hF : isFirst i) (hP : ¬isLater i) (hL : ¬isLast i) (b : Fin 4) :
    (headRunFirst (F := Ideal) c i arg1 harg1 arg2 harg2 arg3 harg3 arg4 harg4 arg5 harg5 arg6 harg6 arg7 harg7 arg8 harg8 hF hP hL x0 x1 x2).1.sm (ix1 b) = k1_pay2 (F := Ideal) (lastRow x1 x2 b) (maxV (lastRow x1 x2 b)) := by
  unfold headRunFirst
  dsimp only
  refine (canon_four (Val := Elt Ideal) (e := .f32) _ _ _ _ b).trans ?_
  simp only [headRunFirst.sl.r, headRunFirst.sl.r_1, headRunFirst.sl.r_2, headRunFirst.sl.r_3, headRunFirst.sl.r_4, headRunFirst.sl.r_5, headRunFirst.sl.r_6, headRunFirst.sl.r_7, headRunFirst.sl.r_8, headRunFirst.sl.r_9, headRunFirst.sl.r_10, headRunFirst.sl.r_11, headRunFirst.sl.r_12, headRunFirst.sl.r_13, headRunFirst.sl.r_14, headRunFirst.sl.r_15, headRunFirst.sl.r_16, headRunFirst.sl.r_17, headRunFirst.sl.r_18, headRunFirst.sl.r_19, headRunFirst.sl.r_20, headRunFirst.sl.r_21, headRunFirst.sl.r_22, headRunFirst.sl.f, headRunFirst.sl.f_1, headRunFirst.sl.f_2, headRunFirst.sl.f_3, headRunFirst.sl.f_4, headRunFirst.sl.f_5, headRunFirst.sl.f_6, headRunFirst.sl.f_7, headRunFirst.sl.f_8, headRunFirst.sl.v111, headRunFirst.sl.v112]
  rw [readAt_all harg2 x1 zero2, readAt_all harg3 x2 zero2]
  simp only [pay1, pay5, pay11, pay12, pay13, pay14, pay15, pay16, pay19, pay20, pay21, pay22, pay23, pay24, pay28, pay29, pay30, pay31, pay32, pay33, pay36]
  exact four_map (fun _ v => k1_pay2 (F := Ideal) v (maxV v)) _ _ _ _ b

theorem labFirst (hF : isFirst i) (hP : ¬isLater i) (hL : ¬isLast i) (b : Fin 4) :
    (headRunFirst (F := Ideal) c i arg1 harg1 arg2 harg2 arg3 harg3 arg4 harg4 arg5 harg5 arg6 harg6 arg7 harg7 arg8 harg8 hF hP hL x0 x1 x2).1.lab (ix1 b) = labV i (lastRow x1 x2 b) (x0 (ix1 b)) := by
  unfold headRunFirst
  dsimp only
  refine (canon_four (Val := Elt Ideal) (e := .f32) _ _ _ _ b).trans ?_
  simp only [headRunFirst.sl.r, headRunFirst.sl.r_1, headRunFirst.sl.r_2, headRunFirst.sl.r_3, headRunFirst.sl.r_4, headRunFirst.sl.r_5, headRunFirst.sl.r_6, headRunFirst.sl.r_7, headRunFirst.sl.r_8, headRunFirst.sl.r_9, headRunFirst.sl.r_10, headRunFirst.sl.r_11, headRunFirst.sl.r_12, headRunFirst.sl.r_13, headRunFirst.sl.r_14, headRunFirst.sl.r_15, headRunFirst.sl.r_16, headRunFirst.sl.r_17, headRunFirst.sl.r_18, headRunFirst.sl.r_19, headRunFirst.sl.r_20, headRunFirst.sl.r_21, headRunFirst.sl.r_22, headRunFirst.sl.f, headRunFirst.sl.f_1, headRunFirst.sl.f_2, headRunFirst.sl.f_3, headRunFirst.sl.f_4, headRunFirst.sl.f_5, headRunFirst.sl.f_6, headRunFirst.sl.f_7, headRunFirst.sl.f_8, headRunFirst.sl.v111, headRunFirst.sl.v112]
  rw [readAt_all harg2 x1 zero2, readAt_all harg3 x2 zero2]
  rw [readAt_one harg1 x0 0 (by omega), readAt_one harg1 x0 1 (by omega), readAt_one harg1 x0 2 (by omega), readAt_one harg1 x0 3 (by omega)]
  simp only [pay1, pay5, pay11, pay12, pay13, pay14, pay15, pay16, pay19, pay20, pay21, pay22, pay23, pay24, pay28, pay29, pay30, pay31, pay32, pay33, pay36]
  exact four_map (fun k v => labV i v (x0 (ix1 k))) _ _ _ _ b

theorem mxMid (hF : ¬isFirst i) (hP : isLater i) (hL : ¬isLast i) (b : Fin 4) :
    (headRunMid (F := Ideal) c i arg1 harg1 arg2 harg2 arg3 harg3 arg4 harg4 arg5 harg5 arg6 harg6 arg7 harg7 arg8 harg8 hF hP hL x0 x1 x2 xs0 xs1 xs2).1.mx (ix1 b) = k1_pay3 (F := Ideal) (maxV (lastRow x1 x2 b)) (xs0 (ix1 b)) := by
  unfold headRunMid
  dsimp only
  refine (canon_four (Val := Elt Ideal) (e := .f32) _ _ _ _ b).trans ?_
  simp only [headRunMid.sl.r, headRunMid.sl.r_1, headRunMid.sl.r_2, headRunMid.sl.r_3, headRunMid.sl.r_4, headRunMid.sl.r_5, headRunMid.sl.r_6, headRunMid.sl.r_7, headRunMid.sl.r_8, headRunMid.sl.r_9, headRunMid.sl.r_10, headRunMid.sl.r_11, headRunMid.sl.r_12, headRunMid.sl.r_13, headRunMid.sl.r_14, headRunMid.sl.r_15, headRunMid.sl.r_16, headRunMid.sl.r_17, headRunMid.sl.r_18, headRunMid.sl.r_19, headRunMid.sl.r_20, headRunMid.sl.r_21, headRunMid.sl.r_22, headRunMid.sl.f, headRunMid.sl.f_1, headRunMid.sl.f_2, headRunMid.sl.f_3, headRunMid.sl.f_4, headRunMid.sl.f_5, headRunMid.sl.f_6, headRunMid.sl.f_7, headRunMid.sl.f_8, headRunMid.sl.v111, headRunMid.sl.v112]
  rw [readAt_all harg2 x1 zero2, readAt_all harg3 x2 zero2]
  rw [readAt_one harg6 xs0 0 (by omega), readAt_one harg6 xs0 1 (by omega), readAt_one harg6 xs0 2 (by omega), readAt_one harg6 xs0 3 (by omega)]
  simp only [pay1, pay5, pay11, pay12, pay13, pay14, pay15, pay16, pay19, pay20, pay21, pay22, pay23, pay24, pay28, pay29, pay30, pay31, pay32, pay33, pay36]
  exact four_map (fun k v => k1_pay3 (F := Ideal) (maxV v) (xs0 (ix1 k))) _ _ _ _ b

theorem smMid (hF : ¬isFirst i) (hP : isLater i) (hL : ¬isLast i) (b : Fin 4) :
    (headRunMid (F := Ideal) c i arg1 harg1 arg2 harg2 arg3 harg3 arg4 harg4 arg5 harg5 arg6 harg6 arg7 harg7 arg8 harg8 hF hP hL x0 x1 x2 xs0 xs1 xs2).1.sm (ix1 b) = k1_pay4 (F := Ideal) (lastRow x1 x2 b) (maxV (lastRow x1 x2 b)) (xs0 (ix1 b)) (xs1 (ix1 b)) := by
  unfold headRunMid
  dsimp only
  refine (canon_four (Val := Elt Ideal) (e := .f32) _ _ _ _ b).trans ?_
  simp only [headRunMid.sl.r, headRunMid.sl.r_1, headRunMid.sl.r_2, headRunMid.sl.r_3, headRunMid.sl.r_4, headRunMid.sl.r_5, headRunMid.sl.r_6, headRunMid.sl.r_7, headRunMid.sl.r_8, headRunMid.sl.r_9, headRunMid.sl.r_10, headRunMid.sl.r_11, headRunMid.sl.r_12, headRunMid.sl.r_13, headRunMid.sl.r_14, headRunMid.sl.r_15, headRunMid.sl.r_16, headRunMid.sl.r_17, headRunMid.sl.r_18, headRunMid.sl.r_19, headRunMid.sl.r_20, headRunMid.sl.r_21, headRunMid.sl.r_22, headRunMid.sl.f, headRunMid.sl.f_1, headRunMid.sl.f_2, headRunMid.sl.f_3, headRunMid.sl.f_4, headRunMid.sl.f_5, headRunMid.sl.f_6, headRunMid.sl.f_7, headRunMid.sl.f_8, headRunMid.sl.v111, headRunMid.sl.v112]
  rw [readAt_all harg2 x1 zero2, readAt_all harg3 x2 zero2]
  rw [readAt_one harg6 xs0 0 (by omega), readAt_one harg6 xs0 1 (by omega), readAt_one harg6 xs0 2 (by omega), readAt_one harg6 xs0 3 (by omega)]
  rw [readAt_one harg7 xs1 0 (by omega), readAt_one harg7 xs1 1 (by omega), readAt_one harg7 xs1 2 (by omega), readAt_one harg7 xs1 3 (by omega)]
  simp only [pay1, pay5, pay11, pay12, pay13, pay14, pay15, pay16, pay19, pay20, pay21, pay22, pay23, pay24, pay28, pay29, pay30, pay31, pay32, pay33, pay36]
  exact four_map (fun k v => k1_pay4 (F := Ideal) v (maxV v) (xs0 (ix1 k)) (xs1 (ix1 k))) _ _ _ _ b

theorem labMid (hF : ¬isFirst i) (hP : isLater i) (hL : ¬isLast i) (b : Fin 4) :
    (headRunMid (F := Ideal) c i arg1 harg1 arg2 harg2 arg3 harg3 arg4 harg4 arg5 harg5 arg6 harg6 arg7 harg7 arg8 harg8 hF hP hL x0 x1 x2 xs0 xs1 xs2).1.lab (ix1 b) = Scalar.addf (xs2 (ix1 b)) (labV i (lastRow x1 x2 b) (x0 (ix1 b))) := by
  unfold headRunMid
  dsimp only
  refine (canon_four (Val := Elt Ideal) (e := .f32) _ _ _ _ b).trans ?_
  simp only [headRunMid.sl.r, headRunMid.sl.r_1, headRunMid.sl.r_2, headRunMid.sl.r_3, headRunMid.sl.r_4, headRunMid.sl.r_5, headRunMid.sl.r_6, headRunMid.sl.r_7, headRunMid.sl.r_8, headRunMid.sl.r_9, headRunMid.sl.r_10, headRunMid.sl.r_11, headRunMid.sl.r_12, headRunMid.sl.r_13, headRunMid.sl.r_14, headRunMid.sl.r_15, headRunMid.sl.r_16, headRunMid.sl.r_17, headRunMid.sl.r_18, headRunMid.sl.r_19, headRunMid.sl.r_20, headRunMid.sl.r_21, headRunMid.sl.r_22, headRunMid.sl.f, headRunMid.sl.f_1, headRunMid.sl.f_2, headRunMid.sl.f_3, headRunMid.sl.f_4, headRunMid.sl.f_5, headRunMid.sl.f_6, headRunMid.sl.f_7, headRunMid.sl.f_8, headRunMid.sl.v111, headRunMid.sl.v112]
  rw [readAt_all harg2 x1 zero2, readAt_all harg3 x2 zero2]
  rw [readAt_one harg1 x0 0 (by omega), readAt_one harg1 x0 1 (by omega), readAt_one harg1 x0 2 (by omega), readAt_one harg1 x0 3 (by omega)]
  rw [readAt_one harg8 xs2 0 (by omega), readAt_one harg8 xs2 1 (by omega), readAt_one harg8 xs2 2 (by omega), readAt_one harg8 xs2 3 (by omega)]
  simp only [pay1, pay5, pay11, pay12, pay13, pay14, pay15, pay16, pay19, pay20, pay21, pay22, pay23, pay24, pay28, pay29, pay30, pay31, pay32, pay33, pay36]
  exact four_map (fun k v => Scalar.addf (xs2 (ix1 k)) (labV i v (x0 (ix1 k)))) _ _ _ _ b

theorem mxLast (hF : ¬isFirst i) (hP : isLater i) (hL : isLast i) (b : Fin 4) :
    (headRunLast (F := Ideal) c i arg1 harg1 arg2 harg2 arg3 harg3 arg4 harg4 arg5 harg5 arg6 harg6 arg7 harg7 arg8 harg8 hF hP hL x0 x1 x2 xs0 xs1 xs2).1.mx (ix1 b) = k1_pay3 (F := Ideal) (maxV (lastRow x1 x2 b)) (xs0 (ix1 b)) := by
  unfold headRunLast
  dsimp only
  refine (canon_four (Val := Elt Ideal) (e := .f32) _ _ _ _ b).trans ?_
  simp only [headRunLast.sl.r, headRunLast.sl.r_1, headRunLast.sl.r_2, headRunLast.sl.r_3, headRunLast.sl.r_4, headRunLast.sl.r_5, headRunLast.sl.r_6, headRunLast.sl.r_7, headRunLast.sl.r_8, headRunLast.sl.r_9, headRunLast.sl.r_10, headRunLast.sl.r_11, headRunLast.sl.r_12, headRunLast.sl.r_13, headRunLast.sl.r_14, headRunLast.sl.r_15, headRunLast.sl.r_16, headRunLast.sl.r_17, headRunLast.sl.r_18, headRunLast.sl.r_19, headRunLast.sl.r_20, headRunLast.sl.r_21, headRunLast.sl.r_22, headRunLast.sl.f, headRunLast.sl.f_1, headRunLast.sl.f_2, headRunLast.sl.f_3, headRunLast.sl.f_4, headRunLast.sl.f_5, headRunLast.sl.f_6, headRunLast.sl.f_7, headRunLast.sl.f_8, headRunLast.sl.v111, headRunLast.sl.v112]
  rw [readAt_all harg2 x1 zero2, readAt_all harg3 x2 zero2]
  rw [readAt_one harg6 xs0 0 (by omega), readAt_one harg6 xs0 1 (by omega), readAt_one harg6 xs0 2 (by omega), readAt_one harg6 xs0 3 (by omega)]
  simp only [pay1, pay5, pay11, pay12, pay13, pay14, pay15, pay16, pay19, pay20, pay21, pay22, pay23, pay24, pay28, pay29, pay30, pay31, pay32, pay33, pay36]
  exact four_map (fun k v => k1_pay3 (F := Ideal) (maxV v) (xs0 (ix1 k))) _ _ _ _ b

theorem smLast (hF : ¬isFirst i) (hP : isLater i) (hL : isLast i) (b : Fin 4) :
    (headRunLast (F := Ideal) c i arg1 harg1 arg2 harg2 arg3 harg3 arg4 harg4 arg5 harg5 arg6 harg6 arg7 harg7 arg8 harg8 hF hP hL x0 x1 x2 xs0 xs1 xs2).1.sm (ix1 b) = k1_pay4 (F := Ideal) (lastRow x1 x2 b) (maxV (lastRow x1 x2 b)) (xs0 (ix1 b)) (xs1 (ix1 b)) := by
  unfold headRunLast
  dsimp only
  refine (canon_four (Val := Elt Ideal) (e := .f32) _ _ _ _ b).trans ?_
  simp only [headRunLast.sl.r, headRunLast.sl.r_1, headRunLast.sl.r_2, headRunLast.sl.r_3, headRunLast.sl.r_4, headRunLast.sl.r_5, headRunLast.sl.r_6, headRunLast.sl.r_7, headRunLast.sl.r_8, headRunLast.sl.r_9, headRunLast.sl.r_10, headRunLast.sl.r_11, headRunLast.sl.r_12, headRunLast.sl.r_13, headRunLast.sl.r_14, headRunLast.sl.r_15, headRunLast.sl.r_16, headRunLast.sl.r_17, headRunLast.sl.r_18, headRunLast.sl.r_19, headRunLast.sl.r_20, headRunLast.sl.r_21, headRunLast.sl.r_22, headRunLast.sl.f, headRunLast.sl.f_1, headRunLast.sl.f_2, headRunLast.sl.f_3, headRunLast.sl.f_4, headRunLast.sl.f_5, headRunLast.sl.f_6, headRunLast.sl.f_7, headRunLast.sl.f_8, headRunLast.sl.v111, headRunLast.sl.v112]
  rw [readAt_all harg2 x1 zero2, readAt_all harg3 x2 zero2]
  rw [readAt_one harg6 xs0 0 (by omega), readAt_one harg6 xs0 1 (by omega), readAt_one harg6 xs0 2 (by omega), readAt_one harg6 xs0 3 (by omega)]
  rw [readAt_one harg7 xs1 0 (by omega), readAt_one harg7 xs1 1 (by omega), readAt_one harg7 xs1 2 (by omega), readAt_one harg7 xs1 3 (by omega)]
  simp only [pay1, pay5, pay11, pay12, pay13, pay14, pay15, pay16, pay19, pay20, pay21, pay22, pay23, pay24, pay28, pay29, pay30, pay31, pay32, pay33, pay36]
  exact four_map (fun k v => k1_pay4 (F := Ideal) v (maxV v) (xs0 (ix1 k)) (xs1 (ix1 k))) _ _ _ _ b

theorem labLast (hF : ¬isFirst i) (hP : isLater i) (hL : isLast i) (b : Fin 4) :
    (headRunLast (F := Ideal) c i arg1 harg1 arg2 harg2 arg3 harg3 arg4 harg4 arg5 harg5 arg6 harg6 arg7 harg7 arg8 harg8 hF hP hL x0 x1 x2 xs0 xs1 xs2).1.lab (ix1 b) = Scalar.addf (xs2 (ix1 b)) (labV i (lastRow x1 x2 b) (x0 (ix1 b))) := by
  unfold headRunLast
  dsimp only
  refine (canon_four (Val := Elt Ideal) (e := .f32) _ _ _ _ b).trans ?_
  simp only [headRunLast.sl.r, headRunLast.sl.r_1, headRunLast.sl.r_2, headRunLast.sl.r_3, headRunLast.sl.r_4, headRunLast.sl.r_5, headRunLast.sl.r_6, headRunLast.sl.r_7, headRunLast.sl.r_8, headRunLast.sl.r_9, headRunLast.sl.r_10, headRunLast.sl.r_11, headRunLast.sl.r_12, headRunLast.sl.r_13, headRunLast.sl.r_14, headRunLast.sl.r_15, headRunLast.sl.r_16, headRunLast.sl.r_17, headRunLast.sl.r_18, headRunLast.sl.r_19, headRunLast.sl.r_20, headRunLast.sl.r_21, headRunLast.sl.r_22, headRunLast.sl.f, headRunLast.sl.f_1, headRunLast.sl.f_2, headRunLast.sl.f_3, headRunLast.sl.f_4, headRunLast.sl.f_5, headRunLast.sl.f_6, headRunLast.sl.f_7, headRunLast.sl.f_8, headRunLast.sl.v111, headRunLast.sl.v112]
  rw [readAt_all harg2 x1 zero2, readAt_all harg3 x2 zero2]
  rw [readAt_one harg1 x0 0 (by omega), readAt_one harg1 x0 1 (by omega), readAt_one harg1 x0 2 (by omega), readAt_one harg1 x0 3 (by omega)]
  rw [readAt_one harg8 xs2 0 (by omega), readAt_one harg8 xs2 1 (by omega), readAt_one harg8 xs2 2 (by omega), readAt_one harg8 xs2 3 (by omega)]
  simp only [pay1, pay5, pay11, pay12, pay13, pay14, pay15, pay16, pay19, pay20, pay21, pay22, pay23, pay24, pay28, pay29, pay30, pay31, pay32, pay33, pay36]
  exact four_map (fun k v => Scalar.addf (xs2 (ix1 k)) (labV i v (x0 (ix1 k)))) _ _ _ _ b

theorem lossLast (hF : ¬isFirst i) (hP : isLater i) (hL : isLast i) :
    (headRunLast (F := Ideal) c i arg1 harg1 arg2 harg2 arg3 harg3 arg4 harg4 arg5 harg5 arg6 harg6 arg7 harg7 arg8 harg8 hF hP hL x0 x1 x2 xs0 xs1 xs2).1.loss = fun _ => k1_pay6 (F := Ideal) (k1_pay4 (F := Ideal) (lastRow x1 x2 0) (maxV (lastRow x1 x2 0)) (xs0 (ix1 0)) (xs1 (ix1 0))) (k1_pay3 (F := Ideal) (maxV (lastRow x1 x2 0)) (xs0 (ix1 0))) (Scalar.addf (xs2 (ix1 0)) (labV i (lastRow x1 x2 0) (x0 (ix1 0)))) (k1_pay4 (F := Ideal) (lastRow x1 x2 1) (maxV (lastRow x1 x2 1)) (xs0 (ix1 1)) (xs1 (ix1 1))) (k1_pay3 (F := Ideal) (maxV (lastRow x1 x2 1)) (xs0 (ix1 1))) (Scalar.addf (xs2 (ix1 1)) (labV i (lastRow x1 x2 1) (x0 (ix1 1)))) (k1_pay4 (F := Ideal) (lastRow x1 x2 2) (maxV (lastRow x1 x2 2)) (xs0 (ix1 2)) (xs1 (ix1 2))) (k1_pay3 (F := Ideal) (maxV (lastRow x1 x2 2)) (xs0 (ix1 2))) (Scalar.addf (xs2 (ix1 2)) (labV i (lastRow x1 x2 2) (x0 (ix1 2)))) (k1_pay4 (F := Ideal) (lastRow x1 x2 3) (maxV (lastRow x1 x2 3)) (xs0 (ix1 3)) (xs1 (ix1 3))) (k1_pay3 (F := Ideal) (maxV (lastRow x1 x2 3)) (xs0 (ix1 3))) (Scalar.addf (xs2 (ix1 3)) (labV i (lastRow x1 x2 3) (x0 (ix1 3)))) := by
  unfold headRunLast
  dsimp only
  refine (View.canon_unit_zero (S := S1x1) zero2 _ _).trans ?_
  simp only [headRunLast.sl.r, headRunLast.sl.r_1, headRunLast.sl.r_2, headRunLast.sl.r_3, headRunLast.sl.r_4, headRunLast.sl.r_5, headRunLast.sl.r_6, headRunLast.sl.r_7, headRunLast.sl.r_8, headRunLast.sl.r_9, headRunLast.sl.r_10, headRunLast.sl.r_11, headRunLast.sl.r_12, headRunLast.sl.r_13, headRunLast.sl.r_14, headRunLast.sl.r_15, headRunLast.sl.r_16, headRunLast.sl.r_17, headRunLast.sl.r_18, headRunLast.sl.r_19, headRunLast.sl.r_20, headRunLast.sl.r_21, headRunLast.sl.r_22, headRunLast.sl.f, headRunLast.sl.f_1, headRunLast.sl.f_2, headRunLast.sl.f_3, headRunLast.sl.f_4, headRunLast.sl.f_5, headRunLast.sl.f_6, headRunLast.sl.f_7, headRunLast.sl.f_8, headRunLast.sl.v111, headRunLast.sl.v112, headRunLast.sl.r_23, headRunLast.sl.r_24, headRunLast.sl.r_25, headRunLast.sl.r_26, headRunLast.sl.r_27, headRunLast.sl.r_28, headRunLast.sl.r_29, headRunLast.sl.r_30, headRunLast.sl.r_31, headRunLast.sl.r_32, headRunLast.sl.r_33, headRunLast.sl.r_34]
  rw [readAt_all harg2 x1 zero2, readAt_all harg3 x2 zero2]
  rw [readAt_one harg1 x0 0 (by omega), readAt_one harg1 x0 1 (by omega), readAt_one harg1 x0 2 (by omega), readAt_one harg1 x0 3 (by omega)]
  rw [readAt_one harg6 xs0 0 (by omega), readAt_one harg6 xs0 1 (by omega), readAt_one harg6 xs0 2 (by omega), readAt_one harg6 xs0 3 (by omega)]
  rw [readAt_one harg7 xs1 0 (by omega), readAt_one harg7 xs1 1 (by omega), readAt_one harg7 xs1 2 (by omega), readAt_one harg7 xs1 3 (by omega)]
  rw [readAt_one harg8 xs2 0 (by omega), readAt_one harg8 xs2 1 (by omega), readAt_one harg8 xs2 2 (by omega), readAt_one harg8 xs2 3 (by omega)]
  simp only [pay1, pay5, pay11, pay12, pay13, pay14, pay15, pay16, pay19, pay20, pay21, pay22, pay23, pay24, pay28, pay29, pay30, pay31, pay32, pay33, pay36]
  rfl

/-- The loss is the last formula of what the same run leaves to carry. -/
theorem lossLast_carried (hF : ¬isFirst i) (hP : isLater i) (hL : isLast i) (y : S1x1.Idx) (o : HeadOut Ideal) (ho : o = (headRunLast (F := Ideal) c i arg1 harg1 arg2 harg2 arg3 harg3 arg4 harg4 arg5 harg5 arg6 harg6 arg7 harg7 arg8 harg8 hF hP hL x0 x1 x2 xs0 xs1 xs2).1) :
    o.loss y = k1_pay6 (F := Ideal) (o.sm (ix1 0)) (o.mx (ix1 0)) (o.lab (ix1 0)) (o.sm (ix1 1)) (o.mx (ix1 1)) (o.lab (ix1 1)) (o.sm (ix1 2)) (o.mx (ix1 2)) (o.lab (ix1 2)) (o.sm (ix1 3)) (o.mx (ix1 3)) (o.lab (ix1 3)) := by
  subst ho
  rw [lossLast, smLast c i _ _ _ _ _ _ _ _ _ _ _ _ _ _ _ _ x0 x1 x2 xs0 xs1 xs2 hF hP hL 0, mxLast c i _ _ _ _ _ _ _ _ _ _ _ _ _ _ _ _ x0 x1 x2 xs0 xs1 xs2 hF hP hL 0, labLast c i _ _ _ _ _ _ _ _ _ _ _ _ _ _ _ _ x0 x1 x2 xs0 xs1 xs2 hF hP hL 0, smLast c i _ _ _ _ _ _ _ _ _ _ _ _ _ _ _ _ x0 x1 x2 xs0 xs1 xs2 hF hP hL 1, mxLast c i _ _ _ _ _ _ _ _ _ _ _ _ _ _ _ _ x0 x1 x2 xs0 xs1 xs2 hF hP hL 1, labLast c i _ _ _ _ _ _ _ _ _ _ _ _ _ _ _ _ x0 x1 x2 xs0 xs1 xs2 hF hP hL 1, smLast c i _ _ _ _ _ _ _ _ _ _ _ _ _ _ _ _ x0 x1 x2 xs0 xs1 xs2 hF hP hL 2, mxLast c i _ _ _ _ _ _ _ _ _ _ _ _ _ _ _ _ x0 x1 x2 xs0 xs1 xs2 hF hP hL 2, labLast c i _ _ _ _ _ _ _ _ _ _ _ _ _ _ _ _ x0 x1 x2 xs0 xs1 xs2 hF hP hL 2, smLast c i _ _ _ _ _ _ _ _ _ _ _ _ _ _ _ _ x0 x1 x2 xs0 xs1 xs2 hF hP hL 3, mxLast c i _ _ _ _ _ _ _ _ _ _ _ _ _ _ _ _ x0 x1 x2 xs0 xs1 xs2 hF hP hL 3, labLast c i _ _ _ _ _ _ _ _ _ _ _ _ _ _ _ _ x0 x1 x2 xs0 xs1 xs2 hF hP hL 3]

end

end Cert.KernelIdeal.Hand

end
-- ==== Proof.Value.Args.lean ====
module

public import proofs.«01_k».proof.Proof.Value.Block
public import Idealize.ShloMosaic.Lib.WordCmp
public import Idealize.ShloMosaic.Lib.Routing.Ops

/-!
# The arguments over the reals, and what is computed from them
-/

@[expose] public section

noncomputable section

namespace Cert.Real

open Idealize.ShloMosaic
open scoped BigOperators

/-- The arguments: the images, the labels, the weights, and the prompt's tokens. A channel of an image is zero here if it has an infinite point. -/
structure Given where
  image : R4
  label : ℕ → ℕ
  wPatch : E2
  wTok : E2
  table : R2
  wQkv : R2
  wO : R2
  w1 : R2
  w2 : R2
  wHead : R2
  prompt : ℕ → ℕ

/-- The argument arrays hold these numbers; a label or a token is below 32000. -/
structure Given.In (G : Given) (a0 : FVec Ideal ⟨4, ![4, 3, 224, 224]⟩ .f32) (a1 : IVec ⟨1, ![4]⟩ 32) (a2 : FVec Ideal ⟨2, ![768, 768]⟩ .f32)
    (a3 : FVec Ideal ⟨2, ![768, 1024]⟩ .f32) (a4 : FVec Ideal ⟨2, ![32002, 1024]⟩ .f32) (a5 : FVec Ideal ⟨2, ![1024, 3072]⟩ .f32)
    (a6 : FVec Ideal ⟨2, ![1024, 1024]⟩ .f32) (a7 : FVec Ideal ⟨2, ![1024, 4096]⟩ .f32) (a8 : FVec Ideal ⟨2, ![4096, 1024]⟩ .f32)
    (a9 : FVec Ideal ⟨2, ![1024, 32000]⟩ .f32) (a10 : IVec ⟨1, ![3]⟩ 32) : Prop where
  image : ∀ (b : Fin 4) (c : Fin 3), Chan (n := 224) (m := 224) (fun y x => a0 (ix4 b c y x)) (G.image b c)
  label : ∀ b : Fin 4, a1 (ix1 b) = BitVec.ofNat 32 (G.label b)
  label_lt : ∀ b, G.label b < 32000
  wPatch : At2 a2 G.wPatch
  wTok : At2 a3 G.wTok
  table : Is2 a4 G.table
  wQkv : Is2 a5 G.wQkv
  wO : Is2 a6 G.wO
  w1 : Is2 a7 G.w1
  w2 : Is2 a8 G.w2
  wHead : Is2 a9 G.wHead
  prompt : ∀ k : Fin 3, a10 (ix1 k) = BitVec.ofNat 32 (G.prompt k)
  prompt_lt : ∀ k, G.prompt k < 32000

namespace Given

variable (G : Given)

/-- Image `b` cut into patches of 16 by 16: row `p` is the patch, column `k` the channel and the place in it. -/
def pix (b : ℕ) : R2 := fun p k => G.image b (k / 256) (p / 14 * 16 + k / 16 % 16) (p % 14 * 16 + k % 16)
/-- The tokens around the visual rows: start, end, the prompt, padding. -/
def token (k : ℕ) : ℕ := if k = 0 then 32000 else if k = 1 then 32001 else if k < 5 then G.prompt (k - 2) else 0
def words : R2 := fun k j => G.table (G.token k) j
/-- The rows of image `b` before the block, -/
def rows (b : ℕ) : E2 := embed (visual G.wPatch G.wTok (G.pix b)) G.words
/-- after it, -/
def hidden (b : ℕ) : E2 := block G.wQkv G.wO G.w1 G.w2 (G.rows b)
/-- and its logits. -/
def logit (b : ℕ) : E2 := mmE 1024 (G.hidden b) (wide G.wHead)

theorem row_real (b : ℕ) (j : ℕ) : ∃ r : ℝ, G.hidden b 200 j = (r : EReal) := block_real _ _ _ _ ⟨G.words 4 j, rfl⟩

/-- The last row, which comes from the prompt, is real. -/
def lastRow (b : ℕ) (j : ℕ) : ℝ := (G.hidden b 200 j).toReal
def lastLogit (b : ℕ) (v : ℕ) : ℝ := ∑ k ∈ Finset.range 1024, G.lastRow b k * G.wHead k v

theorem lastRow_eq (b : ℕ) (j : ℕ) : G.hidden b 200 j = (G.lastRow b j : EReal) := by
  obtain ⟨r, h⟩ := G.row_real b j
  rw [lastRow, h, EReal.toReal_coe]

theorem lastLogit_eq (b v : ℕ) : G.logit b 200 v = (G.lastLogit b v : EReal) :=
  mmE_real (fun k _ => G.lastRow_eq b k) (fun _ _ => rfl)

/-- The mean over the images of the last row's cross entropy at the label. -/
def loss : ℝ := (∑ b ∈ Finset.range 4, (Real.log (∑ v ∈ Finset.range 32000, Real.exp (G.lastLogit b v)) - G.lastLogit b (G.label b))) / 4

end Given

/-! ## Rows looked up by number -/

theorem fix_small {t : ℕ} (h : t < 2 ^ 31) (a : BitVec 32) :
    Scalar.select (IntOp.cmpi .slt (BitVec.ofNat 32 t) 0#32) (IntOp.addi (BitVec.ofNat 32 t) a) (BitVec.ofNat 32 t) = BitVec.ofNat 32 t := by
  rw [WordCmp.cmpi_slt_zero, WordCmp.toNat_ofNat_of_lt (by omega), decide_eq_false (by omega)]
  rfl

theorem in_range {t n : ℕ} (h : t ≤ n) (hn : n < 2 ^ 31) :
    IntOp.andi (IntOp.cmpi .sge (BitVec.ofNat 32 t) 0#32) (IntOp.cmpi .sle (BitVec.ofNat 32 t) (BitVec.ofNat 32 n)) = 1#1 := by
  rw [WordCmp.cmpi_sge_zero, WordCmp.cmpi_sle_ofNat (by omega) hn, WordCmp.toNat_ofNat_of_lt (by omega),
    decide_eq_true (by omega), decide_eq_true h]
  rfl

end Cert.Real

end
-- ==== Proof.Value.Head.lean ====
module

public import proofs.«01_k».proof.Proof.Value.HeadLink
public import proofs.«01_k».proof.Proof.Value.Args

/-!
# The head kernel's values over the reals

The logits of a tile, and what a point adds to the running maximum, the running sum of exponentials and the label's logit.
-/

@[expose] public section

set_option maxRecDepth 8192

noncomputable section

namespace Cert.KernelIdeal.Hand

open Cert.Real Cert.KernelIdeal Cert.KernelIdeal.Gen
open Idealize.ShloMosaic
open scoped BigOperators

/-! ## The logits -/

section logits
variable {x : FVec Ideal S832x1024 .bf16} {w : FVec Ideal S1024x3200 .f32} {H W : E2}

theorem prod_is (hx : At2 (n := 832) (m := 1024) x H) (hw : At2 (n := 1024) (m := 3200) w W) :
    At2 (n := 832) (m := 3200) (k1_pay7 (F := Ideal) x w) (mmE 1024 H W) := by
  unfold k1_pay7
  dsimp only
  rw [shapeCast_self]
  exact At2.matmul (n := 832) (k := 1024) (m := 3200) none hx hw

variable {v : FVec Ideal S832x3200 .f32} {P : E2}

theorem tile_cut (hv : At2 (n := 832) (m := 3200) v P) (o : ℕ) (h : S832x3200.Slices ![o, 0] S201x3200) (h' : S201x3200.ShapeCasts S1x201x3200)
    (i : Fin 201) (j : Fin 3200) :
    shapeCast S1x201x3200 (extractStridedSlice S201x3200 ![o, 0] v h) h' (ix3 0 i j) = P (o + i) j := by
  refine (ValueIdx.shapeCast_ab_1ab_apply _ h' 0 i j).trans ?_
  refine (At2.slice (n := 832) (m := 3200) (p := 201) (q := 3200) (o₀ := o) (o₁ := 0) hv h i j).trans ?_
  beta_reduce
  rw [Nat.zero_add]

theorem row_cut (hv : At2 (n := 832) (m := 3200) v P) (o : ℕ) (h : S832x3200.Slices ![o, 0] S1x3200) (h' : S1x3200.ShapeCasts S3200)
    (j : Fin 3200) :
    shapeCast S3200 (extractStridedSlice S1x3200 ![o, 0] v h) h' (ix1 j) = P o j := by
  refine (ValueIdx.shapeCast_1a_a_apply _ h' j).trans ?_
  refine (At2.slice (n := 832) (m := 3200) (p := 1) (q := 3200) (o₀ := o) (o₁ := 0) hv h 0 j).trans ?_
  beta_reduce
  rw [Nat.zero_add]
  rfl

theorem tiles_is (hx : At2 (n := 832) (m := 1024) x H) (hw : At2 (n := 1024) (m := 3200) w W) (b : Fin 4) (i : Fin 201) (j : Fin 3200) :
    tiles x w b (ix3 0 i j) = mmE 1024 H W (208 * b + i) j := by
  have hp := prod_is hx hw
  fin_cases b
  · exact tile_cut hp 0 slices_S832x3200_o0_0_S201x3200 _ i j
  · exact tile_cut hp 208 slices_S832x3200_o208_0_S201x3200 _ i j
  · exact tile_cut hp 416 slices_S832x3200_o416_0_S201x3200 _ i j
  · exact tile_cut hp 624 slices_S832x3200_o624_0_S201x3200 _ i j

theorem lastRow_is (hx : At2 (n := 832) (m := 1024) x H) (hw : At2 (n := 1024) (m := 3200) w W) (b : Fin 4) (j : Fin 3200) :
    lastRow x w b (ix1 j) = mmE 1024 H W (208 * b + 200) j := by
  have hp := prod_is hx hw
  fin_cases b
  · exact row_cut hp 200 slices_S832x3200_o200_0_S1x3200 _ j
  · exact row_cut hp 408 slices_S832x3200_o408_0_S1x3200 _ j
  · exact row_cut hp 616 slices_S832x3200_o616_0_S1x3200 _ j
  · exact row_cut hp 824 slices_S832x3200_o824_0_S1x3200 _ j

end logits

/-! ## One row -/

section row
variable {v : FVec Ideal S3200 .f32} {L : R1} {M m s l : Ideal .f32} {rM rm rs rl : ℝ}

theorem maxV_eq (v : FVec Ideal S3200 .f32) : maxV v = Finset.fold max (⊥ : EReal) (fun j : Fin 3200 => v (ix1 j)) Finset.univ := by
  pointwise [maxV]
  rw [ofBits_neg_inf]

theorem maxV_is (h : Is1 (n := 3200) v L) : Is0 (maxV v) (top L 3199) := by
  rw [maxV_eq]
  exact row_max (by omega) fun j => by rw [if_pos (by omega)]; exact h j

theorem pay2_eq : k1_pay2 (F := Ideal) v M = ∑ j : Fin 3200, Ideal.exp (v (ix1 j) - M) := by
  pointwise [k1_pay2]

theorem sumV_is (h : Is1 (n := 3200) v L) (hM : Is0 M rM) :
    Is0 (k1_pay2 (F := Ideal) v M) (∑ j ∈ Finset.range 3200, Real.exp (L j - rM)) := by
  rw [pay2_eq]
  exact sum_fin _ _ fun j => Is0.exp (Is0.sub (h j) hM)

theorem pay4_eq : k1_pay4 (F := Ideal) v M m s = s * Ideal.exp (m - max m M) + k1_pay2 (F := Ideal) v (max m M) := rfl

theorem nextSum_is (h : Is1 (n := 3200) v L) (hM : Is0 M rM) (hm : Is0 m rm) (hs : Is0 s rs) :
    Is0 (k1_pay4 (F := Ideal) v M m s) (rs * Real.exp (rm - max rm rM) + ∑ j ∈ Finset.range 3200, Real.exp (L j - max rm rM)) := by
  rw [pay4_eq]
  exact Is0.add (Is0.mul hs (Is0.exp (Is0.sub hm (Is0.max hm hM)))) (sumV_is h (Is0.max hm hM))

theorem pay8_apply (j : Fin 3200) : k1_pay8 (ix1 j) = BitVec.ofNat 32 j.val := by
  pointwise [k1_pay8]

theorem pay1_eq (d : BitVec 32) : k1_pay1 (F := Ideal) k1_pay8 v d
    = Scalar.select (IntOp.andi (IntOp.cmpi .sge d 0#32) (IntOp.cmpi .slt d 3200#32))
        (∑ j : Fin 3200, Scalar.select (IntOp.cmpi .eq (BitVec.ofNat 32 j.val) d) (v (ix1 j)) (0 : EReal)) (0 : EReal) := by
  unfold k1_pay1
  dsimp only
  refine congrArg₂ (Scalar.select _) ?_ ?_
  · pointwise
    refine Finset.sum_congr rfl fun j _ => ?_
    rw [pay8_apply]
  · exact Ideal.ofBits_zero_f32

theorem labV_is (h : Is1 (n := 3200) v L) (i : grid1.Coords) (n : ℕ) (hn : n < 32000) :
    Is0 (labV i v (BitVec.ofNat 32 n)) (∑ j ∈ Finset.range 3200, if 3200 * (i 0).val + j = n then L j else 0) := by
  have hi : (i 0).val < 10 := (i 0).isLt
  unfold labV place
  generalize (i 0).val = t at hi ⊢
  rw [pay1_eq]
  have hd : (Scalar.subi (BitVec.ofNat 32 n) (Scalar.muli (BitVec.ofNat 32 t) 3200#32)).toNat = (4294967296 - 3200 * t + n) % 4294967296 := by
    show (BitVec.ofNat 32 n - BitVec.ofNat 32 t * BitVec.ofNat 32 3200).toNat = _
    rw [← BitVec.ofNat_mul, BitVec.toNat_sub, WordCmp.toNat_ofNat_of_lt (by omega), WordCmp.toNat_ofNat_of_lt (by omega), Nat.mul_comm t]
  generalize Scalar.subi (BitVec.ofNat 32 n) (Scalar.muli (BitVec.ofNat 32 t) 3200#32) = d at hd
  rw [WordCmp.andi_sge_zero_slt_ofNat (by norm_num), WordCmp.select_ofBool]
  by_cases h0 : d.toNat < 3200
  · rw [if_pos (decide_eq_true h0)]
    refine sum_fin _ _ fun j => ?_
    rw [WordCmp.cmpi_eq_eq_toNat, WordCmp.select_ofBool, WordCmp.toNat_ofNat_of_lt (by omega)]
    by_cases hj : j.val = d.toNat
    · rw [if_pos (decide_eq_true hj), if_pos (by omega)]
      exact h j
    · rw [if_neg (by simpa using hj), if_neg (by omega)]
      rfl
  · rw [if_neg (by simpa using h0), Finset.sum_eq_zero]
    · rfl
    · intro j hj
      have := Finset.mem_range.mp hj
      rw [if_neg (by omega)]

end row

/-! ## What the points carry -/

/-- After the columns below `K`: a number for each image, the exponentials' sum against it, and the label's logit if met. -/
structure Carries (o : HeadOut Ideal) (L : R2) (lb : ℕ → ℕ) (K : ℕ) (M : R1) : Prop where
  mx : Is1 (n := 4) o.mx M
  sm : Is1 (n := 4) o.sm (fun b => ∑ v ∈ Finset.range K, Real.exp (L b v - M b))
  lab : Is1 (n := 4) o.lab (fun b => ∑ v ∈ Finset.range K, if v = lb b then L b v else 0)

section carry
variable {L : R2} {lb : ℕ → ℕ} {row : Fin 4 → FVec Ideal S3200 .f32} {x0 : Vec Ideal S4 .i32} {i : grid1.Coords} {p o : HeadOut Ideal}

theorem carries_first (hr : ∀ b : Fin 4, Is1 (n := 3200) (row b) (fun j => L b j)) (hl : ∀ b : Fin 4, x0 (ix1 b) = BitVec.ofNat 32 (lb b))
    (hb : ∀ b, lb b < 32000) (hi : (i 0).val = 0)
    (e1 : ∀ b : Fin 4, o.mx (ix1 b) = maxV (row b)) (e2 : ∀ b : Fin 4, o.sm (ix1 b) = k1_pay2 (F := Ideal) (row b) (maxV (row b)))
    (e3 : ∀ b : Fin 4, o.lab (ix1 b) = labV i (row b) (x0 (ix1 b))) :
    Carries o L lb 3200 (fun b => top (L b) 3199) where
  mx b := (e1 b).trans (maxV_is (hr b))
  sm b := (e2 b).trans (sumV_is (hr b) (maxV_is (hr b)))
  lab b := by
    rw [e3, hl]
    refine (labV_is (hr b) i (lb b) (hb b)).trans (congrArg _ ?_)
    rw [hi]
    simp only [Nat.mul_zero, Nat.zero_add]

theorem carries_next {t : ℕ} {M : R1} (hp : Carries p L lb (3200 * t) M)
    (hr : ∀ b : Fin 4, Is1 (n := 3200) (row b) (fun j => L b (3200 * t + j))) (hl : ∀ b : Fin 4, x0 (ix1 b) = BitVec.ofNat 32 (lb b))
    (hb : ∀ b, lb b < 32000) (hi : (i 0).val = t)
    (e1 : ∀ b : Fin 4, o.mx (ix1 b) = k1_pay3 (F := Ideal) (maxV (row b)) (p.mx (ix1 b)))
    (e2 : ∀ b : Fin 4, o.sm (ix1 b) = k1_pay4 (F := Ideal) (row b) (maxV (row b)) (p.mx (ix1 b)) (p.sm (ix1 b)))
    (e3 : ∀ b : Fin 4, o.lab (ix1 b) = Scalar.addf (p.lab (ix1 b)) (labV i (row b) (x0 (ix1 b)))) :
    Carries o L lb (3200 * (t + 1)) (fun b => max (M b) (top (fun j => L b (3200 * t + j)) 3199)) where
  mx b := (e1 b).trans (Is0.max (hp.mx b) (maxV_is (hr b)))
  sm b := by
    refine (e2 b).trans ((nextSum_is (hr b) (maxV_is (hr b)) (hp.mx b) (hp.sm b)).trans (congrArg _ ?_))
    beta_reduce
    rw [Nat.mul_succ, Finset.sum_range_add, Finset.sum_mul]
    refine congrArg (· + _) (Finset.sum_congr rfl fun v _ => ?_)
    rw [← Real.exp_add]
    congr 1
    ring
  lab b := by
    rw [e3, hl]
    have h := labV_is (hr b) i (lb b) (hb b)
    rw [hi] at h
    refine (Is0.add (hp.lab b) h).trans (congrArg _ ?_)
    beta_reduce
    rw [Nat.mul_succ, Finset.sum_range_add]

theorem sum_four (f : R1) : ∑ b ∈ Finset.range 4, f b = f 0 + f 1 + f 2 + f 3 := by
  rw [Finset.sum_range_succ, Finset.sum_range_succ, Finset.sum_range_succ, Finset.sum_range_one]

/-- The loss from what is carried after all columns. -/
theorem loss_is {M : R1} (hp : Carries p L lb 32000 M) (hb : ∀ b, lb b < 32000) :
    Is0 (k1_pay6 (F := Ideal) (p.sm (ix1 0)) (p.mx (ix1 0)) (p.lab (ix1 0)) (p.sm (ix1 1)) (p.mx (ix1 1)) (p.lab (ix1 1))
        (p.sm (ix1 2)) (p.mx (ix1 2)) (p.lab (ix1 2)) (p.sm (ix1 3)) (p.mx (ix1 3)) (p.lab (ix1 3)))
      ((∑ b ∈ Finset.range 4, (Real.log (∑ v ∈ Finset.range 32000, Real.exp (L b v)) - L b (lb b))) / 4) := by
  have pos : ∀ f : R1, 0 < ∑ v ∈ Finset.range 32000, Real.exp (f v) :=
    fun f => Finset.sum_pos (fun _ _ => Real.exp_pos _) ⟨0, by simp⟩
  have one : ∀ b : Fin 4, Is0 (Ideal.log (p.sm (ix1 b)) + p.mx (ix1 b) - p.lab (ix1 b))
      (Real.log (∑ v ∈ Finset.range 32000, Real.exp (L b v)) - L b (lb b)) := by
    intro b
    refine (Is0.sub (Is0.add (Is0.log (hp.sm b) (pos _)) (hp.mx b)) (hp.lab b)).trans (congrArg _ ?_)
    beta_reduce
    rw [Finset.sum_ite_eq', if_pos (Finset.mem_range.mpr (hb b))]
    congr 1
    have : ∑ v ∈ Finset.range 32000, Real.exp (L b v - M b) = (∑ v ∈ Finset.range 32000, Real.exp (L b v)) * Real.exp (-M b) := by
      rw [Finset.sum_mul]
      exact Finset.sum_congr rfl fun v _ => by rw [← Real.exp_add, sub_eq_add_neg]
    rw [this, Real.log_mul (pos _).ne' (Real.exp_ne_zero _), Real.log_exp]
    ring
  refine (Is0.div (Is0.add (Is0.add (Is0.add (Is0.add (lit_is 0x00000000#32) (one 0)) (one 1)) (one 2)) (one 3))
    (lit_is 0x40800000#32) (lit_pos _).ne').trans (congrArg _ ?_)
  rw [lit_zero, lit_four, zero_add]
  exact congrArg (· / 4) (sum_four (fun b => Real.log (∑ v ∈ Finset.range 32000, Real.exp (L b v)) - L b (lb b))).symm

end carry

end Cert.KernelIdeal.Hand

end
-- ==== Proof.Value.Host.lean ====
module

public import proofs.«01_k».proof.Proof.Value.BlockLink
public import proofs.«01_k».proof.Proof.Value.Args
public import proofs.«01_k».proof.Proof.Ideal.Run

/-!
# The host operations before the kernels: patches, and the looked-up rows
-/

@[expose] public section

set_option maxRecDepth 8192

noncomputable section

namespace Cert.KernelIdeal.Hand

open Cert.Real Cert.KernelIdeal Cert.KernelIdeal.Gen
open Idealize.ShloMosaic Idealize.ShloMosaic.TcCoe Idealize.ShloMosaic.StableHlo

/-- The numbers looked up, a negative one counted from the table's end, -/
def ids (i : IVec S8 32) : IVec S8x1 32 :=
  broadcastInDim S8x1 ![0] bcast_S8_S8x1_0 (select (cmpi .slt i (broadcastInDim S8 ![] bcast_S_S8 (constantI S_ 32 0#32)))
    (addi i (broadcastInDim S8 ![] bcast_S_S8 (constantI S_ 32 32002#32))) i)
/-- whether they lie in the table, -/
def within (i : IVec S8x1 32) : IVec S8 1 :=
  Host.reduce IntOp.andi (andi (cmpi .sge i (broadcastInDim S8x1 ![] bcast_S_S8x1 (constantI S_ 32 0#32)))
    (cmpi .sle i (broadcastInDim S8x1 ![0, 1] bcast_S1x1_S8x1_0_1 (broadcastInDim S1x1 ![1] bcast_S1_S1x1_1 (constantI S1 32 32001#32)))))
    (constantI S_ 1 1#1) reducesTo_S8x1_S8_d1 h_S_
/-- and the rows. -/
def takeV (t : FVec Ideal S32002x1024 .f32) (i : IVec S8 32) : FVec Ideal S8x1024 .f32 :=
  select (broadcastInDim S8x1024 ![0] bcast_S8_S8x1024_0 (within (ids i)))
    (Host.gather gather_S32002x1024_S8x1_S8x1024_1_0_n_n_0_1_11024 t (ids i))
    (broadcastInDim S8x1024 ![] bcast_S_S8x1024 (constant S_ .f32 0x7FC00000#32))

theorem ids_apply (i : IVec S8 32) (k : Fin 8) (x : Fin 1) {t : ℕ} (h : i (ix1 k) = BitVec.ofNat 32 t) (ht : t < 32002) :
    ids i (ix2 k x) = BitVec.ofNat 32 t := by
  pointwise [ids]
  rw [h]
  exact fix_small (by omega) _

theorem takeV_is (t : FVec Ideal S32002x1024 .f32) (i : IVec S8 32) {T : R2} (tok : ℕ → ℕ) (hT : Is2 (n := 32002) (m := 1024) t T)
    (hi : ∀ k : Fin 8, i (ix1 k) = BitVec.ofNat 32 (tok k)) (hlt : ∀ k, tok k < 32002) :
    Is2 (n := 8) (m := 1024) (takeV t i) (fun k j => T (tok k) j) := by
  intro k j
  pointwise [takeV, within]
  rw [Finset.univ_unique, Finset.fold_singleton, ids_apply i k _ (hi k) (hlt k),
    show IntOp.andi (IntOp.cmpi .sge (BitVec.ofNat 32 (tok k)) 0#32) (IntOp.cmpi .sle (BitVec.ofNat 32 (tok k)) 32001#32) = 1#1 from
      in_range (Nat.le_of_lt_succ (hlt k)) (by omega)]
  refine Eq.trans ?_ (hT ⟨tok k, hlt k⟩ j)
  refine Eq.trans (WordCmp.select_of_eq_one (by decide) _ _) ?_
  exact Routing.gather_row _ rfl rfl rfl rfl rfl t (ids i) k j ⟨tok k, hlt k⟩ (ids_apply i k 0 (hi k) (hlt k)) (by omega)

variable (m : (ℓ : Loc nD τ sig) → Buf (Elt Ideal) ℓ) (c : Dev nD) {G : Given}

/-- The arguments in the memory are the numbers `G`. -/
abbrev argsIn (G : Given) : Prop :=
  G.In (V0 m c main_arg0) (V0 m c main_arg1) (V0 m c main_arg2) (V0 m c main_arg3) (V0 m c main_arg4) (V0 m c main_arg5) (V0 m c main_arg6)
    (V0 m c main_arg7) (V0 m c main_arg8) (V0 m c main_arg9) (V0 m c main_arg10)

theorem v6_eq : (V2 m c main_v6 : FVec Ideal S8x1024 .f32) = takeV (V1 m c main_arg4) (V1 m c main_v5) := by
  show StableHlo.after hostOps0_1 (V1 m c) main_v6 = _
  generalize V1 m c = U
  after_results_simp
  rfl

theorem v5_apply (h : argsIn m c G) (k : Fin 8) : (V1 m c main_v5 : IVec S8 32) (ix1 k) = BitVec.ofNat 32 (G.token k) := by
  show (StableHlo.after hostOps0 (V0 m c) main_v5 : IVec S8 32) (ix1 k) = _
  after_results_simp
  pointwise
  fin_cases k
  all_goals simp [StableHlo.nullary, StableHlo.unary, Given.token]
  · rfl
  · rfl
  · exact h.prompt 0
  · exact h.prompt 1
  · exact h.prompt 2
  · rfl
  · rfl
  · rfl

theorem token_lt (h : argsIn m c G) (k : ℕ) : G.token k < 32002 := by
  unfold Given.token
  have := h.prompt_lt (k - 2)
  split_ifs <;> omega

theorem v6_is (h : argsIn m c G) : Is2 (n := 8) (m := 1024) (V2 m c main_v6) G.words := by
  have e := v6_eq m c
  rw [e, V1_of m c main_arg4 (by decide)]
  exact takeV_is _ _ G.token h.table (v5_apply m c h) (token_lt m c h)

theorem v3_apply (b : Fin 4) (p : Fin 196) (k : Fin 768) :
    (V2 m c main_v3 : FVec Ideal S4x196x768 .bf16) (ix3 b p k)
      = (V0 m c main_arg0 : FVec Ideal S4x3x224x224 .f32) (ix4 b ⟨k.val / 256, by omega⟩ ⟨p.val / 14 * 16 + k.val / 16 % 16, by omega⟩ ⟨p.val % 14 * 16 + k.val % 16, by omega⟩) := by
  rw [V2_of m c main_v3 (by decide)]
  after_results_simp
  pointwise

theorem v3_is (h : argsIn m c G) (b : Fin 4) (d : Fin 3) :
    Chan (n := 196) (m := 256) (fun p r => (V2 m c main_v3 : FVec Ideal S4x196x768 .bf16) (ix3 b p ⟨256 * d.val + r.val, by omega⟩)) (chan (G.pix b) d) := by
  have e : ∀ (p : Fin 196) (r : Fin 256), (V2 m c main_v3 : FVec Ideal S4x196x768 .bf16) (ix3 b p ⟨256 * d.val + r.val, by omega⟩)
      = (V0 m c main_arg0 : FVec Ideal S4x3x224x224 .f32) (ix4 b d ⟨p.val / 14 * 16 + r.val / 16, by omega⟩ ⟨p.val % 14 * 16 + r.val % 16, by omega⟩) := by
    intro p r
    refine (v3_apply m c b p _).trans ?_
    have e1 : (256 * d.val + r.val) / 256 = d.val := by omega
    have e2 : (256 * d.val + r.val) / 16 % 16 = r.val / 16 := by omega
    have e3 : (256 * d.val + r.val) % 16 = r.val % 16 := by omega
    simp only [e1, e2, e3]
  have f : ∀ p r : ℕ, r < 256 → chan (G.pix b) d p r = G.image b d (p / 14 * 16 + r / 16) (p % 14 * 16 + r % 16) := by
    intro p r hr
    have e1 : (256 * d.val + r) / 256 = d.val := by omega
    have e2 : (256 * d.val + r) / 16 % 16 = r / 16 := by omega
    have e3 : (256 * d.val + r) % 16 = r % 16 := by omega
    unfold chan Given.pix
    simp only [e1, e2, e3]
  rcases h.image b d with g | ⟨⟨y, x, g⟩, z⟩
  · refine Or.inl fun p r => ?_
    beta_reduce
    rw [e p r, f p r r.isLt]
    exact g _ _
  · refine Or.inr ⟨⟨⟨y.val / 16 * 14 + x.val / 16, by omega⟩, ⟨y.val % 16 * 16 + x.val % 16, by omega⟩, ?_⟩, fun p hp r hr => ?_⟩
    · beta_reduce
      rw [e]
      have e1 : (y.val / 16 * 14 + x.val / 16) / 14 * 16 + (y.val % 16 * 16 + x.val % 16) / 16 = y.val := by omega
      have e2 : (y.val / 16 * 14 + x.val / 16) % 14 * 16 + (y.val % 16 * 16 + x.val % 16) % 16 = x.val := by omega
      simp only [e1, e2]
      exact g
    · rw [f p r hr]
      exact z _ (by omega) _ (by omega)

end Cert.KernelIdeal.Hand

end
-- ==== Proof.Value.Arrays.lean ====
module

public import proofs.«01_k».proof.Proof.Value.Host
public import Idealize.ShloMosaic.Lib.Pipeline.Value

/-!
# The windows' blocks as parts of their arrays, and the block kernel's array
-/

@[expose] public section

set_option maxRecDepth 8192

noncomputable section

namespace Cert.KernelIdeal.Hand

open Cert.Real Cert.KernelIdeal Cert.KernelIdeal.Gen
open Idealize.ShloMosaic Idealize.ShloMosaic.TcCoe

section windows

variable {F : FTy → Type} [FloatOps F] [Named F]

theorem index0_0 : ∀ t : Fin cfg0.N, win0_0.index t = ![t.val, 0, 0] := (by decide +kernel : ∀ t : Fin grid0.N, win0_0.index t = ![t.val, 0, 0])
theorem read0_0 (t : Fin cfg0.N) (f : Vec F S4x196x768 .bf16) (a : Fin 1) (b : Fin 196) (c : Fin 768) (h : 1 * t.val + a.val < 4) :
    (((cfg0.win 0).blk t).view.read (Elt F) f : Vec F S1x196x768 .bf16) (ix3 a b c) = f (ix3 ⟨1 * t.val + a.val, h⟩ b c) := by
  refine congrArg f (funext fun a' => Fin.ext ?_)
  have := index0_0 t
  match a' with
  | ⟨0, _⟩ => show win0_0.index t 0 * 1 + 1 * a.val = 1 * t.val + a.val; rw [this]; simp [Nat.mul_comm]
  | ⟨1, _⟩ => show win0_0.index t 1 * 196 + 1 * b.val = b.val; rw [this]; simp
  | ⟨2, _⟩ => show win0_0.index t 2 * 768 + 1 * c.val = c.val; rw [this]; simp

theorem index0_1 : ∀ t : Fin cfg0.N, win0_1.index t = ![0, 0] := (by decide +kernel : ∀ t : Fin grid0.N, win0_1.index t = ![0, 0])
theorem read0_1 (t : Fin cfg0.N) (f : Vec F S8x1024 .f32) : (((cfg0.win 1).blk t).view.read (Elt F) f : Vec F S8x1024 .f32) = f := by
  funext x
  refine congrArg f (funext fun a => Fin.ext ?_)
  have := index0_1 t
  match a with
  | ⟨0, _⟩ => show win0_1.index t 0 * 8 + 1 * (x 0).val = (x 0).val; rw [this]; simp
  | ⟨1, _⟩ => show win0_1.index t 1 * 1024 + 1 * (x 1).val = (x 1).val; rw [this]; simp

theorem index0_2 : ∀ t : Fin cfg0.N, win0_2.index t = ![0, 0] := (by decide +kernel : ∀ t : Fin grid0.N, win0_2.index t = ![0, 0])
theorem read0_2 (t : Fin cfg0.N) (f : Vec F S768x768 .f32) : (((cfg0.win 2).blk t).view.read (Elt F) f : Vec F S768x768 .f32) = f := by
  funext x
  refine congrArg f (funext fun a => Fin.ext ?_)
  have := index0_2 t
  match a with
  | ⟨0, _⟩ => show win0_2.index t 0 * 768 + 1 * (x 0).val = (x 0).val; rw [this]; simp
  | ⟨1, _⟩ => show win0_2.index t 1 * 768 + 1 * (x 1).val = (x 1).val; rw [this]; simp

theorem index0_3 : ∀ t : Fin cfg0.N, win0_3.index t = ![0, 0] := (by decide +kernel : ∀ t : Fin grid0.N, win0_3.index t = ![0, 0])
theorem read0_3 (t : Fin cfg0.N) (f : Vec F S768x1024 .f32) : (((cfg0.win 3).blk t).view.read (Elt F) f : Vec F S768x1024 .f32) = f := by
  funext x
  refine congrArg f (funext fun a => Fin.ext ?_)
  have := index0_3 t
  match a with
  | ⟨0, _⟩ => show win0_3.index t 0 * 768 + 1 * (x 0).val = (x 0).val; rw [this]; simp
  | ⟨1, _⟩ => show win0_3.index t 1 * 1024 + 1 * (x 1).val = (x 1).val; rw [this]; simp

theorem index0_4 : ∀ t : Fin cfg0.N, win0_4.index t = ![0, 0] := (by decide +kernel : ∀ t : Fin grid0.N, win0_4.index t = ![0, 0])
theorem read0_4 (t : Fin cfg0.N) (f : Vec F S1024x3072 .f32) : (((cfg0.win 4).blk t).view.read (Elt F) f : Vec F S1024x3072 .f32) = f := by
  funext x
  refine congrArg f (funext fun a => Fin.ext ?_)
  have := index0_4 t
  match a with
  | ⟨0, _⟩ => show win0_4.index t 0 * 1024 + 1 * (x 0).val = (x 0).val; rw [this]; simp
  | ⟨1, _⟩ => show win0_4.index t 1 * 3072 + 1 * (x 1).val = (x 1).val; rw [this]; simp

theorem index0_5 : ∀ t : Fin cfg0.N, win0_5.index t = ![0, 0] := (by decide +kernel : ∀ t : Fin grid0.N, win0_5.index t = ![0, 0])
theorem read0_5 (t : Fin cfg0.N) (f : Vec F S1024x1024 .f32) : (((cfg0.win 5).blk t).view.read (Elt F) f : Vec F S1024x1024 .f32) = f := by
  funext x
  refine congrArg f (funext fun a => Fin.ext ?_)
  have := index0_5 t
  match a with
  | ⟨0, _⟩ => show win0_5.index t 0 * 1024 + 1 * (x 0).val = (x 0).val; rw [this]; simp
  | ⟨1, _⟩ => show win0_5.index t 1 * 1024 + 1 * (x 1).val = (x 1).val; rw [this]; simp

theorem index0_6 : ∀ t : Fin cfg0.N, win0_6.index t = ![0, 0] := (by decide +kernel : ∀ t : Fin grid0.N, win0_6.index t = ![0, 0])
theorem read0_6 (t : Fin cfg0.N) (f : Vec F S1024x4096 .f32) : (((cfg0.win 6).blk t).view.read (Elt F) f : Vec F S1024x4096 .f32) = f := by
  funext x
  refine congrArg f (funext fun a => Fin.ext ?_)
  have := index0_6 t
  match a with
  | ⟨0, _⟩ => show win0_6.index t 0 * 1024 + 1 * (x 0).val = (x 0).val; rw [this]; simp
  | ⟨1, _⟩ => show win0_6.index t 1 * 4096 + 1 * (x 1).val = (x 1).val; rw [this]; simp

theorem index0_7 : ∀ t : Fin cfg0.N, win0_7.index t = ![0, 0] := (by decide +kernel : ∀ t : Fin grid0.N, win0_7.index t = ![0, 0])
theorem read0_7 (t : Fin cfg0.N) (f : Vec F S4096x1024 .f32) : (((cfg0.win 7).blk t).view.read (Elt F) f : Vec F S4096x1024 .f32) = f := by
  funext x
  refine congrArg f (funext fun a => Fin.ext ?_)
  have := index0_7 t
  match a with
  | ⟨0, _⟩ => show win0_7.index t 0 * 4096 + 1 * (x 0).val = (x 0).val; rw [this]; simp
  | ⟨1, _⟩ => show win0_7.index t 1 * 1024 + 1 * (x 1).val = (x 1).val; rw [this]; simp

theorem index0_8 : ∀ t : Fin cfg0.N, win0_8.index t = ![t.val, 0] := (by decide +kernel : ∀ t : Fin grid0.N, win0_8.index t = ![t.val, 0])
theorem read0_8 (t : Fin cfg0.N) (f : Vec F S832x1024 .bf16) (a : Fin 208) (b : Fin 1024) (h : 208 * t.val + a.val < 832) :
    (((cfg0.win 8).blk t).view.read (Elt F) f : Vec F S208x1024 .bf16) (ix2 a b) = f (ix2 ⟨208 * t.val + a.val, h⟩ b) := by
  refine congrArg f (funext fun a' => Fin.ext ?_)
  have := index0_8 t
  match a' with
  | ⟨0, _⟩ => show win0_8.index t 0 * 208 + 1 * a.val = 208 * t.val + a.val; rw [this]; simp [Nat.mul_comm]
  | ⟨1, _⟩ => show win0_8.index t 1 * 1024 + 1 * b.val = b.val; rw [this]; simp

theorem index1_0 : ∀ t : Fin cfg1.N, win1_0.index t = ![0] := (by decide +kernel : ∀ t : Fin grid1.N, win1_0.index t = ![0])
theorem read1_0 (t : Fin cfg1.N) (f : Vec F S4 .i32) : (((cfg1.win 0).blk t).view.read (Elt F) f : Vec F S4 .i32) = f := by
  funext x
  refine congrArg f (funext fun a => Fin.ext ?_)
  have := index1_0 t
  match a with
  | ⟨0, _⟩ => show win1_0.index t 0 * 4 + 1 * (x 0).val = (x 0).val; rw [this]; simp

theorem index1_1 : ∀ t : Fin cfg1.N, win1_1.index t = ![0, 0] := (by decide +kernel : ∀ t : Fin grid1.N, win1_1.index t = ![0, 0])
theorem read1_1 (t : Fin cfg1.N) (f : Vec F S832x1024 .bf16) : (((cfg1.win 1).blk t).view.read (Elt F) f : Vec F S832x1024 .bf16) = f := by
  funext x
  refine congrArg f (funext fun a => Fin.ext ?_)
  have := index1_1 t
  match a with
  | ⟨0, _⟩ => show win1_1.index t 0 * 832 + 1 * (x 0).val = (x 0).val; rw [this]; simp
  | ⟨1, _⟩ => show win1_1.index t 1 * 1024 + 1 * (x 1).val = (x 1).val; rw [this]; simp

theorem index1_2 : ∀ t : Fin cfg1.N, win1_2.index t = ![0, t.val] := (by decide +kernel : ∀ t : Fin grid1.N, win1_2.index t = ![0, t.val])
theorem read1_2 (t : Fin cfg1.N) (f : Vec F S1024x32000 .f32) (a : Fin 1024) (b : Fin 3200) (h : 3200 * t.val + b.val < 32000) :
    (((cfg1.win 2).blk t).view.read (Elt F) f : Vec F S1024x3200 .f32) (ix2 a b) = f (ix2 a ⟨3200 * t.val + b.val, h⟩) := by
  refine congrArg f (funext fun a' => Fin.ext ?_)
  have := index1_2 t
  match a' with
  | ⟨0, _⟩ => show win1_2.index t 0 * 1024 + 1 * a.val = a.val; rw [this]; simp
  | ⟨1, _⟩ => show win1_2.index t 1 * 3200 + 1 * b.val = 3200 * t.val + b.val; rw [this]; simp [Nat.mul_comm]

theorem index1_3 : ∀ t : Fin cfg1.N, win1_3.index t = ![0, 0, t.val] := (by decide +kernel : ∀ t : Fin grid1.N, win1_3.index t = ![0, 0, t.val])
theorem read1_3 (t : Fin cfg1.N) (f : Vec F S4x201x32000 .f32) (a : Fin 4) (b : Fin 201) (c : Fin 3200) (h : 3200 * t.val + c.val < 32000) :
    (((cfg1.win 3).blk t).view.read (Elt F) f : Vec F S4x201x3200 .f32) (ix3 a b c) = f (ix3 a b ⟨3200 * t.val + c.val, h⟩) := by
  refine congrArg f (funext fun a' => Fin.ext ?_)
  have := index1_3 t
  match a' with
  | ⟨0, _⟩ => show win1_3.index t 0 * 4 + 1 * a.val = a.val; rw [this]; simp
  | ⟨1, _⟩ => show win1_3.index t 1 * 201 + 1 * b.val = b.val; rw [this]; simp
  | ⟨2, _⟩ => show win1_3.index t 2 * 3200 + 1 * c.val = 3200 * t.val + c.val; rw [this]; simp [Nat.mul_comm]

theorem index1_4 : ∀ t : Fin cfg1.N, win1_4.index t = ![0, 0] := (by decide +kernel : ∀ t : Fin grid1.N, win1_4.index t = ![0, 0])
theorem read1_4 (t : Fin cfg1.N) (f : Vec F S1x1 .f32) : (((cfg1.win 4).blk t).view.read (Elt F) f : Vec F S1x1 .f32) = f := by
  funext x
  refine congrArg f (funext fun a => Fin.ext ?_)
  have := index1_4 t
  match a with
  | ⟨0, _⟩ => show win1_4.index t 0 * 1 + 1 * (x 0).val = (x 0).val; rw [this]; simp
  | ⟨1, _⟩ => show win1_4.index t 1 * 1 + 1 * (x 1).val = (x 1).val; rw [this]; simp

/-- Different points' blocks are different. -/
theorem apart0_8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne ((by decide +kernel : ∀ t t' : Fin grid0.N, win0_8.index t = win0_8.index t' → t = t') t t' h)
theorem apart1_3 : ∀ t t' : Fin cfg1.N, (cfg1.win 3).flush t = true → (cfg1.win 3).flush t' = true → t ≠ t' →
    Disjoint ((cfg1.win 3).blk t).view.set ((cfg1.win 3).blk t').view.set :=
  fun t t' _ _ hne => (cfg1.win 3).disjoint_blk fun h => hne ((by decide +kernel : ∀ t t' : Fin grid1.N, win1_3.index t = win1_3.index t' → t = t') t t' h)
theorem apart1_4 : ∀ t t' : Fin cfg1.N, (cfg1.win 4).flush t = true → (cfg1.win 4).flush t' = true → t ≠ t' →
    Disjoint ((cfg1.win 4).blk t).view.set ((cfg1.win 4).blk t').view.set := by
  intro t t' h h' hne
  have a := (flush1_4 t).mp h
  have b := (flush1_4 t').mp h'
  have c : t.val < 10 := lt_of_lt_of_eq t.isLt (show cfg1.N = 10 from N_1)
  have d : t'.val < 10 := lt_of_lt_of_eq t'.isLt (show cfg1.N = 10 from N_1)
  exact absurd (Fin.ext (by omega)) hne

end windows

/-! ## The block kernel's array -/

variable (m : (ℓ : Loc nD τ sig) → Buf (Elt Ideal) ℓ) (c : Dev nD) {G : Given}

theorem V2_keeps (r : Ref sig .tc) (h0 : r ∉ hostOps0_W) (h1 : r ∉ hostOps0_1_W) : V2 m c r = V0 m c r :=
  (V2_of m c r h1).trans (V1_of m c r h0)

set_option maxHeartbeats 2000000 in
theorem blockOut_is (h : argsIn m c G) (t : Fin cfg0.N) : At2 (n := 208) (m := 1024) (blockOut (V2 m) c t) (G.hidden t.val) := by
  have ht : t.val < 4 := lt_of_lt_of_eq t.isLt (show cfg0.N = 4 from N_0)
  unfold blockOut
  refine blockRun_is c (grid0.coords t) (mb0 t) (hb0 t) (mb1 t) (hb1 t) (mb2 t) (hb2 t) (mb3 t) (hb3 t) (mb4 t) (hb4 t) (mb5 t) (hb5 t) (mb6 t) (hb6 t)
    (mb7 t) (hb7 t) (mb8 t) (hb8 t) _ _ _ _ _ _ _ _ (P := G.pix t.val) ?_ ?_ ?_ ?_ ?_ ?_ ?_ ?_
  · intro d
    have q : ∀ (p : Fin 196) (k : Fin 768), (iblk0 (V2 m) c 0 t : FVec Ideal S1x196x768 .bf16) (ix3 0 p k)
        = (V2 m c main_v3 : FVec Ideal S4x196x768 .bf16) (ix3 ⟨t.val, ht⟩ p k) := by
      intro p k
      refine (read0_0 t (V2 m c main_v3) 0 p k (by simp; omega)).trans (congrArg (V2 m c main_v3 : FVec Ideal S4x196x768 .bf16) ?_)
      exact congrArg (fun z => ix3 z p k) (Fin.ext (by simp))
    have q' : (fun (p : Fin 196) (r : Fin 256) => (iblk0 (V2 m) c 0 t : FVec Ideal S1x196x768 .bf16) (ix3 0 p ⟨256 * d.val + r.val, by omega⟩))
        = fun p r => (V2 m c main_v3 : FVec Ideal S4x196x768 .bf16) (ix3 ⟨t.val, ht⟩ p ⟨256 * d.val + r.val, by omega⟩) :=
      funext fun p => funext fun r => q p _
    rw [q']
    exact v3_is m c h ⟨t.val, ht⟩ d
  · have e : iblk0 (V2 m) c 1 t = V2 m c main_v6 := read0_1 t (V2 m c main_v6)
    rw [e]; exact v6_is m c h
  · have e : iblk0 (V2 m) c 2 t = V0 m c main_arg2 := (read0_2 t (V2 m c main_arg2)).trans (V2_keeps m c main_arg2 (by decide) (by decide))
    rw [e]; exact h.wPatch
  · have e : iblk0 (V2 m) c 3 t = V0 m c main_arg3 := (read0_3 t (V2 m c main_arg3)).trans (V2_keeps m c main_arg3 (by decide) (by decide))
    rw [e]; exact h.wTok
  · have e : iblk0 (V2 m) c 4 t = V0 m c main_arg5 := (read0_4 t (V2 m c main_arg5)).trans (V2_keeps m c main_arg5 (by decide) (by decide))
    rw [e]; exact h.wQkv
  · have e : iblk0 (V2 m) c 5 t = V0 m c main_arg6 := (read0_5 t (V2 m c main_arg6)).trans (V2_keeps m c main_arg6 (by decide) (by decide))
    rw [e]; exact h.wO
  · have e : iblk0 (V2 m) c 6 t = V0 m c main_arg7 := (read0_6 t (V2 m c main_arg7)).trans (V2_keeps m c main_arg7 (by decide) (by decide))
    rw [e]; exact h.w1
  · have e : iblk0 (V2 m) c 7 t = V0 m c main_arg8 := (read0_7 t (V2 m c main_arg8)).trans (V2_keeps m c main_arg8 (by decide) (by decide))
    rw [e]; exact h.w2

theorem after0_8 (V : Dev nD → Valuation τ sig (Elt Ideal)) (t : Fin cfg0.N) : (dat0 V c).after 8 t = blockOut V c t := by dsimp only [dat0]
theorem flushed0_8 (V : Dev nD → Valuation τ sig (Elt Ideal)) (t : Fin cfg0.N) (i : Fin 208) (j : Fin 1024) :
    ((dat0 V c).flushed 8 t : FVec Ideal S208x1024 .bf16) (ix2 i j) = blockOut V c t (ix2 i j) := by
  show ((cfg0.win 8).cut (grid0.coords t) ((dat0 V c).after 8 t) : FVec Ideal S208x1024 .bf16) (ix2 i j) = _
  rw [after0_8]
  generalize blockOut V c t = o
  rfl

theorem out0_8 (V : Dev nD → Valuation τ sig (Elt Ideal)) (t : Fin cfg0.N) (i : Fin 208) (j : Fin 1024) (hi : 208 * t.val + i.val < 832) :
    (Pipeline.afterRegion (dat0 V c) (V c) main_v7 : FVec Ideal S832x1024 .bf16) (ix2 ⟨208 * t.val + i.val, hi⟩ j) = blockOut V c t (ix2 i j) := by
  have e1 : Pipeline.afterRegion (dat0 V c) (V c) main_v7 = (dat0 V c).arrAt 8 cfg0.N := Pipeline.afterRegion_arr (dat0 V c) (V c) launch0.win.arr_inj 8
  have e2 := (dat0 V c).read_blk_arrAt_eq_flushed 8 apart0_8 cfg0.N t t.isLt (flush0_8 _)
  rw [e1, ← flushed0_8 c V t i j, ← e2]
  generalize (dat0 V c).arrAt 8 cfg0.N = A
  exact (read0_8 (F := Ideal) t A i j hi).symm

/-- Row `i` of image `b` in the array the head kernel reads. -/
theorem v7_is (h : argsIn m c G) (b : Fin 4) (i : Fin 208) (j : Fin 1024) :
    (W1 m c main_v7 : FVec Ideal S832x1024 .bf16) (ix2 ⟨208 * b.val + i.val, by omega⟩ j) = G.hidden b i j := by
  have hb : b.val < cfg0.N := lt_of_lt_of_eq b.isLt (show cfg0.N = 4 from N_0).symm
  unfold W1
  exact (out0_8 c (V2 m) ⟨b.val, hb⟩ i j (by show 208 * b.val + i.val < 832; omega)).trans (blockOut_is m c h ⟨b.val, hb⟩ i j)

theorem W1_keeps (r : Ref sig .tc) (h0 : r ∉ hostOps0_W) (h1 : r ∉ hostOps0_1_W)
    (k0 : ∀ w, Pipeline.arrRef spec0 w = r → (cfg0.win w).isOut = false) : W1 m c r = V0 m c r :=
  (Pipeline.afterRegion_keeps (dat0 (V2 m) c) (V2 m c) launch0.win.arr_inj (A0_eq (V2 m) c) r k0).trans (V2_keeps m c r h0 h1)

end Cert.KernelIdeal.Hand

end
-- ==== Proof.Value.HeadArrays.lean ====
module

public import proofs.«01_k».proof.Proof.Value.Head
public import proofs.«01_k».proof.Proof.Value.Arrays
public import proofs.«01_k».proof.Proof.Ideal.Run

/-!
# The head kernel's arrays

The logits and the loss after the region, over the reals.
-/

@[expose] public section

set_option maxRecDepth 8192

noncomputable section

namespace Cert.KernelIdeal.Hand

open Cert.Real Cert.KernelIdeal Cert.KernelIdeal.Gen
open Idealize.ShloMosaic Idealize.ShloMosaic.TcCoe Idealize.ShloMosaic.StableHlo
open scoped BigOperators

theorem coords1 : ∀ t : Fin cfg1.N, ((grid1.coords t) 0).val = t.val :=
  (by decide +kernel : ∀ t : Fin grid1.N, ((grid1.coords t) 0).val = t.val)

/-! ## The points -/

/-- The head's three arrays at the region's entry; the logits of the images' last rows are the reals `L`. -/
structure Entered (V : Dev nD → Valuation τ sig (Elt Ideal)) (c : Dev nD) (H : E2) (W L : R2) (lb : ℕ → ℕ) : Prop where
  lab : ∀ b : Fin 4, (V c main_arg1 : IVec S4 32) (ix1 b) = BitVec.ofNat 32 (lb b)
  hid : At2 (n := 832) (m := 1024) (V c main_v7 : FVec Ideal S832x1024 .bf16) H
  wt : Is2 (n := 1024) (m := 32000) (V c main_arg9 : FVec Ideal S1024x32000 .f32) W
  last : ∀ b v, mmE 1024 H (wide W) (208 * b + 200) v = ((L b v : ℝ) : EReal)

variable {V : Dev nD → Valuation τ sig (Elt Ideal)} {c : Dev nD} {H : E2} {W L : R2} {lb : ℕ → ℕ}

section blocks
variable (h : Entered V c H W L lb) (t : Fin cfg1.N)
include h

theorem blk_lab (b : Fin 4) : (iblk1 V c 0 t : IVec S4 32) (ix1 b) = BitVec.ofNat 32 (lb b) := by
  have e : iblk1 V c 0 t = V c main_arg1 := read1_0 t (V c main_arg1)
  rw [e]; exact h.lab b

theorem blk_hid : At2 (n := 832) (m := 1024) (iblk1 V c 1 t : FVec Ideal S832x1024 .bf16) H := by
  have e : iblk1 V c 1 t = V c main_v7 := read1_1 t (V c main_v7)
  rw [e]; exact h.hid

theorem blk_wt : Is2 (n := 1024) (m := 3200) (iblk1 V c 2 t : FVec Ideal S1024x3200 .f32) (fun i j => W i (3200 * t.val + j)) := by
  intro i j
  have ht : t.val < 10 := lt_of_lt_of_eq t.isLt (show cfg1.N = 10 from N_1)
  exact (read1_2 t (V c main_arg9) i j (by omega)).trans (h.wt i ⟨3200 * t.val + j.val, by omega⟩)

end blocks

theorem blk_row (h : Entered V c H W L lb) (t : Fin cfg1.N) (b : Fin 4) :
    Is1 (n := 3200) (lastRow (iblk1 V c 1 t) (iblk1 V c 2 t) b) (fun j => L b (3200 * t.val + j)) := fun j =>
  (lastRow_is (blk_hid h t) (blk_wt h t).wide b j).trans (h.last b (3200 * t.val + j))

theorem blk_tile (h : Entered V c H W L lb) (t : Fin cfg1.N) (b : Fin 4) (i : Fin 201) (j : Fin 3200) :
    tiles (iblk1 V c 1 t) (iblk1 V c 2 t) b (ix3 0 i j) = mmE 1024 H (wide W) (208 * b + i) (3200 * t.val + j) :=
  tiles_is (blk_hid h t) (blk_wt h t).wide b i j

/-- What the points leave, -/
theorem headOut_carries (h : Entered V c H W L lb) (hb : ∀ b, lb b < 32000) (n : ℕ) (hn : n < cfg1.N) :
    ∃ M, Carries (headOut V c n hn) L lb (3200 * (n + 1)) M := by
  induction n with
  | zero =>
    refine ⟨_, carries_first (row := lastRow (iblk1 V c 1 ⟨0, hn⟩) (iblk1 V c 2 ⟨0, hn⟩)) (x0 := iblk1 V c 0 ⟨0, hn⟩) (i := grid1.coords ⟨0, hn⟩)
      (fun b => ?_) (blk_lab h ⟨0, hn⟩) hb (coords1 _) (fun b => ?_) (fun b => ?_) (fun b => ?_)⟩
    · have := blk_row h ⟨0, hn⟩ b
      simpa only [Nat.mul_zero, Nat.zero_add] using this
    · exact mxFirst _ _ _ _ _ _ _ _ _ _ _ _ _ _ _ _ _ _ _ _ _ _ _ _ b
    · exact smFirst _ _ _ _ _ _ _ _ _ _ _ _ _ _ _ _ _ _ _ _ _ _ _ _ b
    · exact labFirst _ _ _ _ _ _ _ _ _ _ _ _ _ _ _ _ _ _ _ _ _ _ _ _ b
  | succ n ih =>
    obtain ⟨M, hM⟩ := ih (Nat.lt_of_succ_lt hn)
    by_cases h9 : n + 1 = 9
    · rw [headOut_last V c ⟨n + 1, hn⟩ h9]
      refine ⟨_, carries_next (row := lastRow (iblk1 V c 1 ⟨n + 1, hn⟩) (iblk1 V c 2 ⟨n + 1, hn⟩)) (x0 := iblk1 V c 0 ⟨n + 1, hn⟩) (i := grid1.coords ⟨n + 1, hn⟩) hM
        (fun b => blk_row h ⟨n + 1, hn⟩ b) (blk_lab h ⟨n + 1, hn⟩) hb (coords1 _) (fun b => ?_) (fun b => ?_) (fun b => ?_)⟩
      · exact mxLast _ _ _ _ _ _ _ _ _ _ _ _ _ _ _ _ _ _ _ _ _ _ _ _ _ _ _ b
      · exact smLast _ _ _ _ _ _ _ _ _ _ _ _ _ _ _ _ _ _ _ _ _ _ _ _ _ _ _ b
      · exact labLast _ _ _ _ _ _ _ _ _ _ _ _ _ _ _ _ _ _ _ _ _ _ _ _ _ _ _ b
    · rw [headOut_mid V c ⟨n + 1, hn⟩ (Nat.succ_ne_zero n) h9]
      refine ⟨_, carries_next (row := lastRow (iblk1 V c 1 ⟨n + 1, hn⟩) (iblk1 V c 2 ⟨n + 1, hn⟩)) (x0 := iblk1 V c 0 ⟨n + 1, hn⟩) (i := grid1.coords ⟨n + 1, hn⟩) hM
        (fun b => blk_row h ⟨n + 1, hn⟩ b) (blk_lab h ⟨n + 1, hn⟩) hb (coords1 _) (fun b => ?_) (fun b => ?_) (fun b => ?_)⟩
      · exact mxMid _ _ _ _ _ _ _ _ _ _ _ _ _ _ _ _ _ _ _ _ _ _ _ _ _ _ _ b
      · exact smMid _ _ _ _ _ _ _ _ _ _ _ _ _ _ _ _ _ _ _ _ _ _ _ _ _ _ _ b
      · exact labMid _ _ _ _ _ _ _ _ _ _ _ _ _ _ _ _ _ _ _ _ _ _ _ _ _ _ _ b

/-- the logits they store, -/
theorem headOut_logits (h : Entered V c H W L lb) (t : Fin cfg1.N) (b : Fin 4) (i : Fin 201) (j : Fin 3200) :
    (headOut V c t.val t.isLt).logits (ix3 b i j) = mmE 1024 H (wide W) (208 * b + i) (3200 * t.val + j) := by
  refine Eq.trans ?_ (blk_tile h t b i j)
  by_cases h0 : t.val = 0
  · rw [headOut_first V c t h0]
    exact logitsFirst _ _ _ _ _ _ _ _ _ _ _ _ _ _ _ _ _ _ _ _ _ _ _ _ b i j
  · by_cases h9 : t.val = 9
    · rw [headOut_last V c t h9]
      exact logitsLast _ _ _ _ _ _ _ _ _ _ _ _ _ _ _ _ _ _ _ _ _ _ _ _ _ _ _ b i j
    · rw [headOut_mid V c t h0 h9]
      exact logitsMid _ _ _ _ _ _ _ _ _ _ _ _ _ _ _ _ _ _ _ _ _ _ _ _ _ _ _ b i j

/-- and the loss of the last one. -/
theorem headOut_loss (h : Entered V c H W L lb) (hb : ∀ b, lb b < 32000) (t : Fin cfg1.N) (h9 : t.val = 9) (y : S1x1.Idx) :
    (headOut V c t.val t.isLt).loss y = (((∑ b ∈ Finset.range 4,
      (Real.log (∑ v ∈ Finset.range 32000, Real.exp (L b v)) - L b (lb b))) / 4 : ℝ) : EReal) := by
  obtain ⟨M, hM⟩ := headOut_carries h hb t.val t.isLt
  have hK : 3200 * (t.val + 1) = 32000 := by omega
  rw [hK] at hM
  refine Eq.trans ?_ (loss_is hM hb)
  exact lossLast_carried _ _ _ _ _ _ _ _ _ _ _ _ _ _ _ _ _ _ _ _ _ _ _ _ _ _ _ y _ (headOut_last V c t h9)

/-! ## The arrays after the region -/

theorem flushed1_3 (V : Dev nD → Valuation τ sig (Elt Ideal)) (c : Dev nD) (t : Fin cfg1.N) (b : Fin 4) (i : Fin 201) (j : Fin 3200) :
    ((dat1 V c).flushed 3 t : FVec Ideal S4x201x3200 .f32) (ix3 b i j) = (headOut V c t.val t.isLt).logits (ix3 b i j) := by
  show ((cfg1.win 3).cut (grid1.coords t) ((dat1 V c).after 3 t) : FVec Ideal S4x201x3200 .f32) (ix3 b i j) = _
  rw [after1_3]
  generalize (headOut V c t.val t.isLt).logits = o
  rfl

theorem out1_3 (V : Dev nD → Valuation τ sig (Elt Ideal)) (c : Dev nD) (t : Fin cfg1.N) (b : Fin 4) (i : Fin 201) (j : Fin 3200) (hj : 3200 * t.val + j.val < 32000) :
    (Pipeline.afterRegion (dat1 V c) (V c) main_v8_0 : FVec Ideal S4x201x32000 .f32) (ix3 b i ⟨3200 * t.val + j.val, hj⟩)
      = (headOut V c t.val t.isLt).logits (ix3 b i j) := by
  have e1 : Pipeline.afterRegion (dat1 V c) (V c) main_v8_0 = (dat1 V c).arrAt 3 cfg1.N := Pipeline.afterRegion_arr (dat1 V c) (V c) launch1.win.arr_inj 3
  have e2 := (dat1 V c).read_blk_arrAt_eq_flushed 3 apart1_3 cfg1.N t t.isLt (flush1_3 _)
  rw [e1, ← flushed1_3 V c t b i j, ← e2]
  generalize (dat1 V c).arrAt 3 cfg1.N = A
  exact (read1_3 (F := Ideal) t A b i j hj).symm

theorem flushed1_4 (V : Dev nD → Valuation τ sig (Elt Ideal)) (c : Dev nD) (t : Fin cfg1.N) (i j : Fin 1) :
    ((dat1 V c).flushed 4 t : FVec Ideal S1x1 .f32) (ix2 i j) = (headOut V c t.val t.isLt).loss (ix2 i j) := by
  show ((cfg1.win 4).cut (grid1.coords t) ((dat1 V c).after 4 t) : FVec Ideal S1x1 .f32) (ix2 i j) = _
  rw [after1_4]
  generalize (headOut V c t.val t.isLt).loss = o
  rfl

theorem out1_4 (V : Dev nD → Valuation τ sig (Elt Ideal)) (c : Dev nD) (t : Fin cfg1.N) (h9 : t.val = 9) (i j : Fin 1) :
    (Pipeline.afterRegion (dat1 V c) (V c) main_v8_1 : FVec Ideal S1x1 .f32) (ix2 i j) = (headOut V c t.val t.isLt).loss (ix2 i j) := by
  have e1 : Pipeline.afterRegion (dat1 V c) (V c) main_v8_1 = (dat1 V c).arrAt 4 cfg1.N := Pipeline.afterRegion_arr (dat1 V c) (V c) launch1.win.arr_inj 4
  have e2 := (dat1 V c).read_blk_arrAt_eq_flushed 4 apart1_4 cfg1.N t t.isLt ((flush1_4 t).mpr (by omega))
  rw [e1, ← flushed1_4 V c t i j, ← e2]
  generalize (dat1 V c).arrAt 4 cfg1.N = A
  exact (congrFun (read1_4 (F := Ideal) t A) (ix2 i j)).symm

/-! ## The results -/

section results
variable (m : (ℓ : Loc nD τ sig) → Buf (Elt Ideal) ℓ) (c : Dev nD) {G : Given}

/-- The rows of all images, one image under another. -/
def stacked (G : Given) : E2 := fun i j => G.hidden (i / 208) (i % 208) j

theorem stacked_logit (G : Given) (b i v : ℕ) (hi : i < 208) : mmE 1024 (stacked G) (wide G.wHead) (208 * b + i) v = G.logit b i v := by
  unfold Given.logit mmE stacked
  refine Finset.sum_congr rfl fun k _ => ?_
  rw [show (208 * b + i) / 208 = b by omega, show (208 * b + i) % 208 = i by omega]

theorem entered (h : argsIn m c G) : Entered (W1 m) c (stacked G) G.wHead G.lastLogit G.label where
  lab b := by
    have e : W1 m c main_arg1 = V0 m c main_arg1 := W1_keeps m c main_arg1 (by decide) (by decide) (by decide)
    rw [e]; exact h.label b
  hid i j := by
    have hi := i.isLt
    have e := v7_is m c h ⟨i.val / 208, by omega⟩ ⟨i.val % 208, Nat.mod_lt _ (by omega)⟩ j
    refine Eq.trans (congrArg (W1 m c main_v7 : FVec Ideal S832x1024 .bf16) ?_) e
    exact congrArg (fun z => ix2 z j) (Fin.ext (Nat.div_add_mod i.val 208).symm)
  wt := by
    have e : W1 m c main_arg9 = V0 m c main_arg9 := W1_keeps m c main_arg9 (by decide) (by decide) (by decide)
    rw [e]; exact h.wHead
  last b v := (stacked_logit G b 200 v (by omega)).trans (G.lastLogit_eq b v)

theorem W2_logits (h : argsIn m c G) (b : Fin 4) (i : Fin 201) (v : Fin 32000) :
    (W2 m c main_v8_0 : FVec Ideal S4x201x32000 .f32) (ix3 b i v) = G.logit b i v := by
  have hv := v.isLt
  have ht : v.val / 3200 < cfg1.N := lt_of_lt_of_eq (show v.val / 3200 < 10 by omega) (show cfg1.N = 10 from N_1).symm
  have hj : v.val % 3200 < 3200 := Nat.mod_lt _ (by omega)
  have e := (out1_3 (W1 m) c ⟨v.val / 3200, ht⟩ b i ⟨v.val % 3200, hj⟩ (by show 3200 * (v.val / 3200) + v.val % 3200 < 32000; omega)).trans
    (headOut_logits (entered m c h) ⟨v.val / 3200, ht⟩ b i ⟨v.val % 3200, hj⟩)
  unfold W2
  refine Eq.trans (congrArg (Pipeline.afterRegion (dat1 (W1 m) c) (W1 m c) main_v8_0 : FVec Ideal S4x201x32000 .f32) ?_) (e.trans ?_)
  · exact congrArg (ix3 b i) (Fin.ext (Nat.div_add_mod v.val 3200).symm)
  · refine (stacked_logit G b i _ (by omega)).trans ?_
    exact congrArg (G.logit b i) (Nat.div_add_mod v.val 3200)

theorem W2_loss (h : argsIn m c G) (i j : Fin 1) : (W2 m c main_v8_1 : FVec Ideal S1x1 .f32) (ix2 i j) = ((G.loss : ℝ) : EReal) := by
  have ht : 9 < cfg1.N := lt_of_lt_of_eq (show 9 < 10 by omega) (show cfg1.N = 10 from N_1).symm
  unfold W2
  exact (out1_4 (W1 m) c ⟨9, ht⟩ rfl i j).trans (headOut_loss (entered m c h) h.label_lt ⟨9, ht⟩ rfl (ix2 i j))

theorem W3_logits (h : argsIn m c G) (b : Fin 4) (i : Fin 201) (v : Fin 32000) :
    (W3 m c main_v8_0 : FVec Ideal S4x201x32000 .f32) (ix3 b i v) = G.logit b i v := by
  have e : W3 m c main_v8_0 = W2 m c main_v8_0 := StableHlo.after_of_writes_sub hostOps2 _ hostOps2_writes (by decide)
  rw [e]; exact W2_logits m c h b i v

theorem W3_loss (h : argsIn m c G) (x : S_.Idx) : (W3 m c main_v9 : FVec Ideal S_ .f32) x = ((G.loss : ℝ) : EReal) := by
  have e : (W3 m c main_v9 : FVec Ideal S_ .f32) = fun y => shapeCast S_ (W2 m c main_v8_1 : FVec Ideal S1x1 .f32) shapeCasts_S1x1_S_ y := by
    unfold W3
    after_results_simp
    rfl
  rw [e]
  generalize hA : (W2 m c main_v8_1 : FVec Ideal S1x1 .f32) = A
  unfold shapeCast
  refine Eq.trans (congrArg A (a₂ := ix2 0 0) (funext fun a => ?_)) ?_
  · match a with
    | ⟨0, _⟩ => exact Subsingleton.elim (α := Fin 1) _ _
    | ⟨1, _⟩ => exact Subsingleton.elim (α := Fin 1) _ _
  · rw [← hA]; exact W2_loss m c h 0 0

end results

end Cert.KernelIdeal.Hand

end
-- ==== Proof.Value.RefNorm.lean ====
module

public import proofs.«01_k».proof.Proof.Value.Args
public import proofs.«01_k».proof.Proof.Gen.ReferenceIdeal.Run

/-!
# The reference's row normalisation, over the reals
-/

@[expose] public section

set_option maxRecDepth 8192

noncomputable section

namespace Cert.ReferenceIdeal.Hand

open Cert.Real Cert.ReferenceIdeal Cert.ReferenceIdeal.Gen
open Idealize.ShloMosaic

/-- The reference's count of what a mean is over, less zero. -/
abbrev countV (w : BitVec 32) : FVec Ideal S_ .f32 := subf (constant S_ .f32 w) (sitofp .f32 (constantI S_ 32 0#32))
abbrev meanV (x : FVec Ideal S4x201x1024 .f32) : FVec Ideal S4x201x1 .f32 :=
  Host.divf (broadcastInDim S4x201x1 ![0, 1] bcast_S4x201_S4x201x1_0_1 (Host.reduceAdd x (constant S_ .f32 0x00000000#32) reducesTo_S4x201x1024_S4x201_d2 h_S_)) (broadcastInDim S4x201x1 ![] bcast_S_S4x201x1 (constant S_ .f32 0x44800000#32))
abbrev devV (x : FVec Ideal S4x201x1024 .f32) : FVec Ideal S4x201x1024 .f32 :=
  subf x (broadcastInDim S4x201x1024 ![0, 1, 2] bcast_S4x201x1_S4x201x1024_0_1_2 (meanV x))
abbrev varV (x : FVec Ideal S4x201x1024 .f32) : FVec Ideal S4x201x1 .f32 :=
  select (broadcastInDim S4x201x1 ![] bcast_S_S4x201x1 (cmpf .ogt (countV 0x44800000#32) (constant S_ .f32 0x00000000#32))) (Host.divf (broadcastInDim S4x201x1 ![0, 1] bcast_S4x201_S4x201x1_0_1 (Host.reduceAdd (mulf (devV x) (devV x)) (constant S_ .f32 0x00000000#32) reducesTo_S4x201x1024_S4x201_d2 h_S_)) (broadcastInDim S4x201x1 ![] bcast_S_S4x201x1 (countV 0x44800000#32))) (broadcastInDim S4x201x1 ![] bcast_S_S4x201x1 (id (constant S_ .f32 0x7FC00000#32)))
abbrev normV (x : FVec Ideal S4x201x1024 .f32) : FVec Ideal S4x201x1024 .f32 :=
  mulf (devV x) (broadcastInDim S4x201x1024 ![0, 1, 2] bcast_S4x201x1_S4x201x1024_0_1_2 (Host.rsqrt (addf (varV x) (broadcastInDim S4x201x1 ![] bcast_S_S4x201x1 (constant S_ .f32 0x3727C5AC#32)))))

theorem count_is (w : BitVec 32) (h : (w.extractLsb' 23 8).toNat ≠ 255) (j : S_.Idx) : Is0 (countV w j) (lit w) := by
  pointwise
  have h0 : Is0 (Ideal.ofBits .f32 w) (lit w) := lit_is w h
  have h1 : Is0 (FloatOps.sitofp (F := Ideal) FTy.f32 0#32) 0 := by
    show (((0#32).toInt : ℝ) : EReal) = ((0 : ℝ) : EReal)
    simp
  have := Is0.sub h0 h1
  rwa [sub_zero] at this

variable {x : FVec Ideal S4x201x1024 .f32} {X : E3}

theorem meanV_apply (x : FVec Ideal S4x201x1024 .f32) (b : Fin 4) (i : Fin 201) (z : Fin 1) :
    meanV x (ix3 b i z) = Ideal.div (∑ j : Fin 1024, x (ix3 b i j)) (Ideal.ofBits .f32 0x44800000#32) := by
  pointwise

theorem devV_apply (x : FVec Ideal S4x201x1024 .f32) (b : Fin 4) (i : Fin 201) (j : Fin 1024) :
    devV x (ix3 b i j) = x (ix3 b i j) - Ideal.div (∑ k : Fin 1024, x (ix3 b i k)) (Ideal.ofBits .f32 0x44800000#32) := by
  rw [← meanV_apply x b i 0]
  unfold devV
  generalize meanV x = y at *
  pointwise

theorem varV_apply (x : FVec Ideal S4x201x1024 .f32) (b : Fin 4) (i : Fin 201) (z : Fin 1) :
    varV x (ix3 b i z) = Ideal.div (∑ j : Fin 1024, devV x (ix3 b i j) * devV x (ix3 b i j)) (Ideal.ofBits .f32 0x44800000#32) := by
  unfold varV
  generalize devV x = y at *
  have h2 := count_is 0x44800000#32 (by decide)
  generalize countV 0x44800000#32 = cnt at *
  pointwise
  have h3 := h2 ix0
  rw [if_pos (by rw [h3]; exact EReal.coe_pos.mpr (lit_pos _)), h3]
  exact congrArg (Ideal.div _) (lit_is 0x44800000#32).symm

theorem normV_apply (x : FVec Ideal S4x201x1024 .f32) (b : Fin 4) (i : Fin 201) (j : Fin 1024) :
    normV x (ix3 b i j) = normRow (fun k => x (ix3 b i k)) j := by
  have h1 := devV_apply x b i
  have h2 := varV_apply x b i 0
  simp only [h1] at h2
  unfold normRow
  beta_reduce
  rw [← h2, ← h1 j]
  unfold normV
  generalize devV x = y at *
  generalize varV x = v at *
  pointwise

theorem normV_is (h : At3 (n := 4) (m := 201) (k := 1024) x X) :
    Is3 (n := 4) (m := 201) (k := 1024) (normV x) (fun b => norm (tame (X b))) := fun b i j =>
  (normV_apply x b i j).trans (normRow_is (h b i) j)

end Cert.ReferenceIdeal.Hand

end
-- ==== Proof.Value.RefRows.lean ====
module

public import proofs.«01_k».proof.Proof.Value.RefNorm

/-!
# The rows the reference's block starts from, over the reals
-/

@[expose] public section

set_option maxRecDepth 8192

noncomputable section

namespace Cert.ReferenceIdeal.Hand

open Cert.Real Cert.ReferenceIdeal Cert.ReferenceIdeal.Gen
open Idealize.ShloMosaic

/-! ## A channel of an image, by rows and by patches -/

theorem sum_blocks (g : ℕ → ℝ) (n m : ℕ) :
    ∑ i ∈ Finset.range (m * n), g i = ∑ a ∈ Finset.range m, ∑ b ∈ Finset.range n, g (a * n + b) := by
  induction m with
  | zero => simp
  | succ m ih => rw [Nat.succ_mul, Finset.sum_range_add, ih, Finset.sum_range_succ]

/-- The sum over an image's points is the sum over its patches of the sums over their points. -/
theorem sum_image (f : R2) :
    ∑ y ∈ Finset.range 224, ∑ x ∈ Finset.range 224, f y x
      = ∑ p ∈ Finset.range 196, ∑ r ∈ Finset.range 256, f (p / 14 * 16 + r / 16) (p % 14 * 16 + r % 16) := by
  have e1 : ∑ y ∈ Finset.range 224, ∑ x ∈ Finset.range 224, f y x
      = ∑ a ∈ Finset.range 14, ∑ u ∈ Finset.range 16, ∑ b ∈ Finset.range 14, ∑ v ∈ Finset.range 16, f (a * 16 + u) (b * 16 + v) := by
    refine (sum_blocks _ 16 14).trans ?_
    exact Finset.sum_congr rfl fun a _ => Finset.sum_congr rfl fun u _ => sum_blocks _ 16 14
  have e2 : ∑ p ∈ Finset.range 196, ∑ r ∈ Finset.range 256, f (p / 14 * 16 + r / 16) (p % 14 * 16 + r % 16)
      = ∑ a ∈ Finset.range 14, ∑ b ∈ Finset.range 14, ∑ u ∈ Finset.range 16, ∑ v ∈ Finset.range 16, f (a * 16 + u) (b * 16 + v) := by
    refine (sum_blocks _ 14 14).trans ?_
    refine Finset.sum_congr rfl fun a _ => Finset.sum_congr rfl fun b hb => ?_
    refine (sum_blocks _ 16 16).trans ?_
    refine Finset.sum_congr rfl fun u _ => Finset.sum_congr rfl fun v hv => ?_
    have hb := Finset.mem_range.mp hb
    have hv := Finset.mem_range.mp hv
    rw [show (a * 14 + b) / 14 = a by omega, show (a * 14 + b) % 14 = b by omega, show (u * 16 + v) / 16 = u by omega,
      show (u * 16 + v) % 16 = v by omega]
  rw [e1, e2]
  exact Finset.sum_congr rfl fun a _ => Finset.sum_comm

theorem chan_pix (G : Given) (b c p r : ℕ) (hr : r < 256) :
    chan (G.pix b) c p r = G.image b c (p / 14 * 16 + r / 16) (p % 14 * 16 + r % 16) := by
  unfold chan Given.pix
  rw [show (256 * c + r) / 256 = c by omega, show (256 * c + r) / 16 % 16 = r / 16 by omega, show (256 * c + r) % 16 = r % 16 by omega]

/-- A sum over a channel's points, of a function of their values. -/
theorem sum_chan (G : Given) (b c : ℕ) (f : ℝ → ℝ) :
    ∑ y ∈ Finset.range 224, ∑ x ∈ Finset.range 224, f (G.image b c y x)
      = ∑ p ∈ Finset.range 196, ∑ r ∈ Finset.range 256, f (chan (G.pix b) c p r) := by
  rw [sum_image fun y x => f (G.image b c y x)]
  exact Finset.sum_congr rfl fun p _ => Finset.sum_congr rfl fun r hr => by rw [chan_pix G b c p r (Finset.mem_range.mp hr)]

/-! ## The image normalised -/

abbrev imgMeanV (a : FVec Ideal S4x3x224x224 .f32) : FVec Ideal S4x3x1x1 .f32 :=
  Host.divf (broadcastInDim S4x3x1x1 ![0, 1] bcast_S4x3_S4x3x1x1_0_1 (Host.reduceAdd a (constant S_ .f32 0x00000000#32) reducesTo_S4x3x224x224_S4x3_d2_3 h_S_)) (broadcastInDim S4x3x1x1 ![] bcast_S_S4x3x1x1 (constant S_ .f32 0x47440000#32))
abbrev imgDevV (a : FVec Ideal S4x3x224x224 .f32) : FVec Ideal S4x3x224x224 .f32 :=
  subf a (broadcastInDim S4x3x224x224 ![0, 1, 2, 3] bcast_S4x3x1x1_S4x3x224x224_0_1_2_3 (imgMeanV a))
abbrev imgVarV (a : FVec Ideal S4x3x224x224 .f32) : FVec Ideal S4x3x1x1 .f32 :=
  select (broadcastInDim S4x3x1x1 ![] bcast_S_S4x3x1x1 (cmpf .ogt (countV 0x47440000#32) (constant S_ .f32 0x00000000#32))) (Host.divf (broadcastInDim S4x3x1x1 ![0, 1] bcast_S4x3_S4x3x1x1_0_1 (Host.reduceAdd (mulf (imgDevV a) (imgDevV a)) (constant S_ .f32 0x00000000#32) reducesTo_S4x3x224x224_S4x3_d2_3 h_S_)) (broadcastInDim S4x3x1x1 ![] bcast_S_S4x3x1x1 (countV 0x47440000#32))) (broadcastInDim S4x3x1x1 ![] bcast_S_S4x3x1x1 (id (constant S_ .f32 0x7FC00000#32)))
abbrev imgNormV (a : FVec Ideal S4x3x224x224 .f32) : FVec Ideal S4x3x224x224 .f32 :=
  Host.divf (imgDevV a) (broadcastInDim S4x3x224x224 ![0, 1, 2, 3] bcast_S4x3x1x1_S4x3x224x224_0_1_2_3 (addf (Host.sqrt (imgVarV a)) (broadcastInDim S4x3x1x1 ![] bcast_S_S4x3x1x1 (constant S_ .f32 0x358637BD#32))))
/-- Cut into patches. -/
abbrev patchV (a : FVec Ideal S4x3x224x224 .f32) : FVec Ideal S4x196x768 .f32 :=
  shapeCast _ (transpose S4x14x14x3x16x16 [0, 2, 4, 1, 3, 5] (shapeCast _ a shapeCasts_S4x3x224x224_S4x3x14x16x14x16) transposes_S4x3x14x16x14x16_S4x14x14x3x16x16_0_2_4_1_3_5) shapeCasts_S4x14x14x3x16x16_S4x196x768
/-- The visual rows. -/
abbrev visualV (p : FVec Ideal S4x196x768 .f32) (wp : FVec Ideal S768x768 .f32) (wt : FVec Ideal S768x1024 .f32) : FVec Ideal S4x196x1024 .f32 :=
  Host.dotGeneral dot_S4x196x768_S768x1024_S4x196x1024_2_0_01_1_n_n none (Host.dotGeneral dot_S4x196x768_S768x768_S4x196x768_2_0_01_1_n_n none p wp) wt

section image
variable {a : FVec Ideal S4x3x224x224 .f32} {G : Given}

theorem imgMeanV_apply (a : FVec Ideal S4x3x224x224 .f32) (b : Fin 4) (c : Fin 3) (y z : Fin 1) :
    imgMeanV a (ix4 b c y z) = Ideal.div (∑ y : Fin 224, ∑ x : Fin 224, a (ix4 b c y x)) (Ideal.ofBits .f32 0x47440000#32) := by
  unfold imgMeanV
  pointwise

theorem imgDevV_apply (a : FVec Ideal S4x3x224x224 .f32) (b : Fin 4) (c : Fin 3) (y x : Fin 224) :
    imgDevV a (ix4 b c y x) = a (ix4 b c y x) - imgMeanV a (ix4 b c 0 0) := by
  unfold imgDevV
  generalize imgMeanV a = mu at *
  pointwise

theorem imgVarV_apply (a : FVec Ideal S4x3x224x224 .f32) (b : Fin 4) (c : Fin 3) (y z : Fin 1) :
    imgVarV a (ix4 b c y z)
      = Ideal.div (∑ y : Fin 224, ∑ x : Fin 224, imgDevV a (ix4 b c y x) * imgDevV a (ix4 b c y x)) (Ideal.ofBits .f32 0x47440000#32) := by
  unfold imgVarV
  generalize imgDevV a = d at *
  have h2 := count_is 0x47440000#32 (by decide) ix0
  generalize countV 0x47440000#32 = cnt at *
  pointwise
  rw [if_pos (by rw [h2]; exact EReal.coe_pos.mpr (lit_pos _)), h2]
  exact congrArg (Ideal.div _) (lit_is 0x47440000#32).symm

theorem imgNormV_apply (a : FVec Ideal S4x3x224x224 .f32) (b : Fin 4) (c : Fin 3) (y x : Fin 224) :
    imgNormV a (ix4 b c y x) = Ideal.div (imgDevV a (ix4 b c y x)) (Ideal.sqrt (imgVarV a (ix4 b c 0 0)) + Ideal.ofBits .f32 0x358637BD#32) := by
  unfold imgNormV
  generalize imgDevV a = d at *
  generalize imgVarV a = v at *
  pointwise

theorem imgNormV_real {b : Fin 4} {c : Fin 3} (h : ∀ y x : Fin 224, a (ix4 b c y x) = ((G.image b c y x : ℝ) : EReal)) (y x : Fin 224) :
    Is0 (imgNormV a (ix4 b c y x)) ((G.image b c y x - chanMean (chan (G.pix b) c)) / (Real.sqrt (chanVar (chan (G.pix b) c)) + tiny)) := by
  have hm : Is0 (imgMeanV a (ix4 b c 0 0)) (chanMean (chan (G.pix b) c)) := by
    rw [imgMeanV_apply]
    unfold chanMean
    rw [← sum_chan G b c fun t => t]
    exact Is0.div (sum_fin _ (fun y => ∑ x ∈ Finset.range 224, G.image b c y x) fun y => sum_fin _ (fun x => G.image b c y x) fun x => h y x)
      (lit_is _) (lit_pos _).ne'
  have hd : ∀ y x : Fin 224, Is0 (imgDevV a (ix4 b c y x)) (G.image b c y x - chanMean (chan (G.pix b) c)) := fun y x => by
    rw [imgDevV_apply]
    exact Is0.sub (h y x) hm
  have hv : Is0 (imgVarV a (ix4 b c 0 0)) (chanVar (chan (G.pix b) c)) := by
    rw [imgVarV_apply]
    unfold chanVar
    generalize chanMean (chan (G.pix b) c) = mu at *
    unfold chanMean
    rw [← sum_chan G b c fun t => (t - mu) * (t - mu)]
    exact Is0.div (sum_fin _ (fun y => ∑ x ∈ Finset.range 224, (G.image b c y x - mu) * (G.image b c y x - mu)) fun y =>
      sum_fin _ (fun x => (G.image b c y x - mu) * (G.image b c y x - mu)) fun x => Is0.mul (hd y x) (hd y x)) (lit_is _) (lit_pos _).ne'
  rw [imgNormV_apply]
  exact Is0.div (hd y x) (Is0.add (Is0.sqrt hv (chanVar_nonneg _)) (lit_is _)) (dev_pos _).ne'

theorem imgNormV_is (h : ∀ (b : Fin 4) (c : Fin 3), Chan (n := 224) (m := 224) (fun y x => a (ix4 b c y x)) (G.image b c)) :
    Is4 (n := 4) (m := 3) (k := 224) (q := 224) (imgNormV a)
      (fun b c y x => (G.image b c y x - chanMean (chan (G.pix b) c)) / (Real.sqrt (chanVar (chan (G.pix b) c)) + tiny)) := by
  intro b c y x
  rcases h b c with g | ⟨g, z⟩
  · exact imgNormV_real g y x
  · have e := dev_top g (lit_is 0x47440000#32) (lit_pos _) (imgMeanV_apply a b c 0 0)
    simp only [← imgDevV_apply] at e
    rw [← imgVarV_apply a b c 0 0] at e
    have hz : ∀ p < 196, ∀ r < 256, chan (G.pix b) c p r = 0 := fun p hp r hr => by
      rw [chan_pix G b c p r hr]
      exact z _ (by omega) _ (by omega)
    rw [imgNormV_apply, e, div_by_top]
    beta_reduce
    rw [chanMean_zero hz, z y y.isLt x x.isLt, sub_zero, zero_div]
    rfl

theorem patchV_is (h : ∀ (b : Fin 4) (c : Fin 3), Chan (n := 224) (m := 224) (fun y x => a (ix4 b c y x)) (G.image b c)) :
    Is3 (n := 4) (m := 196) (k := 768) (patchV (imgNormV a)) (fun b => patches (G.pix b)) := by
  intro b p k
  have h1 := imgNormV_is h
  unfold patchV
  generalize imgNormV a = d at *
  pointwise
  refine (h1 b _ _ _).trans (congrArg _ ?_)
  unfold patches chanNorm
  have e : chan (G.pix b) (k.val / 256) p (k.val % 256) = G.pix b p k := by unfold chan; rw [Nat.div_add_mod]
  rw [e]
  rfl

end image

theorem visualV_is {p : FVec Ideal S4x196x768 .f32} {wp : FVec Ideal S768x768 .f32} {wt : FVec Ideal S768x1024 .f32} {P : R3} {Wp Wt : E2}
    (hp : Is3 (n := 4) (m := 196) (k := 768) p P) (h2 : At2 (n := 768) (m := 768) wp Wp) (h3 : At2 (n := 768) (m := 1024) wt Wt) :
    At3 (n := 4) (m := 196) (k := 1024) (visualV p wp wt) (fun b => mmE 768 (mmE 768 (wide (P b)) Wp) Wt) := by
  intro b i j
  unfold visualV
  pointwise
  refine sum_mul_at _ _ (fun k => mmE 768 (wide (P b)) Wp i k) (fun k => Wt k j) (fun k => ?_) fun k => h3 k j
  exact sum_mul_at _ _ (fun l => wide (P b) i l) (fun l => Wp l k) (fun l => hp b i l) fun l => h2 l k

/-! ## The token rows -/

/-- Row `o` of the table for each image, -/
abbrev rowV (o : ℕ) (h : S32002x1024.Slices ![o, 0] S1x1024) (t : FVec Ideal S32002x1024 .f32) : FVec Ideal S4x1x1024 .f32 :=
  broadcastInDim S4x1x1024 ![0, 1, 2] bcast_S1x1x1024_S4x1x1024_0_1_2 (broadcastInDim S1x1x1024 ![2] bcast_S1024_S1x1x1024_2 (shapeCast _ (extractStridedSlice S1x1024 ![o, 0] t h) shapeCasts_S1x1024_S1024))
/-- the prompt's numbers, a negative one counted from the table's end, -/
abbrev idsV (i : IVec S3 32) : IVec S3x1 32 :=
  broadcastInDim S3x1 ![0] bcast_S3_S3x1_0 (select (cmpi .slt i (broadcastInDim S3 ![] bcast_S_S3 (constantI S_ 32 0#32))) (addi i (broadcastInDim S3 ![] bcast_S_S3 (constantI S_ 32 32002#32))) i)
/-- the rows there, -/
abbrev takenV (t : FVec Ideal S32002x1024 .f32) (i : IVec S3x1 32) : FVec Ideal S3x1024 .f32 :=
  select (broadcastInDim S3x1024 ![0] bcast_S3_S3x1024_0 (Host.reduce IntOp.andi (andi (cmpi .sge i (broadcastInDim S3x1 ![] bcast_S_S3x1 (constantI S_ 32 0#32))) (cmpi .sle i (broadcastInDim S3x1 ![0, 1] bcast_S1x1_S3x1_0_1 (broadcastInDim S1x1 ![1] bcast_S1_S1x1_1 (constantI S1 32 32001#32))))) (constantI S_ 1 1#1) reducesTo_S3x1_S3_d1 h_S_)) (Host.gather gather_S32002x1024_S3x1_S3x1024_1_0_n_n_0_1_11024 t i) (broadcastInDim S3x1024 ![] bcast_S_S3x1024 (constant S_ .f32 0x7FC00000#32))
/-- for each image, -/
abbrev promptV (r : FVec Ideal S3x1024 .f32) : FVec Ideal S4x3x1024 .f32 :=
  broadcastInDim S4x3x1024 ![0, 1, 2] bcast_S1x3x1024_S4x3x1024_0_1_2 (broadcastInDim S1x3x1024 ![1, 2] bcast_S3x1024_S1x3x1024_1_2 r)
/-- and all rows. -/
abbrev joinV (s : FVec Ideal S4x1x1024 .f32) (v : FVec Ideal S4x196x1024 .f32) (e : FVec Ideal S4x1x1024 .f32) (q : FVec Ideal S4x3x1024 .f32) : FVec Ideal S4x201x1024 .f32 :=
  (concatenate S4x201x1024 1 [⟨S4x1x1024, (s : (⟨S4x1x1024, .f32⟩ : BufTy).Contents (Elt Ideal))⟩, ⟨S4x196x1024, (v : (⟨S4x196x1024, .f32⟩ : BufTy).Contents (Elt Ideal))⟩, ⟨S4x1x1024, (e : (⟨S4x1x1024, .f32⟩ : BufTy).Contents (Elt Ideal))⟩, ⟨S4x3x1024, (q : (⟨S4x3x1024, .f32⟩ : BufTy).Contents (Elt Ideal))⟩] concatenates_S4x1x1024_S4x196x1024_S4x1x1024_S4x3x1024_S4x201x1024_d1 : (⟨S4x201x1024, .f32⟩ : BufTy).Contents (Elt Ideal))

section token
variable {t : FVec Ideal S32002x1024 .f32} {T : R2}

theorem rowV_is (hT : Is2 (n := 32002) (m := 1024) t T) (o : ℕ) (h) (ho : o < 32002) (b : Fin 4) (z : Fin 1) (j : Fin 1024) :
    rowV o h t (ix3 b z j) = ((T o j : ℝ) : EReal) := by
  refine Eq.trans ?_ (hT ⟨o, ho⟩ j)
  unfold rowV
  pointwise

theorem idsV_apply (i : IVec S3 32) (k : Fin 3) (x : Fin 1) {n : ℕ} (h : i (ix1 k) = BitVec.ofNat 32 n) (hn : n < 32002) :
    idsV i (ix2 k x) = BitVec.ofNat 32 n := by
  unfold idsV
  pointwise
  rw [h]
  exact fix_small (by omega) _

theorem takenV_is (hT : Is2 (n := 32002) (m := 1024) t T) (i : IVec S3x1 32) (n : ℕ → ℕ)
    (hi : ∀ (k : Fin 3) (x : Fin 1), i (ix2 k x) = BitVec.ofNat 32 (n k)) (hlt : ∀ k, n k < 32002) :
    Is2 (n := 3) (m := 1024) (takenV t i) (fun k j => T (n k) j) := by
  intro k j
  unfold takenV
  pointwise
  rw [Finset.univ_unique, Finset.fold_singleton, hi,
    show IntOp.andi (IntOp.cmpi .sge (BitVec.ofNat 32 (n k)) 0#32) (IntOp.cmpi .sle (BitVec.ofNat 32 (n k)) 32001#32) = 1#1 from
      in_range (Nat.le_of_lt_succ (hlt k)) (by omega)]
  refine Eq.trans ?_ (hT ⟨n k, hlt k⟩ j)
  refine Eq.trans (WordCmp.select_of_eq_one (by decide) _ _) ?_
  exact Routing.gather_row _ rfl rfl rfl rfl rfl t i k j ⟨n k, hlt k⟩ (hi k 0) (by omega)

theorem promptV_is {r : FVec Ideal S3x1024 .f32} {R : R2} (h : Is2 (n := 3) (m := 1024) r R) :
    Is3 (n := 4) (m := 3) (k := 1024) (promptV r) (fun _ => R) := by
  intro b k j
  refine Eq.trans ?_ (h k j)
  unfold promptV
  pointwise

end token

theorem joinV_is {s : FVec Ideal S4x1x1024 .f32} {v : FVec Ideal S4x196x1024 .f32} {e : FVec Ideal S4x1x1024 .f32} {q : FVec Ideal S4x3x1024 .f32} {V : E3} {E : R2}
    (hs : ∀ (b : Fin 4) (z : Fin 1) (j : Fin 1024), s (ix3 b z j) = ((E 0 j : ℝ) : EReal)) (hv : At3 (n := 4) (m := 196) (k := 1024) v V)
    (he : ∀ (b : Fin 4) (z : Fin 1) (j : Fin 1024), e (ix3 b z j) = ((E 1 j : ℝ) : EReal))
    (hq : Is3 (n := 4) (m := 3) (k := 1024) q (fun _ k => E (2 + k))) : At3 (n := 4) (m := 201) (k := 1024) (joinV s v e q) (fun b => embed (V b) E) := by
  intro b i j
  have hi := i.isLt
  have e0' : ∀ (k : ℕ) (h : k < 1), s (ix3 b (⟨k, h⟩ : Fin 1) j) = _ := fun k h => hs b ⟨k, h⟩ j
  have e1' : ∀ (k : ℕ) (h : k < 1), e (ix3 b (⟨k, h⟩ : Fin 1) j) = _ := fun k h => he b ⟨k, h⟩ j
  have e2' : ∀ (k : ℕ) (h : k < 3), q (ix3 b (⟨k, h⟩ : Fin 3) j) = _ := fun k h => hq b ⟨k, h⟩ j
  have hv' : ∀ (k : ℕ) (h : k < 196), v (ix3 b (⟨k, h⟩ : Fin 196) j) = _ := fun k h => hv b ⟨k, h⟩ j
  unfold joinV
  pointwise
  simp only [e0', e1', e2', hv']
  unfold embed
  by_cases h1 : i.val < 1
  · rw [dif_pos h1, if_pos h1]; rfl
  rw [dif_neg h1, if_neg h1]
  by_cases h2 : i.val < 197
  · rw [dif_pos (by omega), if_pos h2]
  rw [dif_neg (by omega), if_neg h2]
  by_cases h3 : i.val < 198
  · rw [dif_pos (by omega), if_pos h3]; rfl
  rw [dif_neg (by omega), if_neg h3, if_pos hi, show i.val - 1 - 196 - 1 = i.val - 198 by omega]
  rfl

end Cert.ReferenceIdeal.Hand

end
-- ==== Proof.Value.RefBlock.lean ====
module

public import proofs.«01_k».proof.Proof.Value.RefNorm

/-!
# The reference's block, over the reals
-/

@[expose] public section

set_option maxRecDepth 8192

noncomputable section

namespace Cert.ReferenceIdeal.Hand

open Cert.Real Cert.ReferenceIdeal Cert.ReferenceIdeal.Gen
open Idealize.ShloMosaic

/-- Queries, keys and values from the rows. -/
abbrev qkvV (x : FVec Ideal S4x201x1024 .f32) (w : FVec Ideal S1024x3072 .f32) : FVec Ideal S4x201x3072 .f32 :=
  Host.dotGeneral dot_S4x201x1024_S1024x3072_S4x201x3072_2_0_01_1_n_n none (normV x) w
/-- The part of them from column `o` on, by heads. -/
abbrev byHead (o : ℕ) (h : S4x201x3072.Slices ![0, 0, o] S4x201x1024) (q : FVec Ideal S4x201x3072 .f32) : FVec Ideal S4x16x201x64 .f32 :=
  transpose S4x16x201x64 [0, 2, 1, 3] (shapeCast _ (extractStridedSlice S4x201x1024 ![0, 0, o] q h) shapeCasts_S4x201x1024_S4x201x16x64) transposes_S4x201x16x64_S4x16x201x64_0_2_1_3
/-- Which columns a row attends to. -/
abbrev maskV : IVec S4x16x201x201 1 :=
  broadcastInDim S4x16x201x201 ![0, 1, 2, 3] bcast_S1x1x201x201_S4x16x201x201_0_1_2_3 (broadcastInDim S1x1x201x201 ![2, 3] bcast_S201x201_S1x1x201x201_2_3 (select (cmpi .sge (addi (iotaInDim S201x201 32 0) (broadcastInDim S201x201 ![] bcast_S_S201x201 (constantI S_ 32 0#32))) (iotaInDim S201x201 32 1)) (broadcastInDim S201x201 ![] bcast_S_S201x201 (constantI S_ 1 1#1)) (broadcastInDim S201x201 ![] bcast_S_S201x201 (constantI S_ 1 0#1))))
/-- The masked scores. -/
abbrev scoreV (q : FVec Ideal S4x201x3072 .f32) : FVec Ideal S4x16x201x201 .f32 :=
  select maskV (Host.divf (Host.dotGeneral dot_S4x16x201x64_S4x16x64x201_S4x16x201x201_3_2_2_3_01_01 none (byHead 0 slices_S4x201x3072_S4x201x1024_0_0_0 q) (transpose S4x16x64x201 [0, 1, 3, 2] (byHead 1024 slices_S4x201x3072_S4x201x1024_0_0_1024 q) transposes_S4x16x201x64_S4x16x64x201_0_1_3_2)) (broadcastInDim S4x16x201x201 ![] bcast_S_S4x16x201x201 (constant S_ .f32 0x41000000#32))) (broadcastInDim S4x16x201x201 ![] bcast_S_S4x16x201x201 (id (constant S_ .f32 0xFF800000#32)))
/-- Their exponentials, each row's largest taken off. -/
abbrev expV (s : FVec Ideal S4x16x201x201 .f32) : FVec Ideal S4x16x201x201 .f32 :=
  Host.exp (subf s (broadcastInDim S4x16x201x201 ![0, 1, 2, 3] bcast_S4x16x201x1_S4x16x201x201_0_1_2_3 (broadcastInDim S4x16x201x1 ![0, 1, 2] bcast_S4x16x201_S4x16x201x1_0_1_2 (maximumf (broadcastInDim S4x16x201 ![] bcast_S_S4x16x201 (constant S_ .f32 0xFF800000#32)) (Host.reduce FloatOps.maximumf s (constant S_ .f32 0xFF800000#32) reducesTo_S4x16x201x201_S4x16x201_d3 h_S_)))))
/-- The weights. -/
abbrev weightV (e : FVec Ideal S4x16x201x201 .f32) : FVec Ideal S4x16x201x201 .f32 :=
  Host.divf e (broadcastInDim S4x16x201x201 ![0, 1, 2, 3] bcast_S4x16x201x1_S4x16x201x201_0_1_2_3 (broadcastInDim S4x16x201x1 ![0, 1, 2] bcast_S4x16x201_S4x16x201x1_0_1_2 (Host.reduceAdd e (constant S_ .f32 0x00000000#32) reducesTo_S4x16x201x201_S4x16x201_d3 h_S_)))
/-- The heads' results side by side. -/
abbrev headsV (w : FVec Ideal S4x16x201x201 .f32) (v : FVec Ideal S4x16x201x64 .f32) : FVec Ideal S4x201x1024 .f32 :=
  shapeCast _ (transpose S4x201x16x64 [0, 2, 1, 3] (Host.dotGeneral dot_S4x16x201x201_S4x16x201x64_S4x16x201x64_3_2_2_3_01_01 none w v) transposes_S4x16x201x64_S4x201x16x64_0_2_1_3) shapeCasts_S4x201x16x64_S4x201x1024
/-- The rows with the attention added. -/
abbrev midV (x y : FVec Ideal S4x201x1024 .f32) (w : FVec Ideal S1024x1024 .f32) : FVec Ideal S4x201x1024 .f32 :=
  addf x (Host.dotGeneral dot_S4x201x1024_S1024x1024_S4x201x1024_2_0_01_1_n_n none y w)
abbrev upV (x : FVec Ideal S4x201x1024 .f32) (w : FVec Ideal S1024x4096 .f32) : FVec Ideal S4x201x4096 .f32 :=
  Host.dotGeneral dot_S4x201x1024_S1024x4096_S4x201x4096_2_0_01_1_n_n none (normV x) w
abbrev geluV (y : FVec Ideal S4x201x4096 .f32) : FVec Ideal S4x201x4096 .f32 :=
  mulf y (mulf (broadcastInDim S4x201x4096 ![] bcast_S_S4x201x4096 (constant S_ .f32 0x3F000000#32)) (addf (broadcastInDim S4x201x4096 ![] bcast_S_S4x201x4096 (constant S_ .f32 0x3F800000#32)) (Host.tanh (mulf (broadcastInDim S4x201x4096 ![] bcast_S_S4x201x4096 (constant S_ .f32 0x3F4C422A#32)) (addf y (mulf (broadcastInDim S4x201x4096 ![] bcast_S_S4x201x4096 (constant S_ .f32 0x3D372713#32)) (mulf (mulf y y) y)))))))
abbrev hiddenV (x : FVec Ideal S4x201x1024 .f32) (g : FVec Ideal S4x201x4096 .f32) (w : FVec Ideal S4096x1024 .f32) : FVec Ideal S4x201x1024 .f32 :=
  addf x (Host.dotGeneral dot_S4x201x4096_S4096x1024_S4x201x1024_2_0_01_1_n_n none g w)
abbrev logitV (x : FVec Ideal S4x201x1024 .f32) (w : FVec Ideal S1024x32000 .f32) : FVec Ideal S4x201x32000 .f32 :=
  Host.dotGeneral dot_S4x201x1024_S1024x32000_S4x201x32000_2_0_01_1_n_n none x w

theorem one_is : Is0 1 1 := rfl

theorem sge_ofNat {a b : ℕ} (ha : a < 2 ^ 31) (hb : b < 2 ^ 31) :
    IntOp.cmpi .sge (BitVec.ofNat 32 a) (BitVec.ofNat 32 b) = BitVec.ofBool (decide (b ≤ a)) := by
  show BitVec.ofBool ((BitVec.ofNat 32 b).sle (BitVec.ofNat 32 a)) = _
  rw [BitVec.sle_eq_decide, WordCmp.toInt_ofNat_of_lt (by omega), WordCmp.toInt_ofNat_of_lt (by omega)]
  simp

theorem qkvV_is {x : FVec Ideal S4x201x1024 .f32} {X : E3} {w : FVec Ideal S1024x3072 .f32} {W : R2} (hx : At3 (n := 4) (m := 201) (k := 1024) x X)
    (hw : Is2 (n := 1024) (m := 3072) w W) : Is3 (n := 4) (m := 201) (k := 3072) (qkvV x w) (fun b => qkv W (X b)) := by
  intro b i j
  have h := normV_is hx
  unfold qkvV
  generalize normV x = y at *
  pointwise
  exact sum_mul_fin _ _ (fun k => norm (tame (X b)) i k) (fun k => W k j) (fun k => h b i k) fun k => hw k j

theorem byHead_is {q : FVec Ideal S4x201x3072 .f32} {Q : R3} (hq : Is3 (n := 4) (m := 201) (k := 3072) q Q) (o : ℕ) (h) (hh : o + 1024 ≤ 3072) :
    Is4 (n := 4) (m := 16) (k := 201) (q := 64) (byHead o h q) (fun b c i d => Q b i (o + (64 * c + d))) := by
  intro b c i d
  unfold byHead
  pointwise
  refine (hq b i ⟨o + (c.val * 64 + d.val), by omega⟩).trans (congrArg (fun k => ((Q b i (o + (k + d.val)) : ℝ) : EReal)) (Nat.mul_comm c.val 64))

theorem maskV_is (b : Fin 4) (c : Fin 16) (i j : Fin 201) : maskV (ix4 b c i j) = BitVec.ofBool (decide (j.val ≤ i.val)) := by
  unfold maskV
  pointwise
  have hi := i.isLt
  have hj := j.isLt
  rw [show IntOp.addi (BitVec.ofNat 32 i.val) 0#32 = BitVec.ofNat 32 i.val from BitVec.add_zero _, sge_ofNat (by omega) (by omega)]
  by_cases hij : j.val ≤ i.val
  · rw [decide_eq_true hij]; rfl
  · rw [decide_eq_false hij]; rfl

theorem scoreV_is {q : FVec Ideal S4x201x3072 .f32} {Q : R3} (hq : Is3 (n := 4) (m := 201) (k := 3072) q Q) (b : Fin 4) (c : Fin 16) (i j : Fin 201) :
    scoreV q (ix4 b c i j) = if j.val ≤ i.val then ((score (Q b) c i j : ℝ) : EReal) else ⊥ := by
  have h1 := byHead_is hq 0 slices_S4x201x3072_S4x201x1024_0_0_0 (by omega)
  have h2 := byHead_is hq 1024 slices_S4x201x3072_S4x201x1024_0_0_1024 (by omega)
  have h3 := maskV_is b c i j
  unfold scoreV
  generalize byHead 0 _ q = y1 at *
  generalize byHead 1024 _ q = y2 at *
  generalize maskV = mk at *
  pointwise
  rw [h3]
  by_cases hij : j.val ≤ i.val
  · rw [decide_eq_true hij, if_pos hij]
    have := Is0.div (sum_mul_fin _ _ (fun d => Q b i (0 + (64 * c.val + d))) (fun d => Q b j (1024 + (64 * c.val + d))) (h1 b c i) (h2 b c j))
      (lit_is 0x41000000#32) (lit_pos _).ne'
    refine Eq.trans this (congrArg _ ?_)
    rw [lit_eight]
    unfold score
    simp only [zero_add, ← Nat.add_assoc]
    ring
  · rw [decide_eq_false hij, if_neg hij]
    exact ofBits_neg_inf

/-- A row's largest entry, -/
theorem rowTop (s : FVec Ideal S4x16x201x201 .f32) (b : Fin 4) (c : Fin 16) (i : Fin 201) :
    Host.reduce FloatOps.maximumf s (constant S_ .f32 0xFF800000#32) reducesTo_S4x16x201x201_S4x16x201_d3 h_S_ (ix3 b c i)
      = Finset.fold max (⊥ : EReal) (fun j : Fin 201 => s (ix4 b c i j)) Finset.univ := by
  rw [← ofBits_neg_inf]
  pointwise

/-- and what taking off such a number for each row makes. -/
theorem restTop (s : FVec Ideal S4x16x201x201 .f32) (r : FVec Ideal S4x16x201 .f32) (b : Fin 4) (c : Fin 16) (i j : Fin 201) :
    Host.exp (subf s (broadcastInDim S4x16x201x201 ![0, 1, 2, 3] bcast_S4x16x201x1_S4x16x201x201_0_1_2_3 (broadcastInDim S4x16x201x1 ![0, 1, 2] bcast_S4x16x201_S4x16x201x1_0_1_2 (maximumf (broadcastInDim S4x16x201 ![] bcast_S_S4x16x201 (constant S_ .f32 0xFF800000#32)) r)))) (ix4 b c i j)
      = Ideal.exp (s (ix4 b c i j) - max (⊥ : EReal) (r (ix3 b c i))) := by
  rw [← ofBits_neg_inf]
  pointwise

theorem expV_is {s : FVec Ideal S4x16x201x201 .f32} {S : ℕ → ℕ → R2}
    (h : ∀ (b : Fin 4) (c : Fin 16) (i j : Fin 201), s (ix4 b c i j) = if j.val ≤ i.val then ((S b c i j : ℝ) : EReal) else ⊥)
    (b : Fin 4) (c : Fin 16) (i j : Fin 201) :
    Is0 (expV s (ix4 b c i j)) (if j.val ≤ i.val then Real.exp (S b c i j - top (S b c i) i) else 0) := by
  unfold expV
  have ht := rowTop s b c i
  rw [row_max i.isLt (fun j => h b c i j)] at ht
  generalize Host.reduce FloatOps.maximumf s _ _ _ = r at *
  rw [restTop, ht, max_eq_right bot_le]
  exact row_exp _ (h b c i j)

theorem weightV_is {e : FVec Ideal S4x16x201x201 .f32} {S : ℕ → ℕ → R2}
    (h : ∀ (b : Fin 4) (c : Fin 16) (i j : Fin 201), Is0 (e (ix4 b c i j)) (if j.val ≤ i.val then Real.exp (S b c i j - top (S b c i) i) else 0)) :
    Is4 (n := 4) (m := 16) (k := 201) (q := 201) (weightV e) (fun b c i j => weight (S b c i) i j) := by
  intro b c i j
  unfold weightV
  pointwise
  have hs := sum_fin _ (fun j => if j ≤ i.val then Real.exp (S b c i j - top (S b c i) i) else 0) (h b c i)
  rw [sum_le (f := fun j => Real.exp (S b c i j - top (S b c i) i)) i.isLt] at hs
  refine Eq.trans (Is0.div (h b c i j) hs (mass_pos _ _).ne') (congrArg _ ?_)
  unfold weight
  split
  · rfl
  · exact zero_div _

theorem headsV_is {w : FVec Ideal S4x16x201x201 .f32} {v : FVec Ideal S4x16x201x64 .f32} {Q : R3}
    (hw : Is4 (n := 4) (m := 16) (k := 201) (q := 201) w (fun b c i j => weight (score (Q b) c i) i j))
    (hv : Is4 (n := 4) (m := 16) (k := 201) (q := 64) v (fun b c i d => Q b i (2048 + (64 * c + d)))) :
    Is3 (n := 4) (m := 201) (k := 1024) (headsV w v) (fun b => heads (Q b)) := by
  intro b i j
  unfold headsV
  pointwise
  refine (sum_mul_fin _ _ (fun k => weight (score (Q b) (j.val / 64) i) i k) (fun k => Q b k (2048 + (64 * (j.val / 64) + j.val % 64)))
    (fun k => hw b ⟨j.val / 64, by omega⟩ i k) fun k => hv b ⟨j.val / 64, by omega⟩ k ⟨j.val % 64, by omega⟩).trans (congrArg _ ?_)
  rw [sum_weight i.isLt]
  unfold heads attend
  simp only [← Nat.add_assoc]

theorem midV_is {x y : FVec Ideal S4x201x1024 .f32} {X : E3} {Y : R3} {w : FVec Ideal S1024x1024 .f32} {W : R2} (hx : At3 (n := 4) (m := 201) (k := 1024) x X)
    (hy : Is3 (n := 4) (m := 201) (k := 1024) y Y) (hw : Is2 (n := 1024) (m := 1024) w W) :
    At3 (n := 4) (m := 201) (k := 1024) (midV x y w) (fun b i j => X b i j + ((mm 1024 (Y b) W i j : ℝ) : EReal)) := by
  intro b i j
  unfold midV
  pointwise
  exact congrArg₂ (· + ·) (hx b i j) (sum_mul_fin _ _ (fun k => Y b i k) (fun k => W k j) (fun k => hy b i k) fun k => hw k j)

theorem upV_is {x : FVec Ideal S4x201x1024 .f32} {X : E3} {w : FVec Ideal S1024x4096 .f32} {W : R2} (hx : At3 (n := 4) (m := 201) (k := 1024) x X)
    (hw : Is2 (n := 1024) (m := 4096) w W) : Is3 (n := 4) (m := 201) (k := 4096) (upV x w) (fun b => mm 1024 (norm (tame (X b))) W) := by
  intro b i j
  have h := normV_is hx
  unfold upV
  generalize normV x = y at *
  pointwise
  exact sum_mul_fin _ _ (fun k => norm (tame (X b)) i k) (fun k => W k j) (fun k => h b i k) fun k => hw k j

theorem geluV_is {y : FVec Ideal S4x201x4096 .f32} {Y : R3} (hy : Is3 (n := 4) (m := 201) (k := 4096) y Y) :
    Is3 (n := 4) (m := 201) (k := 4096) (geluV y) (fun b i j => gelu (Y b i j)) := by
  intro b i j
  unfold geluV
  pointwise
  have h := hy b i j
  generalize y (ix3 b i j) = t at *
  have := Is0.mul h (Is0.mul (lit_is 0x3F000000#32) (Is0.add one_is (Is0.tanh (Is0.mul (lit_is 0x3F4C422A#32) (Is0.add h (Is0.mul (lit_is 0x3D372713#32) (Is0.mul (Is0.mul h h) h)))))))
  rw [mul_assoc (Y b i j) (Y b i j)] at this
  exact this

theorem hiddenV_is {x : FVec Ideal S4x201x1024 .f32} {g : FVec Ideal S4x201x4096 .f32} {X : E3} {Y : R3} {w : FVec Ideal S4096x1024 .f32} {W : R2} (hx : At3 (n := 4) (m := 201) (k := 1024) x X)
    (hy : Is3 (n := 4) (m := 201) (k := 4096) g Y) (hw : Is2 (n := 4096) (m := 1024) w W) :
    At3 (n := 4) (m := 201) (k := 1024) (hiddenV x g w) (fun b i j => X b i j + ((mm 4096 (Y b) W i j : ℝ) : EReal)) := by
  intro b i j
  unfold hiddenV
  pointwise
  exact congrArg₂ (· + ·) (hx b i j) (sum_mul_fin _ _ (fun k => Y b i k) (fun k => W k j) (fun k => hy b i k) fun k => hw k j)

theorem logitV_is {x : FVec Ideal S4x201x1024 .f32} {X : E3} {w : FVec Ideal S1024x32000 .f32} {W : R2} (hx : At3 (n := 4) (m := 201) (k := 1024) x X)
    (hw : Is2 (n := 1024) (m := 32000) w W) : At3 (n := 4) (m := 201) (k := 32000) (logitV x w) (fun b => mmE 1024 (X b) (wide W)) := by
  intro b i j
  unfold logitV
  pointwise
  exact sum_mul_at _ _ (fun k => X b i k) (fun k => wide W k j) (fun k => hx b i k) fun k => hw k j

end Cert.ReferenceIdeal.Hand

end
-- ==== Proof.Value.RefLoss.lean ====
module

public import proofs.«01_k».proof.Proof.Value.RefNorm

/-!
# The reference's loss, over the reals
-/

@[expose] public section

set_option maxRecDepth 8192

noncomputable section

namespace Cert.ReferenceIdeal.Hand

open Cert.Real Cert.ReferenceIdeal Cert.ReferenceIdeal.Gen
open Idealize.ShloMosaic

/-- The last row of the logits, -/
abbrev lastV (l : FVec Ideal S4x201x32000 .f32) : FVec Ideal S4x32000 .f32 :=
  shapeCast _ (extractStridedSlice S4x1x32000 ![0, 200, 0] l slices_S4x201x32000_S4x1x32000_0_200_0) shapeCasts_S4x1x32000_S4x32000
/-- less a number for each image, -/
abbrev lessV (l : FVec Ideal S4x32000 .f32) (r : FVec Ideal S4 .f32) : FVec Ideal S4x32000 .f32 :=
  subf l (broadcastInDim S4x32000 ![0, 1] bcast_S4x1_S4x32000_0_1 (broadcastInDim S4x1 ![0] bcast_S4_S4x1_0 (maximumf (broadcastInDim S4 ![] bcast_S_S4 (constant S_ .f32 0xFF800000#32)) r)))
/-- its largest, -/
abbrev restV (l : FVec Ideal S4x32000 .f32) : FVec Ideal S4x32000 .f32 :=
  lessV l (Host.reduce FloatOps.maximumf l (constant S_ .f32 0xFF800000#32) reducesTo_S4x32000_S4_d1 h_S_)
/-- the logarithms of the probabilities, -/
abbrev logpV (d : FVec Ideal S4x32000 .f32) : FVec Ideal S4x32000 .f32 :=
  subf d (broadcastInDim S4x32000 ![0, 1] bcast_S4x1_S4x32000_0_1 (Host.log (broadcastInDim S4x1 ![0] bcast_S4_S4x1_0 (Host.reduceAdd (Host.exp d) (constant S_ .f32 0x00000000#32) reducesTo_S4x32000_S4_d1 h_S_))))
/-- the labels, a negative one counted from the end, -/
abbrev labelV (a : IVec S4 32) : IVec S4x1x1 32 :=
  shapeCast _ (select (cmpi .slt (broadcastInDim S4x1 ![0] bcast_S4_S4x1_0 a) (broadcastInDim S4x1 ![] bcast_S_S4x1 (constantI S_ 32 0#32))) (addi (broadcastInDim S4x1 ![0] bcast_S4_S4x1_0 a) (broadcastInDim S4x1 ![] bcast_S_S4x1 (constantI S_ 32 32000#32))) (broadcastInDim S4x1 ![0] bcast_S4_S4x1_0 a)) shapeCasts_S4x1_S4x1x1
/-- what is at them, -/
abbrev pickV (p : FVec Ideal S4x32000 .f32) (i : IVec S4x1x1 32) : FVec Ideal S4x1 .f32 :=
  select (Host.reduce IntOp.andi (andi (cmpi .sge i (broadcastInDim S4x1x1 ![] bcast_S_S4x1x1 (constantI S_ 32 0#32))) (cmpi .sle i (broadcastInDim S4x1x1 ![0, 1, 2] bcast_S1x1x1_S4x1x1_0_1_2 (broadcastInDim S1x1x1 ![2] bcast_S1_S1x1x1_2 (constantI S1 32 31999#32))))) (constantI S_ 1 1#1) reducesTo_S4x1x1_S4x1_d2 h_S_) (Host.gather gather_S4x32000_S4x1x1_S4x1_n_1_0_0_1_2_11 p i) (broadcastInDim S4x1 ![] bcast_S_S4x1 (constant S_ .f32 0x7FC00000#32))
/-- and less their mean. -/
abbrev lossV (g : FVec Ideal S4x1 .f32) : FVec Ideal S_ .f32 :=
  Host.negf (Host.divf (Host.reduceAdd g (constant S_ .f32 0x00000000#32) reducesTo_S4x1_S_d0_1 h_S_) (constant S_ .f32 0x40800000#32))

theorem lastV_is {l : FVec Ideal S4x201x32000 .f32} {L : E3} {T : R2} (h : At3 (n := 4) (m := 201) (k := 32000) l L)
    (hT : ∀ b v, L b 200 v = ((T b v : ℝ) : EReal)) : Is2 (n := 4) (m := 32000) (lastV l) T := by
  intro b v
  refine Eq.trans ?_ ((h b 200 v).trans (hT b v))
  unfold lastV
  pointwise

theorem largest (l : FVec Ideal S4x32000 .f32) (b : Fin 4) :
    Host.reduce FloatOps.maximumf l (constant S_ .f32 0xFF800000#32) reducesTo_S4x32000_S4_d1 h_S_ (ix1 b)
      = Finset.fold max (⊥ : EReal) (fun v : Fin 32000 => l (ix2 b v)) Finset.univ := by
  rw [← ofBits_neg_inf]
  pointwise

theorem lessV_apply (l : FVec Ideal S4x32000 .f32) (r : FVec Ideal S4 .f32) (b : Fin 4) (v : Fin 32000) :
    lessV l r (ix2 b v) = l (ix2 b v) - max (⊥ : EReal) (r (ix1 b)) := by
  rw [← ofBits_neg_inf]
  unfold lessV
  pointwise

theorem restV_is {l : FVec Ideal S4x32000 .f32} {L : R2} (h : Is2 (n := 4) (m := 32000) l L) :
    Is2 (n := 4) (m := 32000) (restV l) (fun b v => L b v - top (L b) 31999) := by
  intro b v
  unfold restV
  have ht := largest l b
  rw [row_max (S := L b) (i := 31999) (by omega) (fun j => by rw [if_pos (by omega)]; exact h b j)] at ht
  generalize Host.reduce FloatOps.maximumf l _ _ _ = r at *
  rw [lessV_apply, ht, max_eq_right bot_le]
  exact Is0.sub (h b v) rfl

theorem logpV_is {d : FVec Ideal S4x32000 .f32} {D : R2} (h : Is2 (n := 4) (m := 32000) d D) :
    Is2 (n := 4) (m := 32000) (logpV d) (fun b v => D b v - Real.log (∑ v ∈ Finset.range 32000, Real.exp (D b v))) := by
  intro b v
  unfold logpV
  pointwise
  exact Is0.sub (h b v) (Is0.log (sum_fin _ (fun v => Real.exp (D b v)) fun v => Is0.exp (h b v))
    (Finset.sum_pos (fun _ _ => Real.exp_pos _) ⟨0, by simp⟩))

theorem labelV_apply (a : IVec S4 32) (b : Fin 4) (y z : Fin 1) {n : ℕ} (h : a (ix1 b) = BitVec.ofNat 32 n) (hn : n < 32000) :
    labelV a (ix3 b y z) = BitVec.ofNat 32 n := by
  unfold labelV
  pointwise
  rw [h]
  exact fix_small (by omega) _

/-- What the labels' gather reads: for each image, the entry of its row at its label. -/
theorem gather_label (p : FVec Ideal S4x32000 .f32) (i : IVec S4x1x1 32) (b : Fin 4) (y : Fin 1) (v : Fin 32000)
    (h : i (ix3 b y 0) = BitVec.ofNat 32 v.val) :
    Host.gather gather_S4x32000_S4x1x1_S4x1_n_1_0_0_1_2_11 p i (ix2 b y) = p (ix2 b v) := by
  have hv := v.isLt
  unfold Host.gather
  refine congrArg p (funext fun a => Fin.ext ?_)
  show (gather_S4x32000_S4x1x1_S4x1_n_1_0_0_1_2_11).start (ix2 b y) i a + (gather_S4x32000_S4x1x1_S4x1_n_1_0_0_1_2_11).batchCoord (ix2 b y) a
      + (gather_S4x32000_S4x1x1_S4x1_n_1_0_0_1_2_11).offCoord (ix2 b y) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S4x32000_S4x1x1_S4x1_n_1_0_0_1_2_11).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S4x32000_S4x1x1_S4x1_n_1_0_0_1_2_11).startIndexMap from List.mem_singleton.mpr rfl)]
    have hsi : (gather_S4x32000_S4x1x1_S4x1_n_1_0_0_1_2_11).siIdx (ix2 b y) ⟨List.idxOf (1 : Fin 2) (gather_S4x32000_S4x1x1_S4x1_n_1_0_0_1_2_11).startIndexMap,
        List.idxOf_lt_length_iff.2 (List.mem_singleton.mpr rfl)⟩ = ix3 b y 0 := by
      funext x; refine Fin.ext ?_
      match x with
      | ⟨0, _⟩ => rfl
      | ⟨1, _⟩ => rfl
      | ⟨2, _⟩ => rfl
    rw [hsi, h]
    show min (BitVec.ofNat 32 v.val).toInt.toNat (32000 - 1) = v.val
    rw [WordCmp.toInt_ofNat_of_lt (by omega)]
    omega

theorem pickV_is {p : FVec Ideal S4x32000 .f32} {P : R2} (h : Is2 (n := 4) (m := 32000) p P) (i : IVec S4x1x1 32) (n : ℕ → ℕ)
    (hi : ∀ (b : Fin 4) (y z : Fin 1), i (ix3 b y z) = BitVec.ofNat 32 (n b)) (hlt : ∀ b, n b < 32000) :
    Is2 (n := 4) (m := 1) (pickV p i) (fun b _ => P b (n b)) := by
  intro b y
  unfold pickV
  pointwise
  rw [Finset.univ_unique, Finset.fold_singleton, hi,
    show IntOp.andi (IntOp.cmpi .sge (BitVec.ofNat 32 (n b)) 0#32) (IntOp.cmpi .sle (BitVec.ofNat 32 (n b)) 31999#32) = 1#1 from
      in_range (Nat.le_of_lt_succ (hlt b)) (by omega)]
  refine Eq.trans ?_ (h b ⟨n b, hlt b⟩)
  refine Eq.trans (WordCmp.select_of_eq_one (by decide) _ _) ?_
  exact gather_label p i b y ⟨n b, hlt b⟩ (hi b y 0)

theorem lossV_is {g : FVec Ideal S4x1 .f32} {g' : R1} (h : Is2 (n := 4) (m := 1) g (fun b _ => g' b)) (j : S_.Idx) :
    Is0 (lossV g j) (-((∑ b ∈ Finset.range 4, g' b) / 4)) := by
  unfold lossV
  pointwise
  have h4 : Is0 (Ideal.ofBits .f32 0x40800000#32) 4 := by rw [← lit_four]; exact lit_is _
  refine Is0.neg (Is0.div ?_ h4 (by norm_num))
  exact sum_fin _ g' fun b => (Fin.sum_univ_one _).trans (h b 0)

/-- The mean cross entropy, however a number is taken off each row first. -/
theorem loss_eq (G : Given) (t : ℕ → ℝ) :
    -((∑ b ∈ Finset.range 4, ((G.lastLogit b (G.label b) - t b) - Real.log (∑ v ∈ Finset.range 32000, Real.exp (G.lastLogit b v - t b)))) / 4) = G.loss := by
  unfold Given.loss
  rw [← neg_div, ← Finset.sum_neg_distrib]
  congr 1
  refine Finset.sum_congr rfl fun b _ => ?_
  have e : ∑ v ∈ Finset.range 32000, Real.exp (G.lastLogit b v - t b) = (∑ v ∈ Finset.range 32000, Real.exp (G.lastLogit b v)) * Real.exp (-t b) := by
    rw [Finset.sum_mul]
    exact Finset.sum_congr rfl fun v _ => by rw [← Real.exp_add, sub_eq_add_neg]
  have hp : 0 < ∑ v ∈ Finset.range 32000, Real.exp (G.lastLogit b v) := Finset.sum_pos (fun _ _ => Real.exp_pos _) ⟨0, by simp⟩
  rw [e, Real.log_mul hp.ne' (Real.exp_ne_zero _), Real.log_exp]
  ring

end Cert.ReferenceIdeal.Hand

end
-- ==== Proof.Value.RefValue.lean ====
module

public import proofs.«01_k».proof.Proof.Value.RefRows
public import proofs.«01_k».proof.Proof.Value.RefBlock
public import proofs.«01_k».proof.Proof.Value.RefLoss

/-!
# The reference's results, over the reals
-/

@[expose] public section

set_option maxRecDepth 8192

noncomputable section

namespace Cert.ReferenceIdeal.Hand

open Cert.Real Cert.ReferenceIdeal Cert.ReferenceIdeal.Gen Cert.ReferenceIdeal.Value
open Idealize.ShloMosaic Idealize.ShloMosaic.TcCoe Idealize.ShloMosaic.StableHlo

variable (V0 : Valuation τ sig (Elt Ideal)) {G : Given}

/-- The arguments in the valuation are the numbers `G`. -/
abbrev argsIn (G : Given) : Prop :=
  G.In (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10))

theorem v27_eq : res_main_v27 V0 = joinV (rowV 32000 slices_S32002x1024_S1x1024_32000_0 (V0 (Proc.devRef .tc main_arg4)))
    (visualV (patchV (imgNormV (V0 (Proc.devRef .tc main_arg0)))) (V0 (Proc.devRef .tc main_arg2)) (V0 (Proc.devRef .tc main_arg3)))
    (rowV 32001 slices_S32002x1024_S1x1024_32001_0 (V0 (Proc.devRef .tc main_arg4)))
    (promptV (takenV (V0 (Proc.devRef .tc main_arg4)) (idsV (V0 (Proc.devRef .tc main_arg10))))) := rfl
theorem v40_eq : res_main_v40 V0 = qkvV (res_main_v27 V0) (V0 (Proc.devRef .tc main_arg5)) := rfl
theorem v57_eq : res_main_v57 V0 = scoreV (res_main_v40 V0) := rfl
theorem v64_eq : res_main_v64 V0 = expV (res_main_v57 V0) := rfl
theorem v73_eq : res_main_v73 V0 = midV (res_main_v27 V0) (headsV (weightV (res_main_v64 V0)) (byHead 2048 slices_S4x201x3072_S4x201x1024_0_0_2048 (res_main_v40 V0)))
    (V0 (Proc.devRef .tc main_arg6)) := rfl
theorem v86_eq : res_main_v86 V0 = upV (res_main_v73 V0) (V0 (Proc.devRef .tc main_arg7)) := rfl
/-- The logits. -/
abbrev logits : FVec Ideal S4x201x32000 .f32 :=
  logitV (hiddenV (res_main_v73 V0) (geluV (res_main_v86 V0)) (V0 (Proc.devRef .tc main_arg8))) (V0 (Proc.devRef .tc main_arg9))
theorem v104_eq : res_main_v104 V0 = lastV (logits V0) := rfl
theorem call6_eq : res_main_call6_v5 V0 = restV (res_main_v104 V0) := rfl
theorem call7_eq : res_main_call7_v5 V0 = labelV (V0 (Proc.devRef .tc main_arg1)) := rfl
/-- The loss. -/
abbrev theLoss : FVec Ideal S_ .f32 := lossV (pickV (logpV (res_main_call6_v5 V0)) (res_main_call7_v5 V0))

variable (h : argsIn V0 G)
include h

theorem v27_is : At3 (n := 4) (m := 201) (k := 1024) (res_main_v27 V0) G.rows := by
  rw [v27_eq]
  have hT := h.table
  have hlt : ∀ k, G.prompt k < 32002 := fun k => by have := h.prompt_lt k; omega
  refine joinV_is (E := G.words) (V := fun b => visual G.wPatch G.wTok (G.pix b)) (rowV_is hT 32000 _ (by decide))
    (visualV_is (patchV_is h.image) h.wPatch h.wTok) (rowV_is hT 32001 _ (by decide)) ?_
  refine fun b k j => (promptV_is (takenV_is hT _ G.prompt (fun k x => idsV_apply _ k x (h.prompt k) (hlt k)) hlt) b k j).trans (congrArg _ ?_)
  have hk := k.isLt
  unfold Given.words Given.token
  beta_reduce
  rw [if_neg (by omega), if_neg (by omega), if_pos (by omega), show 2 + k.val - 2 = k.val by omega]

theorem v40_is : Is3 (n := 4) (m := 201) (k := 3072) (res_main_v40 V0) (fun b => qkv G.wQkv (G.rows b)) := by
  rw [v40_eq]; exact qkvV_is (v27_is V0 h) h.wQkv

theorem v73_is : At3 (n := 4) (m := 201) (k := 1024) (res_main_v73 V0) (fun b => mid G.wQkv G.wO (G.rows b)) := by
  have h40 := v40_is V0 h
  rw [v73_eq, v64_eq, v57_eq]
  refine midV_is (v27_is V0 h) (Y := fun b => heads (qkv G.wQkv (G.rows b))) ?_ h.wO
  generalize res_main_v40 V0 = q at *
  refine headsV_is (Q := fun b => qkv G.wQkv (G.rows b)) ?_ (byHead_is h40 2048 _ (by decide))
  have hs := scoreV_is h40
  generalize scoreV q = s at *
  have he := expV_is (S := fun b c => score (qkv G.wQkv (G.rows b)) c) hs
  generalize expV s = e at *
  exact weightV_is (S := fun b c => score (qkv G.wQkv (G.rows b)) c) he

theorem logits_is : At3 (n := 4) (m := 201) (k := 32000) (logits V0) G.logit := by
  have h73 := v73_is V0 h
  unfold logits
  rw [v86_eq]
  generalize res_main_v73 V0 = x at *
  exact logitV_is (X := G.hidden) (hiddenV_is h73 (geluV_is (upV_is h73 h.w1)) h.w2) h.wHead

theorem theLoss_is (j : S_.Idx) : theLoss V0 j = ((G.loss : ℝ) : EReal) := by
  have hl := logits_is V0 h
  have hn := h.label
  unfold theLoss
  rw [call7_eq, call6_eq, v104_eq]
  generalize logits V0 = l at *
  have hr := restV_is (lastV_is hl G.lastLogit_eq)
  generalize restV (lastV l) = d at *
  have hp := logpV_is hr
  generalize logpV d = p at *
  rw [← loss_eq G fun b => top (G.lastLogit b) 31999]
  exact lossV_is (pickV_is hp _ G.label (fun b y z => labelV_apply _ b y z (hn b) (h.label_lt b)) h.label_lt) j

end Cert.ReferenceIdeal.Hand

end
-- ==== Proof.Value.Pre.lean ====
module

public import proofs.«01_k».proof.Pre_inputs_ok
public import proofs.«01_k».proof.Proof.Value.Args
public import Idealize.ShloMosaic.Lib.ReduceAll
public import Idealize.ShloMosaic.Lib.Affine

/-!
# What the precondition gives

The table, the block's weights and the head's are real, every label and every token of the prompt is below 32000. Of the
images and of the two weights before the block nothing is asked.
-/

@[expose] public section

set_option maxRecDepth 8192

noncomputable section

namespace Cert.Real

open Cert.Pre_inputs_ok
open Idealize.ShloMosaic

theorem and_one {s : Shape} {x y : IVec s 1} {j : s.Idx} (h : andi x y j = 1#1) : x j = 1#1 ∧ y j = 1#1 := IntOp.andi_eq_one.mp h

theorem ofBits_top : Ideal.ofBits .f32 0x7F800000#32 = ⊤ := by simp [Ideal.ofBits, Ideal.ieee]

/-- A number whose absolute value is below infinity is real. -/
theorem real_of_lt {x : EReal} (h : Ideal.cmp .olt (max x (-x)) (Ideal.ofBits .f32 0x7F800000#32) = 1#1) : x = ((x.toReal : ℝ) : EReal) := by
  rw [ofBits_top] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  obtain ⟨h1, h2⟩ := max_lt_iff.mp h'
  refine (EReal.coe_toReal h1.ne ?_).symm
  rintro rfl
  exact absurd h2 (by simp)

/-- A word that is at least zero and below `n`, as signed numbers, is so as a natural number. -/
theorem lt_of_ranges {n : ℕ} {x : BitVec 32} (hn : n < 2 ^ 31) (h : IntOp.andi (IntOp.cmpi .sge x 0#32) (IntOp.cmpi .slt x (BitVec.ofNat 32 n)) = 1#1) :
    x.toNat < n := by
  obtain ⟨h1, h2⟩ := IntOp.andi_eq_one.mp h
  have h1' : BitVec.ofBool ((0#32).sle x) = 1#1 := h1
  have h2' : BitVec.ofBool (x.slt (BitVec.ofNat 32 n)) = 1#1 := h2
  rw [BitVec.sle_eq_decide] at h1'
  rw [BitVec.slt_eq_decide, WordCmp.toInt_ofNat_of_lt (by omega)] at h2'
  have a1 : (0#32).toInt ≤ x.toInt := by
    by_contra hh; rw [decide_eq_false hh] at h1'; exact absurd h1' (by decide)
  have a2 : x.toInt < (n : ℤ) := by
    by_contra hh; rw [decide_eq_false hh] at h2'; exact absurd h2' (by decide)
  have a3 : (0 : ℤ) ≤ x.toInt := a1
  have hx := BitVec.toInt_eq_toNat_cond x
  have := x.isLt
  split at hx <;> omega

theorem mod_self {n : ℕ} (i : Fin n) (h : 0 < n) : (⟨i.val % n, Nat.mod_lt _ h⟩ : Fin n) = i := Fin.ext (Nat.mod_eq_of_lt i.isLt)

section args
variable (a0 : FVec Ideal ⟨4, ![4, 3, 224, 224]⟩ .f32) (a1 : IVec ⟨1, ![4]⟩ 32) (a2 : FVec Ideal ⟨2, ![768, 768]⟩ .f32)
    (a3 : FVec Ideal ⟨2, ![768, 1024]⟩ .f32) (a4 : FVec Ideal ⟨2, ![32002, 1024]⟩ .f32) (a5 : FVec Ideal ⟨2, ![1024, 3072]⟩ .f32)
    (a6 : FVec Ideal ⟨2, ![1024, 1024]⟩ .f32) (a7 : FVec Ideal ⟨2, ![1024, 4096]⟩ .f32) (a8 : FVec Ideal ⟨2, ![4096, 1024]⟩ .f32)
    (a9 : FVec Ideal ⟨2, ![1024, 32000]⟩ .f32) (a10 : IVec ⟨1, ![3]⟩ 32)

/-- The reals of a matrix, its rows and columns counted around. -/
def reals {n m : ℕ} (hn : 0 < n) (hm : 0 < m) (v : (⟨2, ![n, m]⟩ : Shape).Idx → EReal) : R2 :=
  fun i j => (v (ix2 ⟨i % n, Nat.mod_lt _ hn⟩ ⟨j % m, Nat.mod_lt _ hm⟩)).toReal

theorem reals_is {n m : ℕ} (hn : 0 < n) (hm : 0 < m) {v : (⟨2, ![n, m]⟩ : Shape).Idx → EReal} (h : ∀ x, v x = (((v x).toReal : ℝ) : EReal)) :
    Is2 v (reals hn hm v) := by
  intro i j
  unfold reals
  rw [mod_self i hn, mod_self j hm]
  exact h _

/-- The entries of a matrix, its rows and columns counted around. -/
def entries {n m : ℕ} (hn : 0 < n) (hm : 0 < m) (v : (⟨2, ![n, m]⟩ : Shape).Idx → EReal) : E2 :=
  fun i j => v (ix2 ⟨i % n, Nat.mod_lt _ hn⟩ ⟨j % m, Nat.mod_lt _ hm⟩)

theorem entries_is {n m : ℕ} (hn : 0 < n) (hm : 0 < m) (v : (⟨2, ![n, m]⟩ : Shape).Idx → EReal) : At2 v (entries hn hm v) := by
  intro i j
  unfold entries
  rw [mod_self i hn, mod_self j hm]

open scoped Classical in
/-- The points of a channel as reals, zeros if one of them is infinite. -/
def points (f : Fin 224 → Fin 224 → EReal) : R2 := fun y x =>
  if ∃ y x, Inf (f y x) then 0 else (f ⟨y % 224, Nat.mod_lt _ (by decide)⟩ ⟨x % 224, Nat.mod_lt _ (by decide)⟩).toReal

theorem points_is (f : Fin 224 → Fin 224 → EReal) : Chan f (points f) := by
  by_cases h : ∃ y x, Inf (f y x)
  · exact Or.inr ⟨h, fun _ _ _ _ => by unfold points; rw [if_pos h]⟩
  · refine Or.inl fun y x => ?_
    unfold points
    rw [if_neg h, mod_self y (by decide), mod_self x (by decide)]
    exact real_of_not_inf fun e => h ⟨y, x, e⟩

/-- The numbers the arguments hold. -/
def given : Given where
  image := fun b c => points fun y x => a0 (ix4 ⟨b % 4, Nat.mod_lt _ (by decide)⟩ ⟨c % 3, Nat.mod_lt _ (by decide)⟩ y x)
  label := fun b => (a1 (ix1 ⟨b % 4, Nat.mod_lt _ (by decide)⟩)).toNat
  wPatch := entries (by decide) (by decide) a2
  wTok := entries (by decide) (by decide) a3
  table := reals (by decide) (by decide) a4
  wQkv := reals (by decide) (by decide) a5
  wO := reals (by decide) (by decide) a6
  w1 := reals (by decide) (by decide) a7
  w2 := reals (by decide) (by decide) a8
  wHead := reals (by decide) (by decide) a9
  prompt := fun k => (a10 (ix1 ⟨k % 3, Nat.mod_lt _ (by decide)⟩)).toNat

/-- A test that every entry's absolute value is below infinity says that every entry is real. -/
theorem real_of_all {s : Shape} {axes : List (Fin s.rank)} (v : FVec Ideal s .f32) (hb : S_.BroadcastsInDim s ![]) (hr : s.ReducesTo axes S_) (hu : 0 < S_.numel)
    (h : Host.reduce IntOp.andi (cmpf .olt (Host.absf v) (broadcastInDim s ![] hb (constant S_ .f32 0x7F800000#32))) (constantI S_ 1 1#1) hr hu ix0 = 1#1)
    (x : s.Idx) : v x = (((v x).toReal : ℝ) : EReal) := by
  haveI : Subsingleton S_.Idx := ⟨fun a b => funext fun z => z.elim0⟩
  exact real_of_lt (Host.reduce_andi_all _ _ hr hu ix0 h x)

theorem range_of_all {s : Shape} {axes : List (Fin s.rank)} (v : IVec s 32) (hb : S_.BroadcastsInDim s ![]) (hr : s.ReducesTo axes S_) (hu : 0 < S_.numel)
    (h : Host.reduce IntOp.andi (andi (cmpi .sge v (broadcastInDim s ![] hb (constantI S_ 32 0#32))) (cmpi .slt v (broadcastInDim s ![] hb (constantI S_ 32 32000#32)))) (constantI S_ 1 1#1) hr hu ix0 = 1#1)
    (x : s.Idx) : (v x).toNat < 32000 := by
  haveI : Subsingleton S_.Idx := ⟨fun a b => funext fun z => z.elim0⟩
  exact lt_of_ranges (by decide) (Host.reduce_andi_all _ _ hr hu ix0 h x)

theorem given_in [Cert.Pre_inputs_ok.Facts] (h : Cert.Pre_inputs_ok.fn (F := Ideal) a0 a1 a2 a3 a4 a5 a6 a7 a8 a9 a10 = fun _ => 1#1) :
    (given a0 a1 a2 a3 a4 a5 a6 a7 a8 a9 a10).In a0 a1 a2 a3 a4 a5 a6 a7 a8 a9 a10 := by
  have h := congrFun h ix0
  unfold fn fn_part1 fn_part2 at h
  dsimp only at h
  have h10 := (and_one h).2
  replace h := (and_one h).1
  have h9 := (and_one h).2
  replace h := (and_one h).1
  have h8 := (and_one h).2
  replace h := (and_one h).1
  have h7 := (and_one h).2
  replace h := (and_one h).1
  have h6 := (and_one h).2
  replace h := (and_one h).1
  have h5 := (and_one h).2
  replace h := (and_one h).1
  have h4 := (and_one h).2
  have h1 := (and_one h).1
  clear h
  have l1 := range_of_all a1 _ _ _ h1
  have l10 := range_of_all a10 _ _ _ h10
  have r4 := real_of_all a4 _ _ _ h4
  have r5 := real_of_all a5 _ _ _ h5
  have r6 := real_of_all a6 _ _ _ h6
  have r7 := real_of_all a7 _ _ _ h7
  have r8 := real_of_all a8 _ _ _ h8
  have r9 := real_of_all a9 _ _ _ h9
  clear h1 h4 h5 h6 h7 h8 h9 h10
  constructor
  case label_lt => exact fun b => l1 _
  case prompt_lt => exact fun k => l10 _
  case wPatch => exact entries_is (by decide) (by decide) a2
  case wTok => exact entries_is (by decide) (by decide) a3
  case table => exact reals_is (by decide) (by decide) r4
  case wQkv => exact reals_is (by decide) (by decide) r5
  case wO => exact reals_is (by decide) (by decide) r6
  case w1 => exact reals_is (by decide) (by decide) r7
  case w2 => exact reals_is (by decide) (by decide) r8
  case wHead => exact reals_is (by decide) (by decide) r9
  · intro b c
    have e := points_is fun y x => a0 (ix4 b c y x)
    show Chan _ (points fun y x => a0 (ix4 ⟨b.val % 4, _⟩ ⟨c.val % 3, _⟩ y x))
    rw [mod_self b (by decide), mod_self c (by decide)]
    exact e
  · intro b
    show _ = BitVec.ofNat 32 (a1 (ix1 _)).toNat
    rw [mod_self b (by decide), BitVec.ofNat_toNat, BitVec.setWidth_eq]
  · intro k
    show _ = BitVec.ofNat 32 (a10 (ix1 _)).toNat
    rw [mod_self k (by decide), BitVec.ofNat_toNat, BitVec.setWidth_eq]

end args

end Cert.Real

end
-- ==== Proof.Value.Algebraic.lean ====
module

public import proofs.«01_k».proof.Proof.Frames
public import proofs.«01_k».proof.Proof.Value.HeadArrays
public import proofs.«01_k».proof.Proof.Value.RefValue
public import proofs.«01_k».proof.Proof.Value.Pre

/-!
# The ideal kernel and the ideal reference agree on the logits and on the loss
-/

@[expose] public section

set_option maxRecDepth 8192

noncomputable section

namespace Cert.Hand

open Cert.Real
open Idealize.ShloMosaic Idealize.SL.Sem

/-- Two arrays that hold the same numbers are one. -/
theorem same3 {n m k : ℕ} {v w : (⟨3, ![n, m, k]⟩ : Shape).Idx → EReal} {X : E3} (hv : ∀ b i j, v (ix3 b i j) = X b i j)
    (hw : At3 w X) : w = v := by
  funext x
  rw [eq_ix3 x]
  exact (hw _ _ _).trans (hv _ _ _).symm

/-- Equal arrays hold the same numbers. -/
theorem in_congr {G : Given} {a0 b0 : FVec Ideal ⟨4, ![4, 3, 224, 224]⟩ .f32} {a1 b1 : IVec ⟨1, ![4]⟩ 32} {a2 b2 : FVec Ideal ⟨2, ![768, 768]⟩ .f32}
    {a3 b3 : FVec Ideal ⟨2, ![768, 1024]⟩ .f32} {a4 b4 : FVec Ideal ⟨2, ![32002, 1024]⟩ .f32} {a5 b5 : FVec Ideal ⟨2, ![1024, 3072]⟩ .f32}
    {a6 b6 : FVec Ideal ⟨2, ![1024, 1024]⟩ .f32} {a7 b7 : FVec Ideal ⟨2, ![1024, 4096]⟩ .f32} {a8 b8 : FVec Ideal ⟨2, ![4096, 1024]⟩ .f32}
    {a9 b9 : FVec Ideal ⟨2, ![1024, 32000]⟩ .f32} {a10 b10 : IVec ⟨1, ![3]⟩ 32} (h : G.In a0 a1 a2 a3 a4 a5 a6 a7 a8 a9 a10)
    (e : b0 = a0 ∧ b1 = a1 ∧ b2 = a2 ∧ b3 = a3 ∧ b4 = a4 ∧ b5 = a5 ∧ b6 = a6 ∧ b7 = a7 ∧ b8 = a8 ∧ b9 = a9 ∧ b10 = a10) :
    G.In b0 b1 b2 b3 b4 b5 b6 b7 b8 b9 b10 := by
  obtain ⟨rfl, rfl, rfl, rfl, rfl, rfl, rfl, rfl, rfl, rfl, rfl⟩ := e
  exact h

theorem algebraic : Cert.algebraic_KernelIdeal_ReferenceIdeal_pre_inputs_ok := by
  intro m g m' g' hpre hag
  refine ⟨fun c => Cert.KernelIdeal.Hand.W3 m c (Proc.devRef .tc Cert.KernelIdeal.main_v8_0), fun c => Cert.KernelIdeal.Hand.W3 m c (Proc.devRef .tc Cert.KernelIdeal.main_v9), ?_, ?_⟩
  · refine (θ_run Cert.KernelIdeal.defs _ _).mono (fun r h c => ?_) (Cert.KernelIdeal.Hand.run_all m g)
    exact ⟨h.1 c _ (Cert.KernelIdeal.Hand.mem_uc Cert.KernelIdeal.main_v8_0 rfl), h.1 c _ (Cert.KernelIdeal.Hand.mem_uc Cert.KernelIdeal.main_v9 rfl),
      (h.1 c _ (Cert.KernelIdeal.Hand.mem_uc Cert.KernelIdeal.main_arg0 rfl)).trans (Cert.KernelIdeal.Hand.W3_arg0 m c),
      (h.1 c _ (Cert.KernelIdeal.Hand.mem_uc Cert.KernelIdeal.main_arg1 rfl)).trans (Cert.KernelIdeal.Hand.W3_arg1 m c),
      (h.1 c _ (Cert.KernelIdeal.Hand.mem_uc Cert.KernelIdeal.main_arg2 rfl)).trans (Cert.KernelIdeal.Hand.W3_arg2 m c),
      (h.1 c _ (Cert.KernelIdeal.Hand.mem_uc Cert.KernelIdeal.main_arg3 rfl)).trans (Cert.KernelIdeal.Hand.W3_arg3 m c),
      (h.1 c _ (Cert.KernelIdeal.Hand.mem_uc Cert.KernelIdeal.main_arg4 rfl)).trans (Cert.KernelIdeal.Hand.W3_arg4 m c),
      (h.1 c _ (Cert.KernelIdeal.Hand.mem_uc Cert.KernelIdeal.main_arg5 rfl)).trans (Cert.KernelIdeal.Hand.W3_arg5 m c),
      (h.1 c _ (Cert.KernelIdeal.Hand.mem_uc Cert.KernelIdeal.main_arg6 rfl)).trans (Cert.KernelIdeal.Hand.W3_arg6 m c),
      (h.1 c _ (Cert.KernelIdeal.Hand.mem_uc Cert.KernelIdeal.main_arg7 rfl)).trans (Cert.KernelIdeal.Hand.W3_arg7 m c),
      (h.1 c _ (Cert.KernelIdeal.Hand.mem_uc Cert.KernelIdeal.main_arg8 rfl)).trans (Cert.KernelIdeal.Hand.W3_arg8 m c),
      (h.1 c _ (Cert.KernelIdeal.Hand.mem_uc Cert.KernelIdeal.main_arg9 rfl)).trans (Cert.KernelIdeal.Hand.W3_arg9 m c),
      (h.1 c _ (Cert.KernelIdeal.Hand.mem_uc Cert.KernelIdeal.main_arg10 rfl)).trans (Cert.KernelIdeal.Hand.W3_arg10 m c)⟩
  · refine (θ_run Cert.ReferenceIdeal.defs _ _).mono (fun r h c => ?_) (Cert.ReferenceIdeal.Value.run (F := Ideal) m' g')
    obtain ⟨e1, e2, e3⟩ := h c
    obtain ⟨G, hK⟩ : ∃ G, Cert.KernelIdeal.Hand.argsIn m c G := ⟨_, given_in _ _ _ _ _ _ _ _ _ _ _ (hpre c)⟩
    have hR : Cert.ReferenceIdeal.Hand.argsIn (StableHlo.launchContents m' c) G := in_congr hK (hag c)
    refine ⟨e1.trans ?_, e2.trans ?_, e3⟩
    · exact same3 (Cert.KernelIdeal.Hand.W3_logits m c hK) (Cert.ReferenceIdeal.Hand.logits_is _ hR)
    · funext x
      exact (Cert.ReferenceIdeal.Hand.theLoss_is _ hR x).trans (Cert.KernelIdeal.Hand.W3_loss m c hK x).symm

end Cert.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Hand.preFacts,
    Cert.Hand.frame_p, Cert.Hand.frame_pi, Cert.Hand.frame_pi_pre, Cert.Hand.frame_ri, Cert.Hand.frame_ri_pre,
    Cert.Hand.preserves, Cert.Hand.algebraic⟩

end Cert.Proof

end
